-- ==== Defs.lean ====
def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemIdeal_recall_finite [hPre_recall_finite : Cert.Pre_recall_finite.Facts] (m : (ℓ : Loc Cert.MemIdeal.nD Cert.MemIdeal.τ Cert.MemIdeal.sig) → Buf (Elt Ideal) ℓ) : Prop :=
  ∀ c : Dev Cert.MemIdeal.nD,
    (Cert.Pre_recall_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1))).1 = (fun _ => 1#1)
    ∧ (Cert.Pre_recall_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1))).2 = (fun _ => 1#1)

def Pre_XMemIdeal (m : (ℓ : Loc Cert.XMemIdeal.nD Cert.XMemIdeal.τ Cert.XMemIdeal.sig) → Buf (Elt Ideal) ℓ) : Prop :=
  True

def Pre_XMemIdeal_recall_finite [hPre_recall_finite : Cert.Pre_recall_finite.Facts] (m : (ℓ : Loc Cert.XMemIdeal.nD Cert.XMemIdeal.τ Cert.XMemIdeal.sig) → Buf (Elt Ideal) ℓ) : Prop :=
  ∀ c : Dev Cert.XMemIdeal.nD,
    (Cert.Pre_recall_finite.fn (F := Ideal) (m ((c.tc : Thread Cert.XMemIdeal.nD Cert.XMemIdeal.τ).loc Cert.XMemIdeal.main_arg0)) (m ((c.tc : Thread Cert.XMemIdeal.nD Cert.XMemIdeal.τ).loc Cert.XMemIdeal.main_arg1))).1 = (fun _ => 1#1)
    ∧ (Cert.Pre_recall_finite.fn (F := Ideal) (m ((c.tc : Thread Cert.XMemIdeal.nD Cert.XMemIdeal.τ).loc Cert.XMemIdeal.main_arg0)) (m ((c.tc : Thread Cert.XMemIdeal.nD Cert.XMemIdeal.τ).loc Cert.XMemIdeal.main_arg1))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_XProjIdeal (m : (ℓ : Loc Cert.XProjIdeal.nD Cert.XProjIdeal.τ Cert.XProjIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_XKvIdeal (m : (ℓ : Loc Cert.XKvIdeal.nD Cert.XKvIdeal.τ Cert.XKvIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_XMergeIdeal (m : (ℓ : Loc Cert.XMergeIdeal.nD Cert.XMergeIdeal.τ Cert.XMergeIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_XHgrnIdeal (m : (ℓ : Loc Cert.XHgrnIdeal.nD Cert.XHgrnIdeal.τ Cert.XHgrnIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_XPrepIdeal (m : (ℓ : Loc Cert.XPrepIdeal.nD Cert.XPrepIdeal.τ Cert.XPrepIdeal.sig) → Buf (Elt Ideal) ℓ) : Prop :=
  True

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ r.2.sem = fun _ => 0)

def quiescent_MemIdeal_pre_recall_finite [hMemIdeal : Cert.MemIdeal.Facts] [hPre_recall_finite : Cert.Pre_recall_finite.Facts] : Prop :=
  ∀ (m : (ℓ : Loc Cert.MemIdeal.nD Cert.MemIdeal.τ Cert.MemIdeal.sig) → Buf (Elt Ideal) ℓ) (g : Dev Cert.MemIdeal.nD → PrngReg), Pre_MemIdeal_recall_finite m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ r.2.sem = fun _ => 0)

def quiescent_XMemIdeal [hXMemIdeal : Cert.XMemIdeal.Facts] : Prop :=
  ∀ (m : (ℓ : Loc Cert.XMemIdeal.nD Cert.XMemIdeal.τ Cert.XMemIdeal.sig) → Buf (Elt Ideal) ℓ) (g : Dev Cert.XMemIdeal.nD → PrngReg), Pre_XMemIdeal m →
    θ_run (Cert.XMemIdeal.defs (F := Ideal)) (onTc (τ := Cert.XMemIdeal.τ) (Cert.XMemIdeal.main (F := Ideal))) ⟨m, fun _ => 0, g⟩ (fun r => (∀ c : Dev Cert.XMemIdeal.nD,
      r.2.mem ((c.tc : Thread Cert.XMemIdeal.nD Cert.XMemIdeal.τ).loc Cert.XMemIdeal.main_arg0) = m ((c.tc : Thread Cert.XMemIdeal.nD Cert.XMemIdeal.τ).loc Cert.XMemIdeal.main_arg0)
      ∧ r.2.mem ((c.tc : Thread Cert.XMemIdeal.nD Cert.XMemIdeal.τ).loc Cert.XMemIdeal.main_arg1) = m ((c.tc : Thread Cert.XMemIdeal.nD Cert.XMemIdeal.τ).loc Cert.XMemIdeal.main_arg1))
      ∧ r.2.sem = fun _ => 0)

def quiescent_XMemIdeal_pre_recall_finite [hXMemIdeal : Cert.XMemIdeal.Facts] [hPre_recall_finite : Cert.Pre_recall_finite.Facts] : Prop :=
  ∀ (m : (ℓ : Loc Cert.XMemIdeal.nD Cert.XMemIdeal.τ Cert.XMemIdeal.sig) → Buf (Elt Ideal) ℓ) (g : Dev Cert.XMemIdeal.nD → PrngReg), Pre_XMemIdeal_recall_finite m →
    θ_run (Cert.XMemIdeal.defs (F := Ideal)) (onTc (τ := Cert.XMemIdeal.τ) (Cert.XMemIdeal.main (F := Ideal))) ⟨m, fun _ => 0, g⟩ (fun r => (∀ c : Dev Cert.XMemIdeal.nD,
      r.2.mem ((c.tc : Thread Cert.XMemIdeal.nD Cert.XMemIdeal.τ).loc Cert.XMemIdeal.main_arg0) = m ((c.tc : Thread Cert.XMemIdeal.nD Cert.XMemIdeal.τ).loc Cert.XMemIdeal.main_arg0)
      ∧ r.2.mem ((c.tc : Thread Cert.XMemIdeal.nD Cert.XMemIdeal.τ).loc Cert.XMemIdeal.main_arg1) = m ((c.tc : Thread Cert.XMemIdeal.nD Cert.XMemIdeal.τ).loc Cert.XMemIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_XProjIdeal [hXProjIdeal : Cert.XProjIdeal.Facts] : Prop :=
  ∀ (m : (ℓ : Loc Cert.XProjIdeal.nD Cert.XProjIdeal.τ Cert.XProjIdeal.sig) → Buf (Elt Ideal) ℓ) (g : Dev Cert.XProjIdeal.nD → PrngReg), Pre_XProjIdeal m →
    θ_run (Cert.XProjIdeal.defs (F := Ideal)) (onTc (τ := Cert.XProjIdeal.τ) (Cert.XProjIdeal.main (F := Ideal))) ⟨m, fun _ => 0, g⟩ (fun r => (∀ c : Dev Cert.XProjIdeal.nD,
      r.2.mem ((c.tc : Thread Cert.XProjIdeal.nD Cert.XProjIdeal.τ).loc Cert.XProjIdeal.main_arg0) = m ((c.tc : Thread Cert.XProjIdeal.nD Cert.XProjIdeal.τ).loc Cert.XProjIdeal.main_arg0)
      ∧ r.2.mem ((c.tc : Thread Cert.XProjIdeal.nD Cert.XProjIdeal.τ).loc Cert.XProjIdeal.main_arg1) = m ((c.tc : Thread Cert.XProjIdeal.nD Cert.XProjIdeal.τ).loc Cert.XProjIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_XKvIdeal [hXKvIdeal : Cert.XKvIdeal.Facts] : Prop :=
  ∀ (m : (ℓ : Loc Cert.XKvIdeal.nD Cert.XKvIdeal.τ Cert.XKvIdeal.sig) → Buf (Elt Ideal) ℓ) (g : Dev Cert.XKvIdeal.nD → PrngReg), Pre_XKvIdeal m →
    θ_run (Cert.XKvIdeal.defs (F := Ideal)) (onTc (τ := Cert.XKvIdeal.τ) (Cert.XKvIdeal.main (F := Ideal))) ⟨m, fun _ => 0, g⟩ (fun r => (∀ c : Dev Cert.XKvIdeal.nD,
      r.2.mem ((c.tc : Thread Cert.XKvIdeal.nD Cert.XKvIdeal.τ).loc Cert.XKvIdeal.main_arg0) = m ((c.tc : Thread Cert.XKvIdeal.nD Cert.XKvIdeal.τ).loc Cert.XKvIdeal.main_arg0)
      ∧ r.2.mem ((c.tc : Thread Cert.XKvIdeal.nD Cert.XKvIdeal.τ).loc Cert.XKvIdeal.main_arg1) = m ((c.tc : Thread Cert.XKvIdeal.nD Cert.XKvIdeal.τ).loc Cert.XKvIdeal.main_arg1)
      ∧ r.2.mem ((c.tc : Thread Cert.XKvIdeal.nD Cert.XKvIdeal.τ).loc Cert.XKvIdeal.main_arg2) = m ((c.tc : Thread Cert.XKvIdeal.nD Cert.XKvIdeal.τ).loc Cert.XKvIdeal.main_arg2)
      ∧ r.2.mem ((c.tc : Thread Cert.XKvIdeal.nD Cert.XKvIdeal.τ).loc Cert.XKvIdeal.main_arg3) = m ((c.tc : Thread Cert.XKvIdeal.nD Cert.XKvIdeal.τ).loc Cert.XKvIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_XMergeIdeal [hXMergeIdeal : Cert.XMergeIdeal.Facts] : Prop :=
  ∀ (m : (ℓ : Loc Cert.XMergeIdeal.nD Cert.XMergeIdeal.τ Cert.XMergeIdeal.sig) → Buf (Elt Ideal) ℓ) (g : Dev Cert.XMergeIdeal.nD → PrngReg), Pre_XMergeIdeal m →
    θ_run (Cert.XMergeIdeal.defs (F := Ideal)) (onTc (τ := Cert.XMergeIdeal.τ) (Cert.XMergeIdeal.main (F := Ideal))) ⟨m, fun _ => 0, g⟩ (fun r => (∀ c : Dev Cert.XMergeIdeal.nD,
      r.2.mem ((c.tc : Thread Cert.XMergeIdeal.nD Cert.XMergeIdeal.τ).loc Cert.XMergeIdeal.main_arg0) = m ((c.tc : Thread Cert.XMergeIdeal.nD Cert.XMergeIdeal.τ).loc Cert.XMergeIdeal.main_arg0)
      ∧ r.2.mem ((c.tc : Thread Cert.XMergeIdeal.nD Cert.XMergeIdeal.τ).loc Cert.XMergeIdeal.main_arg1) = m ((c.tc : Thread Cert.XMergeIdeal.nD Cert.XMergeIdeal.τ).loc Cert.XMergeIdeal.main_arg1)
      ∧ r.2.mem ((c.tc : Thread Cert.XMergeIdeal.nD Cert.XMergeIdeal.τ).loc Cert.XMergeIdeal.main_arg2) = m ((c.tc : Thread Cert.XMergeIdeal.nD Cert.XMergeIdeal.τ).loc Cert.XMergeIdeal.main_arg2)
      ∧ r.2.mem ((c.tc : Thread Cert.XMergeIdeal.nD Cert.XMergeIdeal.τ).loc Cert.XMergeIdeal.main_arg3) = m ((c.tc : Thread Cert.XMergeIdeal.nD Cert.XMergeIdeal.τ).loc Cert.XMergeIdeal.main_arg3)
      ∧ r.2.mem ((c.tc : Thread Cert.XMergeIdeal.nD Cert.XMergeIdeal.τ).loc Cert.XMergeIdeal.main_arg4) = m ((c.tc : Thread Cert.XMergeIdeal.nD Cert.XMergeIdeal.τ).loc Cert.XMergeIdeal.main_arg4)
      ∧ r.2.mem ((c.tc : Thread Cert.XMergeIdeal.nD Cert.XMergeIdeal.τ).loc Cert.XMergeIdeal.main_arg5) = m ((c.tc : Thread Cert.XMergeIdeal.nD Cert.XMergeIdeal.τ).loc Cert.XMergeIdeal.main_arg5)
      ∧ r.2.mem ((c.tc : Thread Cert.XMergeIdeal.nD Cert.XMergeIdeal.τ).loc Cert.XMergeIdeal.main_arg6) = m ((c.tc : Thread Cert.XMergeIdeal.nD Cert.XMergeIdeal.τ).loc Cert.XMergeIdeal.main_arg6)
      ∧ r.2.mem ((c.tc : Thread Cert.XMergeIdeal.nD Cert.XMergeIdeal.τ).loc Cert.XMergeIdeal.main_arg7) = m ((c.tc : Thread Cert.XMergeIdeal.nD Cert.XMergeIdeal.τ).loc Cert.XMergeIdeal.main_arg7))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_XHgrnIdeal [hXHgrnIdeal : Cert.XHgrnIdeal.Facts] : Prop :=
  ∀ (m : (ℓ : Loc Cert.XHgrnIdeal.nD Cert.XHgrnIdeal.τ Cert.XHgrnIdeal.sig) → Buf (Elt Ideal) ℓ) (g : Dev Cert.XHgrnIdeal.nD → PrngReg), Pre_XHgrnIdeal m →
    θ_run (Cert.XHgrnIdeal.defs (F := Ideal)) (onTc (τ := Cert.XHgrnIdeal.τ) (Cert.XHgrnIdeal.main (F := Ideal))) ⟨m, fun _ => 0, g⟩ (fun r => (∀ c : Dev Cert.XHgrnIdeal.nD,
      r.2.mem ((c.tc : Thread Cert.XHgrnIdeal.nD Cert.XHgrnIdeal.τ).loc Cert.XHgrnIdeal.main_arg0) = m ((c.tc : Thread Cert.XHgrnIdeal.nD Cert.XHgrnIdeal.τ).loc Cert.XHgrnIdeal.main_arg0)
      ∧ r.2.mem ((c.tc : Thread Cert.XHgrnIdeal.nD Cert.XHgrnIdeal.τ).loc Cert.XHgrnIdeal.main_arg1) = m ((c.tc : Thread Cert.XHgrnIdeal.nD Cert.XHgrnIdeal.τ).loc Cert.XHgrnIdeal.main_arg1)
      ∧ r.2.mem ((c.tc : Thread Cert.XHgrnIdeal.nD Cert.XHgrnIdeal.τ).loc Cert.XHgrnIdeal.main_arg2) = m ((c.tc : Thread Cert.XHgrnIdeal.nD Cert.XHgrnIdeal.τ).loc Cert.XHgrnIdeal.main_arg2)
      ∧ r.2.mem ((c.tc : Thread Cert.XHgrnIdeal.nD Cert.XHgrnIdeal.τ).loc Cert.XHgrnIdeal.main_arg3) = m ((c.tc : Thread Cert.XHgrnIdeal.nD Cert.XHgrnIdeal.τ).loc Cert.XHgrnIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_XPrepIdeal [hXPrepIdeal : Cert.XPrepIdeal.Facts] : Prop :=
  ∀ (m : (ℓ : Loc Cert.XPrepIdeal.nD Cert.XPrepIdeal.τ Cert.XPrepIdeal.sig) → Buf (Elt Ideal) ℓ) (g : Dev Cert.XPrepIdeal.nD → PrngReg), Pre_XPrepIdeal m →
    θ_run (Cert.XPrepIdeal.defs (F := Ideal)) (onTc (τ := Cert.XPrepIdeal.τ) (Cert.XPrepIdeal.main (F := Ideal))) ⟨m, fun _ => 0, g⟩ (fun r => (∀ c : Dev Cert.XPrepIdeal.nD,
      r.2.mem ((c.tc : Thread Cert.XPrepIdeal.nD Cert.XPrepIdeal.τ).loc Cert.XPrepIdeal.main_arg0) = m ((c.tc : Thread Cert.XPrepIdeal.nD Cert.XPrepIdeal.τ).loc Cert.XPrepIdeal.main_arg0)
      ∧ r.2.mem ((c.tc : Thread Cert.XPrepIdeal.nD Cert.XPrepIdeal.τ).loc Cert.XPrepIdeal.main_arg1) = m ((c.tc : Thread Cert.XPrepIdeal.nD Cert.XPrepIdeal.τ).loc Cert.XPrepIdeal.main_arg1))
      ∧ r.2.sem = fun _ => 0)

def preserves_Mem_MemIdeal : Prop :=
  True

def algebraic_MemIdeal_XMemIdeal_pre_recall_finite [hMemIdeal : Cert.MemIdeal.Facts] [hXMemIdeal : Cert.XMemIdeal.Facts] [hPre_recall_finite : Cert.Pre_recall_finite.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.XMemIdeal.nD Cert.XMemIdeal.τ Cert.XMemIdeal.sig) → Buf (Elt Ideal) ℓ) (g' : Dev Cert.XMemIdeal.nD → PrngReg), Pre_MemIdeal_recall_finite m →
    (∀ c : Dev Cert.MemIdeal.nD,
      m' ((c.tc : Thread Cert.XMemIdeal.nD Cert.XMemIdeal.τ).loc Cert.XMemIdeal.main_arg0) = m ((c.tc : Thread Cert.MemIdeal.nD Cert.MemIdeal.τ).loc Cert.MemIdeal.main_arg0)
      ∧ m' ((c.tc : Thread Cert.XMemIdeal.nD Cert.XMemIdeal.τ).loc Cert.XMemIdeal.main_arg1) = m ((c.tc : Thread Cert.MemIdeal.nD Cert.MemIdeal.τ).loc Cert.MemIdeal.main_arg1)) →
    ∃ (v0 : (c : Dev Cert.MemIdeal.nD) → Buf (Elt Ideal) ((c.tc : Thread Cert.MemIdeal.nD Cert.MemIdeal.τ).loc Cert.MemIdeal.main_v0)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ θ_run (Cert.XMemIdeal.defs (F := Ideal)) (onTc (τ := Cert.XMemIdeal.τ) (Cert.XMemIdeal.main (F := Ideal))) ⟨m', fun _ => 0, g'⟩ (fun r => ∀ c : Dev Cert.XMemIdeal.nD,
          r.2.mem ((c.tc : Thread Cert.XMemIdeal.nD Cert.XMemIdeal.τ).loc Cert.XMemIdeal.main_v22) = v0 c
          ∧ r.2.mem ((c.tc : Thread Cert.XMemIdeal.nD Cert.XMemIdeal.τ).loc Cert.XMemIdeal.main_arg0) = m' ((c.tc : Thread Cert.XMemIdeal.nD Cert.XMemIdeal.τ).loc Cert.XMemIdeal.main_arg0)
          ∧ r.2.mem ((c.tc : Thread Cert.XMemIdeal.nD Cert.XMemIdeal.τ).loc Cert.XMemIdeal.main_arg1) = m' ((c.tc : Thread Cert.XMemIdeal.nD Cert.XMemIdeal.τ).loc Cert.XMemIdeal.main_arg1))

def preserves_Proj_ProjIdeal : Prop :=
  True

def algebraic_ProjIdeal_XProjIdeal [hProjIdeal : Cert.ProjIdeal.Facts] [hXProjIdeal : Cert.XProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.XProjIdeal.nD Cert.XProjIdeal.τ Cert.XProjIdeal.sig) → Buf (Elt Ideal) ℓ) (g' : Dev Cert.XProjIdeal.nD → PrngReg), Pre_ProjIdeal m →
    (∀ c : Dev Cert.ProjIdeal.nD,
      m' ((c.tc : Thread Cert.XProjIdeal.nD Cert.XProjIdeal.τ).loc Cert.XProjIdeal.main_arg0) = m ((c.tc : Thread Cert.ProjIdeal.nD Cert.ProjIdeal.τ).loc Cert.ProjIdeal.main_arg0)
      ∧ m' ((c.tc : Thread Cert.XProjIdeal.nD Cert.XProjIdeal.τ).loc Cert.XProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v10_0)) (v1 : (c : Dev Cert.ProjIdeal.nD) → Buf (Elt Ideal) ((c.tc : Thread Cert.ProjIdeal.nD Cert.ProjIdeal.τ).loc Cert.ProjIdeal.main_v10_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10_0) = v0 c
          ∧ r.2.mem ((c.tc : Thread Cert.ProjIdeal.nD Cert.ProjIdeal.τ).loc Cert.ProjIdeal.main_v10_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.XProjIdeal.defs (F := Ideal)) (onTc (τ := Cert.XProjIdeal.τ) (Cert.XProjIdeal.main (F := Ideal))) ⟨m', fun _ => 0, g'⟩ (fun r => ∀ c : Dev Cert.XProjIdeal.nD,
          r.2.mem ((c.tc : Thread Cert.XProjIdeal.nD Cert.XProjIdeal.τ).loc Cert.XProjIdeal.main_v18) = v0 c
          ∧ r.2.mem ((c.tc : Thread Cert.XProjIdeal.nD Cert.XProjIdeal.τ).loc Cert.XProjIdeal.main_v19) = v1 c
          ∧ r.2.mem ((c.tc : Thread Cert.XProjIdeal.nD Cert.XProjIdeal.τ).loc Cert.XProjIdeal.main_arg0) = m' ((c.tc : Thread Cert.XProjIdeal.nD Cert.XProjIdeal.τ).loc Cert.XProjIdeal.main_arg0)
          ∧ r.2.mem ((c.tc : Thread Cert.XProjIdeal.nD Cert.XProjIdeal.τ).loc Cert.XProjIdeal.main_arg1) = m' ((c.tc : Thread Cert.XProjIdeal.nD Cert.XProjIdeal.τ).loc Cert.XProjIdeal.main_arg1))

def preserves_Kv_KvIdeal : Prop :=
  True

def algebraic_KvIdeal_XKvIdeal [hKvIdeal : Cert.KvIdeal.Facts] [hXKvIdeal : Cert.XKvIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.XKvIdeal.nD Cert.XKvIdeal.τ Cert.XKvIdeal.sig) → Buf (Elt Ideal) ℓ) (g' : Dev Cert.XKvIdeal.nD → PrngReg), Pre_KvIdeal m →
    (∀ c : Dev Cert.KvIdeal.nD,
      m' ((c.tc : Thread Cert.XKvIdeal.nD Cert.XKvIdeal.τ).loc Cert.XKvIdeal.main_arg0) = m ((c.tc : Thread Cert.KvIdeal.nD Cert.KvIdeal.τ).loc Cert.KvIdeal.main_arg0)
      ∧ m' ((c.tc : Thread Cert.XKvIdeal.nD Cert.XKvIdeal.τ).loc Cert.XKvIdeal.main_arg1) = m ((c.tc : Thread Cert.KvIdeal.nD Cert.KvIdeal.τ).loc Cert.KvIdeal.main_arg1)
      ∧ m' ((c.tc : Thread Cert.XKvIdeal.nD Cert.XKvIdeal.τ).loc Cert.XKvIdeal.main_arg2) = m ((c.tc : Thread Cert.KvIdeal.nD Cert.KvIdeal.τ).loc Cert.KvIdeal.main_arg2)
      ∧ m' ((c.tc : Thread Cert.XKvIdeal.nD Cert.XKvIdeal.τ).loc Cert.XKvIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v14_0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v14_0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.XKvIdeal.defs (F := Ideal)) (onTc (τ := Cert.XKvIdeal.τ) (Cert.XKvIdeal.main (F := Ideal))) ⟨m', fun _ => 0, g'⟩ (fun r => ∀ c : Dev Cert.XKvIdeal.nD,
          r.2.mem ((c.tc : Thread Cert.XKvIdeal.nD Cert.XKvIdeal.τ).loc Cert.XKvIdeal.main_v5) = v0 c
          ∧ r.2.mem ((c.tc : Thread Cert.XKvIdeal.nD Cert.XKvIdeal.τ).loc Cert.XKvIdeal.main_arg0) = m' ((c.tc : Thread Cert.XKvIdeal.nD Cert.XKvIdeal.τ).loc Cert.XKvIdeal.main_arg0)
          ∧ r.2.mem ((c.tc : Thread Cert.XKvIdeal.nD Cert.XKvIdeal.τ).loc Cert.XKvIdeal.main_arg1) = m' ((c.tc : Thread Cert.XKvIdeal.nD Cert.XKvIdeal.τ).loc Cert.XKvIdeal.main_arg1)
          ∧ r.2.mem ((c.tc : Thread Cert.XKvIdeal.nD Cert.XKvIdeal.τ).loc Cert.XKvIdeal.main_arg2) = m' ((c.tc : Thread Cert.XKvIdeal.nD Cert.XKvIdeal.τ).loc Cert.XKvIdeal.main_arg2)
          ∧ r.2.mem ((c.tc : Thread Cert.XKvIdeal.nD Cert.XKvIdeal.τ).loc Cert.XKvIdeal.main_arg3) = m' ((c.tc : Thread Cert.XKvIdeal.nD Cert.XKvIdeal.τ).loc Cert.XKvIdeal.main_arg3))

def preserves_Merge_MergeIdeal : Prop :=
  True

def algebraic_MergeIdeal_XMergeIdeal [hMergeIdeal : Cert.MergeIdeal.Facts] [hXMergeIdeal : Cert.XMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.XMergeIdeal.nD Cert.XMergeIdeal.τ Cert.XMergeIdeal.sig) → Buf (Elt Ideal) ℓ) (g' : Dev Cert.XMergeIdeal.nD → PrngReg), Pre_MergeIdeal m →
    (∀ c : Dev Cert.MergeIdeal.nD,
      m' ((c.tc : Thread Cert.XMergeIdeal.nD Cert.XMergeIdeal.τ).loc Cert.XMergeIdeal.main_arg0) = m ((c.tc : Thread Cert.MergeIdeal.nD Cert.MergeIdeal.τ).loc Cert.MergeIdeal.main_arg0)
      ∧ m' ((c.tc : Thread Cert.XMergeIdeal.nD Cert.XMergeIdeal.τ).loc Cert.XMergeIdeal.main_arg1) = m ((c.tc : Thread Cert.MergeIdeal.nD Cert.MergeIdeal.τ).loc Cert.MergeIdeal.main_arg1)
      ∧ m' ((c.tc : Thread Cert.XMergeIdeal.nD Cert.XMergeIdeal.τ).loc Cert.XMergeIdeal.main_arg2) = m ((c.tc : Thread Cert.MergeIdeal.nD Cert.MergeIdeal.τ).loc Cert.MergeIdeal.main_arg2)
      ∧ m' ((c.tc : Thread Cert.XMergeIdeal.nD Cert.XMergeIdeal.τ).loc Cert.XMergeIdeal.main_arg3) = m ((c.tc : Thread Cert.MergeIdeal.nD Cert.MergeIdeal.τ).loc Cert.MergeIdeal.main_arg3)
      ∧ m' ((c.tc : Thread Cert.XMergeIdeal.nD Cert.XMergeIdeal.τ).loc Cert.XMergeIdeal.main_arg4) = m ((c.tc : Thread Cert.MergeIdeal.nD Cert.MergeIdeal.τ).loc Cert.MergeIdeal.main_arg4)
      ∧ m' ((c.tc : Thread Cert.XMergeIdeal.nD Cert.XMergeIdeal.τ).loc Cert.XMergeIdeal.main_arg5) = m ((c.tc : Thread Cert.MergeIdeal.nD Cert.MergeIdeal.τ).loc Cert.MergeIdeal.main_arg5)
      ∧ m' ((c.tc : Thread Cert.XMergeIdeal.nD Cert.XMergeIdeal.τ).loc Cert.XMergeIdeal.main_arg6) = m ((c.tc : Thread Cert.MergeIdeal.nD Cert.MergeIdeal.τ).loc Cert.MergeIdeal.main_arg6)
      ∧ m' ((c.tc : Thread Cert.XMergeIdeal.nD Cert.XMergeIdeal.τ).loc Cert.XMergeIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.XMergeIdeal.defs (F := Ideal)) (onTc (τ := Cert.XMergeIdeal.τ) (Cert.XMergeIdeal.main (F := Ideal))) ⟨m', fun _ => 0, g'⟩ (fun r => ∀ c : Dev Cert.XMergeIdeal.nD,
          r.2.mem ((c.tc : Thread Cert.XMergeIdeal.nD Cert.XMergeIdeal.τ).loc Cert.XMergeIdeal.main_v45) = v0 c
          ∧ r.2.mem ((c.tc : Thread Cert.XMergeIdeal.nD Cert.XMergeIdeal.τ).loc Cert.XMergeIdeal.main_arg0) = m' ((c.tc : Thread Cert.XMergeIdeal.nD Cert.XMergeIdeal.τ).loc Cert.XMergeIdeal.main_arg0)
          ∧ r.2.mem ((c.tc : Thread Cert.XMergeIdeal.nD Cert.XMergeIdeal.τ).loc Cert.XMergeIdeal.main_arg1) = m' ((c.tc : Thread Cert.XMergeIdeal.nD Cert.XMergeIdeal.τ).loc Cert.XMergeIdeal.main_arg1)
          ∧ r.2.mem ((c.tc : Thread Cert.XMergeIdeal.nD Cert.XMergeIdeal.τ).loc Cert.XMergeIdeal.main_arg2) = m' ((c.tc : Thread Cert.XMergeIdeal.nD Cert.XMergeIdeal.τ).loc Cert.XMergeIdeal.main_arg2)
          ∧ r.2.mem ((c.tc : Thread Cert.XMergeIdeal.nD Cert.XMergeIdeal.τ).loc Cert.XMergeIdeal.main_arg3) = m' ((c.tc : Thread Cert.XMergeIdeal.nD Cert.XMergeIdeal.τ).loc Cert.XMergeIdeal.main_arg3)
          ∧ r.2.mem ((c.tc : Thread Cert.XMergeIdeal.nD Cert.XMergeIdeal.τ).loc Cert.XMergeIdeal.main_arg4) = m' ((c.tc : Thread Cert.XMergeIdeal.nD Cert.XMergeIdeal.τ).loc Cert.XMergeIdeal.main_arg4)
          ∧ r.2.mem ((c.tc : Thread Cert.XMergeIdeal.nD Cert.XMergeIdeal.τ).loc Cert.XMergeIdeal.main_arg5) = m' ((c.tc : Thread Cert.XMergeIdeal.nD Cert.XMergeIdeal.τ).loc Cert.XMergeIdeal.main_arg5)
          ∧ r.2.mem ((c.tc : Thread Cert.XMergeIdeal.nD Cert.XMergeIdeal.τ).loc Cert.XMergeIdeal.main_arg6) = m' ((c.tc : Thread Cert.XMergeIdeal.nD Cert.XMergeIdeal.τ).loc Cert.XMergeIdeal.main_arg6)
          ∧ r.2.mem ((c.tc : Thread Cert.XMergeIdeal.nD Cert.XMergeIdeal.τ).loc Cert.XMergeIdeal.main_arg7) = m' ((c.tc : Thread Cert.XMergeIdeal.nD Cert.XMergeIdeal.τ).loc Cert.XMergeIdeal.main_arg7))

def preserves_Hgrn_HgrnIdeal : Prop :=
  True

def algebraic_HgrnIdeal_XHgrnIdeal [hHgrnIdeal : Cert.HgrnIdeal.Facts] [hXHgrnIdeal : Cert.XHgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.XHgrnIdeal.nD Cert.XHgrnIdeal.τ Cert.XHgrnIdeal.sig) → Buf (Elt Ideal) ℓ) (g' : Dev Cert.XHgrnIdeal.nD → PrngReg), Pre_HgrnIdeal m →
    (∀ c : Dev Cert.HgrnIdeal.nD,
      m' ((c.tc : Thread Cert.XHgrnIdeal.nD Cert.XHgrnIdeal.τ).loc Cert.XHgrnIdeal.main_arg0) = m ((c.tc : Thread Cert.HgrnIdeal.nD Cert.HgrnIdeal.τ).loc Cert.HgrnIdeal.main_arg0)
      ∧ m' ((c.tc : Thread Cert.XHgrnIdeal.nD Cert.XHgrnIdeal.τ).loc Cert.XHgrnIdeal.main_arg1) = m ((c.tc : Thread Cert.HgrnIdeal.nD Cert.HgrnIdeal.τ).loc Cert.HgrnIdeal.main_arg1)
      ∧ m' ((c.tc : Thread Cert.XHgrnIdeal.nD Cert.XHgrnIdeal.τ).loc Cert.XHgrnIdeal.main_arg2) = m ((c.tc : Thread Cert.HgrnIdeal.nD Cert.HgrnIdeal.τ).loc Cert.HgrnIdeal.main_arg2)
      ∧ m' ((c.tc : Thread Cert.XHgrnIdeal.nD Cert.XHgrnIdeal.τ).loc Cert.XHgrnIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v18_0)) (v1 : (c : Dev Cert.HgrnIdeal.nD) → Buf (Elt Ideal) ((c.tc : Thread Cert.HgrnIdeal.nD Cert.HgrnIdeal.τ).loc Cert.HgrnIdeal.main_v18_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v18_0) = v0 c
          ∧ r.2.mem ((c.tc : Thread Cert.HgrnIdeal.nD Cert.HgrnIdeal.τ).loc Cert.HgrnIdeal.main_v18_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.XHgrnIdeal.defs (F := Ideal)) (onTc (τ := Cert.XHgrnIdeal.τ) (Cert.XHgrnIdeal.main (F := Ideal))) ⟨m', fun _ => 0, g'⟩ (fun r => ∀ c : Dev Cert.XHgrnIdeal.nD,
          r.2.mem ((c.tc : Thread Cert.XHgrnIdeal.nD Cert.XHgrnIdeal.τ).loc Cert.XHgrnIdeal.main_v92) = v0 c
          ∧ r.2.mem ((c.tc : Thread Cert.XHgrnIdeal.nD Cert.XHgrnIdeal.τ).loc Cert.XHgrnIdeal.main_v77) = v1 c
          ∧ r.2.mem ((c.tc : Thread Cert.XHgrnIdeal.nD Cert.XHgrnIdeal.τ).loc Cert.XHgrnIdeal.main_arg0) = m' ((c.tc : Thread Cert.XHgrnIdeal.nD Cert.XHgrnIdeal.τ).loc Cert.XHgrnIdeal.main_arg0)
          ∧ r.2.mem ((c.tc : Thread Cert.XHgrnIdeal.nD Cert.XHgrnIdeal.τ).loc Cert.XHgrnIdeal.main_arg1) = m' ((c.tc : Thread Cert.XHgrnIdeal.nD Cert.XHgrnIdeal.τ).loc Cert.XHgrnIdeal.main_arg1)
          ∧ r.2.mem ((c.tc : Thread Cert.XHgrnIdeal.nD Cert.XHgrnIdeal.τ).loc Cert.XHgrnIdeal.main_arg2) = m' ((c.tc : Thread Cert.XHgrnIdeal.nD Cert.XHgrnIdeal.τ).loc Cert.XHgrnIdeal.main_arg2)
          ∧ r.2.mem ((c.tc : Thread Cert.XHgrnIdeal.nD Cert.XHgrnIdeal.τ).loc Cert.XHgrnIdeal.main_arg3) = m' ((c.tc : Thread Cert.XHgrnIdeal.nD Cert.XHgrnIdeal.τ).loc Cert.XHgrnIdeal.main_arg3))

def preserves_Prep_PrepIdeal : Prop :=
  IdealRules.sign_bit.Statement Cert.PrepIdeal.S256x128 .f32

def algebraic_PrepIdeal_XPrepIdeal [hPrepIdeal : Cert.PrepIdeal.Facts] [hXPrepIdeal : Cert.XPrepIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.XPrepIdeal.nD Cert.XPrepIdeal.τ Cert.XPrepIdeal.sig) → Buf (Elt Ideal) ℓ) (g' : Dev Cert.XPrepIdeal.nD → PrngReg), Pre_PrepIdeal m →
    (∀ c : Dev Cert.PrepIdeal.nD,
      m' ((c.tc : Thread Cert.XPrepIdeal.nD Cert.XPrepIdeal.τ).loc Cert.XPrepIdeal.main_arg0) = m ((c.tc : Thread Cert.PrepIdeal.nD Cert.PrepIdeal.τ).loc Cert.PrepIdeal.main_arg0)
      ∧ m' ((c.tc : Thread Cert.XPrepIdeal.nD Cert.XPrepIdeal.τ).loc Cert.XPrepIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v63_0)) (v1 : (c : Dev Cert.PrepIdeal.nD) → Buf (Elt Ideal) ((c.tc : Thread Cert.PrepIdeal.nD Cert.PrepIdeal.τ).loc Cert.PrepIdeal.main_v63_1)) (v2 : (c : Dev Cert.PrepIdeal.nD) → Buf (Elt Ideal) ((c.tc : Thread Cert.PrepIdeal.nD Cert.PrepIdeal.τ).loc Cert.PrepIdeal.main_v63_2)) (v3 : (c : Dev Cert.PrepIdeal.nD) → Buf (Elt Ideal) ((c.tc : Thread Cert.PrepIdeal.nD Cert.PrepIdeal.τ).loc Cert.PrepIdeal.main_v63_3)) (v4 : (c : Dev Cert.PrepIdeal.nD) → Buf (Elt Ideal) ((c.tc : Thread Cert.PrepIdeal.nD Cert.PrepIdeal.τ).loc Cert.PrepIdeal.main_v63_4)) (v5 : (c : Dev Cert.PrepIdeal.nD) → Buf (Elt Ideal) ((c.tc : Thread Cert.PrepIdeal.nD Cert.PrepIdeal.τ).loc Cert.PrepIdeal.main_v63_5)) (v6 : (c : Dev Cert.PrepIdeal.nD) → Buf (Elt Ideal) ((c.tc : Thread Cert.PrepIdeal.nD Cert.PrepIdeal.τ).loc Cert.PrepIdeal.main_v63_6)) (v7 : (c : Dev Cert.PrepIdeal.nD) → Buf (Elt Ideal) ((c.tc : Thread Cert.PrepIdeal.nD Cert.PrepIdeal.τ).loc Cert.PrepIdeal.main_v63_7)) (v8 : (c : Dev Cert.PrepIdeal.nD) → Buf (Elt Ideal) ((c.tc : Thread Cert.PrepIdeal.nD Cert.PrepIdeal.τ).loc Cert.PrepIdeal.main_v63_8)) (v9 : (c : Dev Cert.PrepIdeal.nD) → Buf (Elt Ideal) ((c.tc : Thread Cert.PrepIdeal.nD Cert.PrepIdeal.τ).loc Cert.PrepIdeal.main_v63_9)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v63_0) = v0 c
          ∧ r.2.mem ((c.tc : Thread Cert.PrepIdeal.nD Cert.PrepIdeal.τ).loc Cert.PrepIdeal.main_v63_1) = v1 c
          ∧ r.2.mem ((c.tc : Thread Cert.PrepIdeal.nD Cert.PrepIdeal.τ).loc Cert.PrepIdeal.main_v63_2) = v2 c
          ∧ r.2.mem ((c.tc : Thread Cert.PrepIdeal.nD Cert.PrepIdeal.τ).loc Cert.PrepIdeal.main_v63_3) = v3 c
          ∧ r.2.mem ((c.tc : Thread Cert.PrepIdeal.nD Cert.PrepIdeal.τ).loc Cert.PrepIdeal.main_v63_4) = v4 c
          ∧ r.2.mem ((c.tc : Thread Cert.PrepIdeal.nD Cert.PrepIdeal.τ).loc Cert.PrepIdeal.main_v63_5) = v5 c
          ∧ r.2.mem ((c.tc : Thread Cert.PrepIdeal.nD Cert.PrepIdeal.τ).loc Cert.PrepIdeal.main_v63_6) = v6 c
          ∧ r.2.mem ((c.tc : Thread Cert.PrepIdeal.nD Cert.PrepIdeal.τ).loc Cert.PrepIdeal.main_v63_7) = v7 c
          ∧ r.2.mem ((c.tc : Thread Cert.PrepIdeal.nD Cert.PrepIdeal.τ).loc Cert.PrepIdeal.main_v63_8) = v8 c
          ∧ r.2.mem ((c.tc : Thread Cert.PrepIdeal.nD Cert.PrepIdeal.τ).loc Cert.PrepIdeal.main_v63_9) = v9 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.XPrepIdeal.defs (F := Ideal)) (onTc (τ := Cert.XPrepIdeal.τ) (Cert.XPrepIdeal.main (F := Ideal))) ⟨m', fun _ => 0, g'⟩ (fun r => ∀ c : Dev Cert.XPrepIdeal.nD,
          r.2.mem ((c.tc : Thread Cert.XPrepIdeal.nD Cert.XPrepIdeal.τ).loc Cert.XPrepIdeal.main_v162) = v0 c
          ∧ r.2.mem ((c.tc : Thread Cert.XPrepIdeal.nD Cert.XPrepIdeal.τ).loc Cert.XPrepIdeal.main_v78) = v1 c
          ∧ r.2.mem ((c.tc : Thread Cert.XPrepIdeal.nD Cert.XPrepIdeal.τ).loc Cert.XPrepIdeal.main_v180) = v2 c
          ∧ r.2.mem ((c.tc : Thread Cert.XPrepIdeal.nD Cert.XPrepIdeal.τ).loc Cert.XPrepIdeal.main_v79) = v3 c
          ∧ r.2.mem ((c.tc : Thread Cert.XPrepIdeal.nD Cert.XPrepIdeal.τ).loc Cert.XPrepIdeal.main_v181) = v4 c
          ∧ r.2.mem ((c.tc : Thread Cert.XPrepIdeal.nD Cert.XPrepIdeal.τ).loc Cert.XPrepIdeal.main_v170) = v5 c
          ∧ r.2.mem ((c.tc : Thread Cert.XPrepIdeal.nD Cert.XPrepIdeal.τ).loc Cert.XPrepIdeal.main_v174) = v6 c
          ∧ r.2.mem ((c.tc : Thread Cert.XPrepIdeal.nD Cert.XPrepIdeal.τ).loc Cert.XPrepIdeal.main_v158) = v7 c
          ∧ r.2.mem ((c.tc : Thread Cert.XPrepIdeal.nD Cert.XPrepIdeal.τ).loc Cert.XPrepIdeal.main_v177) = v8 c
          ∧ r.2.mem ((c.tc : Thread Cert.XPrepIdeal.nD Cert.XPrepIdeal.τ).loc Cert.XPrepIdeal.main_v179) = v9 c
          ∧ r.2.mem ((c.tc : Thread Cert.XPrepIdeal.nD Cert.XPrepIdeal.τ).loc Cert.XPrepIdeal.main_arg0) = m' ((c.tc : Thread Cert.XPrepIdeal.nD Cert.XPrepIdeal.τ).loc Cert.XPrepIdeal.main_arg0)
          ∧ r.2.mem ((c.tc : Thread Cert.XPrepIdeal.nD Cert.XPrepIdeal.τ).loc Cert.XPrepIdeal.main_arg1) = m' ((c.tc : Thread Cert.XPrepIdeal.nD Cert.XPrepIdeal.τ).loc Cert.XPrepIdeal.main_arg1))

def Claim : Prop :=
  ∃ (hMem : Cert.Mem.Facts) (hMemIdeal : Cert.MemIdeal.Facts) (hXMemIdeal : Cert.XMemIdeal.Facts) (hProj : Cert.Proj.Facts) (hProjIdeal : Cert.ProjIdeal.Facts) (hXProjIdeal : Cert.XProjIdeal.Facts) (hKv : Cert.Kv.Facts) (hKvIdeal : Cert.KvIdeal.Facts) (hXKvIdeal : Cert.XKvIdeal.Facts) (hMerge : Cert.Merge.Facts) (hMergeIdeal : Cert.MergeIdeal.Facts) (hXMergeIdeal : Cert.XMergeIdeal.Facts) (hHgrn : Cert.Hgrn.Facts) (hHgrnIdeal : Cert.HgrnIdeal.Facts) (hXHgrnIdeal : Cert.XHgrnIdeal.Facts) (hPrep : Cert.Prep.Facts) (hPrepIdeal : Cert.PrepIdeal.Facts) (hXPrepIdeal : Cert.XPrepIdeal.Facts) (hPre_recall_finite : Cert.Pre_recall_finite.Facts),
    quiescent_Mem (hMem := hMem)
    ∧ quiescent_MemIdeal (hMemIdeal := hMemIdeal)
    ∧ quiescent_MemIdeal_pre_recall_finite (hMemIdeal := hMemIdeal) (hPre_recall_finite := hPre_recall_finite)
    ∧ quiescent_XMemIdeal (hXMemIdeal := hXMemIdeal)
    ∧ quiescent_XMemIdeal_pre_recall_finite (hXMemIdeal := hXMemIdeal) (hPre_recall_finite := hPre_recall_finite)
    ∧ quiescent_Proj (hProj := hProj)
    ∧ quiescent_ProjIdeal (hProjIdeal := hProjIdeal)
    ∧ quiescent_XProjIdeal (hXProjIdeal := hXProjIdeal)
    ∧ quiescent_Kv (hKv := hKv)
    ∧ quiescent_KvIdeal (hKvIdeal := hKvIdeal)
    ∧ quiescent_XKvIdeal (hXKvIdeal := hXKvIdeal)
    ∧ quiescent_Merge (hMerge := hMerge)
    ∧ quiescent_MergeIdeal (hMergeIdeal := hMergeIdeal)
    ∧ quiescent_XMergeIdeal (hXMergeIdeal := hXMergeIdeal)
    ∧ quiescent_Hgrn (hHgrn := hHgrn)
    ∧ quiescent_HgrnIdeal (hHgrnIdeal := hHgrnIdeal)
    ∧ quiescent_XHgrnIdeal (hXHgrnIdeal := hXHgrnIdeal)
    ∧ quiescent_Prep (hPrep := hPrep)
    ∧ quiescent_PrepIdeal (hPrepIdeal := hPrepIdeal)
    ∧ quiescent_XPrepIdeal (hXPrepIdeal := hXPrepIdeal)
    ∧ preserves_Mem_MemIdeal
    ∧ algebraic_MemIdeal_XMemIdeal_pre_recall_finite (hMemIdeal := hMemIdeal) (hXMemIdeal := hXMemIdeal) (hPre_recall_finite := hPre_recall_finite)
    ∧ preserves_Proj_ProjIdeal
    ∧ algebraic_ProjIdeal_XProjIdeal (hProjIdeal := hProjIdeal) (hXProjIdeal := hXProjIdeal)
    ∧ preserves_Kv_KvIdeal
    ∧ algebraic_KvIdeal_XKvIdeal (hKvIdeal := hKvIdeal) (hXKvIdeal := hXKvIdeal)
    ∧ preserves_Merge_MergeIdeal
    ∧ algebraic_MergeIdeal_XMergeIdeal (hMergeIdeal := hMergeIdeal) (hXMergeIdeal := hXMergeIdeal)
    ∧ preserves_Hgrn_HgrnIdeal
    ∧ algebraic_HgrnIdeal_XHgrnIdeal (hHgrnIdeal := hHgrnIdeal) (hXHgrnIdeal := hXHgrnIdeal)
    ∧ preserves_Prep_PrepIdeal
    ∧ algebraic_PrepIdeal_XPrepIdeal (hPrepIdeal := hPrepIdeal) (hXPrepIdeal := hXPrepIdeal)
-- ==== Pre_recall_finite.lean ====
abbrev S8192x8192 : Shape := ⟨2, ![8192, 8192]⟩
abbrev S1024x1024 : Shape := ⟨2, ![1024, 1024]⟩
abbrev S8192x512 : Shape := ⟨2, ![8192, 512]⟩
abbrev S_ : Shape := ⟨0, ![]⟩
abbrev S1024x512 : Shape := ⟨2, ![1024, 512]⟩

class Facts : Prop where
  slices_S8192x8192_S8192x512_0_7168 : S8192x8192.Slices ![0, 7168] S8192x512
  bcast_S_S8192x512 : S_.BroadcastsInDim S8192x512 (![] : Fin 0 → Fin S8192x512.rank)
  slices_S1024x1024_S1024x512_0_0 : S1024x1024.Slices ![0, 0] S1024x512
  bcast_S_S1024x512 : S_.BroadcastsInDim S1024x512 (![] : Fin 0 → Fin S1024x512.rank)

variable [Facts]

def fn {F : FTy → Type} [FloatOps F] (main_arg0 : FVec F S8192x8192 .f32) (main_arg1 : FVec F S1024x1024 .f32) : IVec S8192x512 1 × IVec S1024x512 1 :=
  let main_v0 : FVec F S8192x512 .f32 := (extractStridedSlice S8192x512 ![0, 7168] · slices_S8192x8192_S8192x512_0_7168) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S1024x512 .f32 := (extractStridedSlice S1024x512 ![0, 0] · slices_S1024x1024_S1024x512_0_0) main_arg1
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  (main_v3, main_v7)
-- ==== Mem.lean ====
abbrev S8192x8192 : Shape := ⟨2, ![8192, 8192]⟩
abbrev S1024x1024 : Shape := ⟨2, ![1024, 1024]⟩
abbrev S8192x512 : Shape := ⟨2, ![8192, 512]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S1024x1024, .f32⟩
  | .hbm, ⟨2, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x512, .f32⟩
  | .local _ .vmem, ⟨7, _⟩ => ⟨S512x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c14_i32 : BitVec 32 := 14#32
  let c0_i32 : BitVec 32 := 0#32
  ![v1.toNat, c14_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XMemIdeal.lean ====
abbrev S8192x8192 : Shape := ⟨2, ![8192, 8192]⟩
abbrev S1024x1024 : Shape := ⟨2, ![1024, 1024]⟩
abbrev S8192x512 : Shape := ⟨2, ![8192, 512]⟩
abbrev S4x2048x4x128 : Shape := ⟨4, ![4, 2048, 4, 128]⟩
abbrev S1024x512 : Shape := ⟨2, ![1024, 512]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S1024x1024, .f32⟩
  | .hbm, ⟨2, _⟩ => ⟨S8192x512, .f32⟩
  | .hbm, ⟨3, _⟩ => ⟨S4x2048x4x128, .f32⟩
  | .hbm, ⟨4, _⟩ => ⟨S1024x512, .f32⟩
  | .hbm, ⟨5, _⟩ => ⟨S4x256x4x128, .f32⟩
  | .hbm, ⟨6, _⟩ => ⟨S1024x512, .f32⟩
  | .hbm, ⟨7, _⟩ => ⟨S4x256x4x128, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x128x2048, .f32⟩
  | .hbm, ⟨27, _⟩ => ⟨S4x2048x4x128, .f32⟩
  | .hbm, ⟨28, _⟩ => ⟨S8192x512, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proj.lean ====
abbrev S4x2048x2048 : Shape := ⟨3, ![4, 2048, 2048]⟩
abbrev S1x2048x8272 : Shape := ⟨3, ![1, 2048, 8272]⟩
abbrev S2048x8272 : Shape := ⟨2, ![2048, 8272]⟩
abbrev S2048x5120 : Shape := ⟨2, ![2048, 5120]⟩
abbrev S2048x3072 : Shape := ⟨2, ![2048, 3072]⟩
abbrev S2048x8192 : Shape := ⟨2, ![2048, 8192]⟩
abbrev S2048x80 : Shape := ⟨2, ![2048, 80]⟩
abbrev S_ : Shape := ⟨0, ![]⟩
abbrev S2048x48 : Shape := ⟨2, ![2048, 48]⟩
abbrev S2048x128 : Shape := ⟨2, ![2048, 128]⟩
abbrev S8192x2048 : Shape := ⟨2, ![8192, 2048]⟩
abbrev S8192x8192 : Shape := ⟨2, ![8192, 8192]⟩
abbrev S8192x128 : Shape := ⟨2, ![8192, 128]⟩
abbrev S512x2048 : Shape := ⟨2, ![512, 2048]⟩
abbrev S2048x1024 : Shape := ⟨2, ![2048, 1024]⟩
abbrev S512x1024 : Shape := ⟨2, ![512, 1024]⟩
abbrev S512x128 : Shape := ⟨2, ![512, 128]⟩

abbrev nBuf : Space → Nat
  | .hbm => 15
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S1x2048x8272, .f32⟩
  | .hbm, ⟨2, _⟩ => ⟨S2048x8272, .f32⟩
  | .hbm, ⟨3, _⟩ => ⟨S2048x5120, .f32⟩
  | .hbm, ⟨4, _⟩ => ⟨S2048x3072, .f32⟩
  | .hbm, ⟨5, _⟩ => ⟨S2048x8192, .f32⟩
  | .hbm, ⟨6, _⟩ => ⟨S2048x8192, .bf16⟩
  | .hbm, ⟨7, _⟩ => ⟨S2048x80, .f32⟩
  | .hbm, ⟨8, _⟩ => ⟨S_, .f32⟩
  | .hbm, ⟨9, _⟩ => ⟨S2048x48, .f32⟩
  | .hbm, ⟨10, _⟩ => ⟨S2048x128, .f32⟩
  | .hbm, ⟨11, _⟩ => ⟨S2048x128, .bf16⟩
  | .hbm, ⟨12, _⟩ => ⟨S8192x2048, .f32⟩
  | .hbm, ⟨13, _⟩ => ⟨S8192x8192, .f32⟩
  | .hbm, ⟨14, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S512x1024, .f32⟩
  | .local _ .vmem, ⟨6, _⟩ => ⟨S512x1024, .f32⟩
  | .local _ .vmem, ⟨7, _⟩ => ⟨S512x128, .f32⟩
  | .local _ .vmem, ⟨8, _⟩ => ⟨S512x128, .f32⟩
  | .local _ .vmem, ⟨9, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== XProjIdeal.lean ====
abbrev S4x2048x2048 : Shape := ⟨3, ![4, 2048, 2048]⟩
abbrev S1x2048x8272 : Shape := ⟨3, ![1, 2048, 8272]⟩
abbrev S2048x8272 : Shape := ⟨2, ![2048, 8272]⟩
abbrev S4x2048x8272 : Shape := ⟨3, ![4, 2048, 8272]⟩
abbrev S4x2048x1024 : Shape := ⟨3, ![4, 2048, 1024]⟩
abbrev S4x2048x64 : Shape := ⟨3, ![4, 2048, 64]⟩
abbrev S4x2048x16 : Shape := ⟨3, ![4, 2048, 16]⟩
abbrev S4x2048x512 : Shape := ⟨3, ![4, 2048, 512]⟩
abbrev S4x2048x8192 : Shape := ⟨3, ![4, 2048, 8192]⟩
abbrev S_ : Shape := ⟨0, ![]⟩
abbrev S4x2048x48 : Shape := ⟨3, ![4, 2048, 48]⟩
abbrev S4x2048x128 : Shape := ⟨3, ![4, 2048, 128]⟩
abbrev S8192x8192 : Shape := ⟨2, ![8192, 8192]⟩
abbrev S8192x128 : Shape := ⟨2, ![8192, 128]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x8272, .f32⟩
  | .hbm, ⟨2, _⟩ => ⟨S2048x8272, .f32⟩
  | .hbm, ⟨3, _⟩ => ⟨S4x2048x8272, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x64, .f32⟩
  | .hbm, ⟨10, _⟩ => ⟨S4x2048x16, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S4x2048x512, .f32⟩
  | .hbm, ⟨16, _⟩ => ⟨S4x2048x512, .f32⟩
  | .hbm, ⟨17, _⟩ => ⟨S4x2048x8192, .f32⟩
  | .hbm, ⟨18, _⟩ => ⟨S_, .f32⟩
  | .hbm, ⟨19, _⟩ => ⟨S4x2048x48, .f32⟩
  | .hbm, ⟨20, _⟩ => ⟨S4x2048x128, .f32⟩
  | .hbm, ⟨21, _⟩ => ⟨S8192x8192, .f32⟩
  | .hbm, ⟨22, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kv.lean ====
abbrev S4x256x2048 : Shape := ⟨3, ![4, 256, 2048]⟩
abbrev S1x2048x512 : Shape := ⟨3, ![1, 2048, 512]⟩
abbrev S1x2048x8272 : Shape := ⟨3, ![1, 2048, 8272]⟩
abbrev S2048x8272 : Shape := ⟨2, ![2048, 8272]⟩
abbrev S2048x5120 : Shape := ⟨2, ![2048, 5120]⟩
abbrev S2048x3072 : Shape := ⟨2, ![2048, 3072]⟩
abbrev S2048x8192 : Shape := ⟨2, ![2048, 8192]⟩
abbrev S2048x80 : Shape := ⟨2, ![2048, 80]⟩
abbrev S_ : Shape := ⟨0, ![]⟩
abbrev S2048x48 : Shape := ⟨2, ![2048, 48]⟩
abbrev S2048x128 : Shape := ⟨2, ![2048, 128]⟩
abbrev S2048x512 : Shape := ⟨2, ![2048, 512]⟩
abbrev S2048x1024 : Shape := ⟨2, ![2048, 1024]⟩
abbrev S1024x2048 : Shape := ⟨2, ![1024, 2048]⟩
abbrev S1024x1024 : Shape := ⟨2, ![1024, 1024]⟩
abbrev S1024x128 : Shape := ⟨2, ![1024, 128]⟩
abbrev S256x2048 : Shape := ⟨2, ![256, 2048]⟩
abbrev S256x1024 : Shape := ⟨2, ![256, 1024]⟩
abbrev S256x128 : Shape := ⟨2, ![256, 128]⟩

abbrev nBuf : Space → Nat
  | .hbm => 21
  | .vmem => 9
  | .smem => 0
  | _ => 0

abbrev bufTy : (tb : Table) → Fin (tcTables nBuf tb) → BufTy
  | .hbm, ⟨0, _⟩ => ⟨S4x256x2048, .f32⟩
  | .hbm, ⟨1, _⟩ => ⟨S1x2048x512, .f32⟩
  | .hbm, ⟨2, _⟩ => ⟨S1x2048x512, .f32⟩
  | .hbm, ⟨3, _⟩ => ⟨S1x2048x8272, .f32⟩
  | .hbm, ⟨4, _⟩ => ⟨S2048x8272, .f32⟩
  | .hbm, ⟨5, _⟩ => ⟨S2048x5120, .f32⟩
  | .hbm, ⟨6, _⟩ => ⟨S2048x3072, .f32⟩
  | .hbm, ⟨7, _⟩ => ⟨S2048x8192, .f32⟩
  | .hbm, ⟨8, _⟩ => ⟨S2048x8192, .bf16⟩
  | .hbm, ⟨9, _⟩ => ⟨S2048x80, .f32⟩
  | .hbm, ⟨10, _⟩ => ⟨S_, .f32⟩
  | .hbm, ⟨11, _⟩ => ⟨S2048x48, .f32⟩
  | .hbm, ⟨12, _⟩ => ⟨S2048x128, .f32⟩
  | .hbm, ⟨13, _⟩ => ⟨S2048x128, .bf16⟩
  | .hbm, ⟨14, _⟩ => ⟨S2048x512, .f32⟩
  | .hbm, ⟨15, _⟩ => ⟨S2048x512, .f32⟩
  | .hbm, ⟨16, _⟩ => ⟨S2048x1024, .f32⟩
  | .hbm, ⟨17, _⟩ => ⟨S2048x1024, .bf16⟩
  | .hbm, ⟨18, _⟩ => ⟨S1024x2048, .f32⟩
  | .hbm, ⟨19, _⟩ => ⟨S1024x1024, .f32⟩
  | .hbm, ⟨20, _⟩ => ⟨S1024x128, .f32⟩
  | .local _ .vmem, ⟨0, _⟩ => ⟨S256x2048, .f32⟩
  | .local _ .vmem, ⟨1, _⟩ => ⟨S256x2048, .f32⟩
  | .local _ .vmem, ⟨2, _⟩ => ⟨S2048x1024, .bf16⟩
  | .local _ .vmem, ⟨3, _⟩ => ⟨S2048x128, .bf16⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S256x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== XKvIdeal.lean ====
abbrev S4x256x2048 : Shape := ⟨3, ![4, 256, 2048]⟩
abbrev S1x2048x512 : Shape := ⟨3, ![1, 2048, 512]⟩
abbrev S1x2048x8272 : Shape := ⟨3, ![1, 2048, 8272]⟩
abbrev S2048x512 : Shape := ⟨2, ![2048, 512]⟩
abbrev S4x256x512 : Shape := ⟨3, ![4, 256, 512]⟩
abbrev S4x256x1024 : Shape := ⟨3, ![4, 256, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048x512, .f32⟩
  | .hbm, ⟨2, _⟩ => ⟨S1x2048x512, .f32⟩
  | .hbm, ⟨3, _⟩ => ⟨S1x2048x8272, .f32⟩
  | .hbm, ⟨4, _⟩ => ⟨S2048x512, .f32⟩
  | .hbm, ⟨5, _⟩ => ⟨S4x256x512, .f32⟩
  | .hbm, ⟨6, _⟩ => ⟨S2048x512, .f32⟩
  | .hbm, ⟨7, _⟩ => ⟨S4x256x512, .f32⟩
  | .hbm, ⟨8, _⟩ => ⟨S4x256x1024, .f32⟩
  | .hbm, ⟨9, _⟩ => ⟨S1024x1024, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Merge.lean ====
abbrev S8192x1024 : Shape := ⟨2, ![8192, 1024]⟩
abbrev S8192x8192 : Shape := ⟨2, ![8192, 8192]⟩
abbrev S8192x512 : Shape := ⟨2, ![8192, 512]⟩
abbrev S4x2048x2048 : Shape := ⟨3, ![4, 2048, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S8192x2048 : Shape := ⟨2, ![8192, 2048]⟩
abbrev S256x1024 : Shape := ⟨2, ![256, 1024]⟩
abbrev S256x512 : Shape := ⟨2, ![256, 512]⟩
abbrev S256x2048 : Shape := ⟨2, ![256, 2048]⟩
abbrev S1024x2048 : Shape := ⟨2, ![1024, 2048]⟩
abbrev S512x2048 : Shape := ⟨2, ![512, 2048]⟩
abbrev S256 : Shape := ⟨1, ![256]⟩
abbrev S256x1 : Shape := ⟨2, ![256, 1]⟩

abbrev nBuf : Space → Nat
  | .hbm => 16
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x512, .f32⟩
  | .hbm, ⟨3, _⟩ => ⟨S8192x512, .f32⟩
  | .hbm, ⟨4, _⟩ => ⟨S4x2048x2048, .f32⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S8192x2048, .f32⟩
  | .hbm, ⟨15, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x2048, .f32⟩
  | .local _ .vmem, ⟨13, _⟩ => ⟨S256x2048, .f32⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== XMergeIdeal.lean ====
abbrev S8192x1024 : Shape := ⟨2, ![8192, 1024]⟩
abbrev S8192x8192 : Shape := ⟨2, ![8192, 8192]⟩
abbrev S8192x512 : Shape := ⟨2, ![8192, 512]⟩
abbrev S4x2048x2048 : Shape := ⟨3, ![4, 2048, 2048]⟩
abbrev S1x2048x2048 : Shape := ⟨3, ![1, 2048, 2048]⟩
abbrev S1x2048 : Shape := ⟨2, ![1, 2048]⟩
abbrev S4x2048x1024 : Shape := ⟨3, ![4, 2048, 1024]⟩
abbrev S4x2048x512 : Shape := ⟨3, ![4, 2048, 512]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x512, .f32⟩
  | .hbm, ⟨3, _⟩ => ⟨S8192x512, .f32⟩
  | .hbm, ⟨4, _⟩ => ⟨S4x2048x2048, .f32⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S8192x1024, .f32⟩
  | .hbm, ⟨9, _⟩ => ⟨S4x2048x1024, .f32⟩
  | .hbm, ⟨10, _⟩ => ⟨S8192x512, .f32⟩
  | .hbm, ⟨11, _⟩ => ⟨S4x2048x512, .f32⟩
  | .hbm, ⟨12, _⟩ => ⟨S8192x512, .f32⟩
  | .hbm, ⟨13, _⟩ => ⟨S4x2048x512, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x512, .f32⟩
  | .hbm, ⟨26, _⟩ => ⟨S4x2048x512, .f32⟩
  | .hbm, ⟨27, _⟩ => ⟨S4x2048x512, .f32⟩
  | .hbm, ⟨28, _⟩ => ⟨S_, .f32⟩
  | .hbm, ⟨29, _⟩ => ⟨S4x2048x512, .f32⟩
  | .hbm, ⟨30, _⟩ => ⟨S4x2048x512, .f32⟩
  | .hbm, ⟨31, _⟩ => ⟨S_, .f32⟩
  | .hbm, ⟨32, _⟩ => ⟨S4x2048x512, .f32⟩
  | .hbm, ⟨33, _⟩ => ⟨S4x2048x512, .f32⟩
  | .hbm, ⟨34, _⟩ => ⟨S4x2048x512, .f32⟩
  | .hbm, ⟨35, _⟩ => ⟨S4x2048x512, .f32⟩
  | .hbm, ⟨36, _⟩ => ⟨S4x2048x512, .f32⟩
  | .hbm, ⟨37, _⟩ => ⟨S4x2048x512, .f32⟩
  | .hbm, ⟨38, _⟩ => ⟨S4x2048x512, .f32⟩
  | .hbm, ⟨39, _⟩ => ⟨S_, .f32⟩
  | .hbm, ⟨40, _⟩ => ⟨S4x2048x512, .f32⟩
  | .hbm, ⟨41, _⟩ => ⟨S4x2048x512, .f32⟩
  | .hbm, ⟨42, _⟩ => ⟨S_, .f32⟩
  | .hbm, ⟨43, _⟩ => ⟨S4x2048x512, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .hbm, ⟨47, _⟩ => ⟨S4x2048x2048, .f32⟩
  | .hbm, ⟨48, _⟩ => ⟨S2048x2048, .f32⟩
  | .hbm, ⟨49, _⟩ => ⟨S4x2048x2048, .f32⟩
  | .hbm, ⟨50, _⟩ => ⟨S_, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S_, .f32⟩
  | .hbm, ⟨55, _⟩ => ⟨S4x2048, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S4x2048x2048, .f32⟩
  | .hbm, ⟨61, _⟩ => ⟨S4x2048x2048, .f32⟩
  | .hbm, ⟨62, _⟩ => ⟨S4x2048x2048, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S_, .f32⟩
  | .hbm, ⟨67, _⟩ => ⟨S4x2048x1, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S4x2048x1, .f32⟩
  | .hbm, ⟨73, _⟩ => ⟨S4x2048x2048, .f32⟩
  | .hbm, ⟨74, _⟩ => ⟨S4x2048x2048, .f32⟩
  | .hbm, ⟨75, _⟩ => ⟨S2048, .f32⟩
  | .hbm, ⟨76, _⟩ => ⟨S1x1x2048, .f32⟩
  | .hbm, ⟨77, _⟩ => ⟨S4x2048x2048, .f32⟩
  | .hbm, ⟨78, _⟩ => ⟨S4x2048x2048, .f32⟩
  | .hbm, ⟨79, _⟩ => ⟨S2048, .f32⟩
  | .hbm, ⟨80, _⟩ => ⟨S1x1x2048, .f32⟩
  | .hbm, ⟨81, _⟩ => ⟨S4x2048x2048, .f32⟩
  | .hbm, ⟨82, _⟩ => ⟨S4x2048x2048, .f32⟩
  | .hbm, ⟨83, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_0 : Ref sig .tc := ⟨.hbm, 54, rfl⟩
abbrev main_v21 : Ref sig .tc := ⟨.hbm, 55, rfl⟩
abbrev main_v22 : Ref sig .tc := ⟨.hbm, 56, rfl⟩
abbrev main_cst_1 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_2 : Ref sig .tc := ⟨.hbm, 63, rfl⟩
abbrev main_v28 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_v31 : Ref sig .tc := ⟨.hbm, 68, rfl⟩
abbrev main_cst_4 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩

abbrev nD : Nat := 1
abbrev τ : Topo := Topo.v7x

variable {F : FTy → Type} [FloatOps F]
-- ==== Hgrn.lean ====
abbrev S64x8192 : Shape := ⟨2, ![64, 8192]⟩
abbrev S2x512 : Shape := ⟨2, ![2, 512]⟩
abbrev S1x128 : Shape := ⟨2, ![1, 128]⟩
abbrev S1x8x4x128x128 : Shape := ⟨5, ![1, 8, 4, 128, 128]⟩
abbrev S_ : Shape := ⟨0, ![]⟩
abbrev S512 : Shape := ⟨1, ![512]⟩
abbrev S1x512 : Shape := ⟨2, ![1, 512]⟩
abbrev S128 : Shape := ⟨1, ![128]⟩
abbrev S8x4x128x128 : Shape := ⟨4, ![8, 4, 128, 128]⟩
abbrev S64x512 : Shape := ⟨2, ![64, 512]⟩
abbrev S8x128 : Shape := ⟨2, ![8, 128]⟩
abbrev S1x1x128x128 : Shape := ⟨4, ![1, 1, 128, 128]⟩
abbrev S128x128 : Shape := ⟨2, ![128, 128]⟩
abbrev S8x8 : Shape := ⟨2, ![8, 8]⟩
abbrev S8 : Shape := ⟨1, ![8]⟩
abbrev S8x1 : Shape := ⟨2, ![8, 1]⟩

abbrev nBuf : Space → Nat
  | .hbm => 29
  | .vmem => 16
  | .smem => 0
  | _ => 0

abbrev bufTy : (tb : Table) → Fin (tcTables nBuf tb) → BufTy
  | .hbm, ⟨0, _⟩ => ⟨S64x8192, .f32⟩
  | .hbm, ⟨1, _⟩ => ⟨S2x512, .f32⟩
  | .hbm, ⟨2, _⟩ => ⟨S1x128, .f32⟩
  | .hbm, ⟨3, _⟩ => ⟨S1x8x4x128x128, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S_, .f32⟩
  | .hbm, ⟨19, _⟩ => ⟨S_, .f32⟩
  | .hbm, ⟨20, _⟩ => ⟨S2x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S128, .f32⟩
  | .hbm, ⟨25, _⟩ => ⟨S1x128, .f32⟩
  | .hbm, ⟨26, _⟩ => ⟨S8x4x128x128, .f32⟩
  | .hbm, ⟨27, _⟩ => ⟨S64x512, .f32⟩
  | .hbm, ⟨28, _⟩ => ⟨S8x4x128x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x1x128x128, .f32⟩
  | .local _ .vmem, ⟨10, _⟩ => ⟨S1x1x128x128, .f32⟩
  | .local _ .vmem, ⟨11, _⟩ => ⟨S8x128, .f32⟩
  | .local _ .vmem, ⟨12, _⟩ => ⟨S8x128, .f32⟩
  | .local _ .vmem, ⟨13, _⟩ => ⟨S1x1x128x128, .f32⟩
  | .local _ .vmem, ⟨14, _⟩ => ⟨S1x1x128x128, .f32⟩
  | .local _ .vmem, ⟨15, _⟩ => ⟨S128x128, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c8_i32 : BitVec 32 := 8#32
  let v16 : BitVec 32 := Scalar.muli c0_i32 c8_i32
  v16
def k0_off1 : Fin 2 → Nat :=
  let c0_i32 : BitVec 32 := 0#32
  let c8_i32 : BitVec 32 := 8#32
  let v16 : BitVec 32 := Scalar.muli c0_i32 c8_i32
  let v17 : BitVec 32 := v16
  let v18 : Index := Scalar.indexCast v17
  let c0_10 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== XHgrnIdeal.lean ====
abbrev S64x8192 : Shape := ⟨2, ![64, 8192]⟩
abbrev S2x512 : Shape := ⟨2, ![2, 512]⟩
abbrev S1x128 : Shape := ⟨2, ![1, 128]⟩
abbrev S1x8x4x128x128 : Shape := ⟨5, ![1, 8, 4, 128, 128]⟩
abbrev S_ : Shape := ⟨0, ![]⟩
abbrev S512 : Shape := ⟨1, ![512]⟩
abbrev S1x512 : Shape := ⟨2, ![1, 512]⟩
abbrev S64x512 : Shape := ⟨2, ![64, 512]⟩
abbrev S8x8x512 : Shape := ⟨3, ![8, 8, 512]⟩
abbrev S8x8x4x128 : Shape := ⟨4, ![8, 8, 4, 128]⟩
abbrev S1x1x512 : Shape := ⟨3, ![1, 1, 512]⟩
abbrev S8x8 : Shape := ⟨2, ![8, 8]⟩
abbrev S8x4x128x128 : Shape := ⟨4, ![8, 4, 128, 128]⟩
abbrev S8x8x1x4x128 : Shape := ⟨5, ![8, 8, 1, 4, 128]⟩
abbrev S8x1x8x4x128 : Shape := ⟨5, ![8, 1, 8, 4, 128]⟩
abbrev S8x8x8x4x128 : Shape := ⟨5, ![8, 8, 8, 4, 128]⟩
abbrev S1x8x8x1x1 : Shape := ⟨5, ![1, 8, 8, 1, 1]⟩
abbrev S8x4x8x8 : Shape := ⟨4, ![8, 4, 8, 8]⟩
abbrev S8x4x128x8 : Shape := ⟨4, ![8, 4, 128, 8]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x8x4 : Shape := ⟨3, ![8, 8, 4]⟩
abbrev S8x8x4x1 : Shape := ⟨4, ![8, 8, 4, 1]⟩
abbrev S128 : Shape := ⟨1, ![128]⟩
abbrev S1x1x1x128 : Shape := ⟨4, ![1, 1, 1, 128]⟩

abbrev nBuf : Space → Nat
  | .hbm => 132
  | .vmem => 0
  | .smem => 0
  | _ => 0

abbrev hbmTy0_0 (i : Nat) : BufTy := match i % 128 with
  | 0 => ⟨S64x8192, .f32⟩
  | 1 => ⟨S2x512, .f32⟩
  | 2 => ⟨S1x128, .f32⟩
  | 3 => ⟨S1x8x4x128x128, .f32⟩
  | 4 => ⟨S_, .f32⟩
  | 5 => ⟨S512, .f32⟩
  | 6 => ⟨S_, .f32⟩
  | 7 => ⟨S512, .f32⟩
  | 8 => ⟨S512, .f32⟩
  | 9 => ⟨S1x512, .f32⟩
  | 10 => ⟨S2x512, .f32⟩
  | 11 => ⟨S2x512, .f32⟩
  | 12 => ⟨S2x512, .f32⟩
  | 13 => ⟨S_, .f32⟩
  | 14 => ⟨S512, .f32⟩
  | 15 => ⟨S1x512, .f32⟩
  | 16 => ⟨S2x512, .f32⟩
  | 17 => ⟨S2x512, .f32⟩
  | 18 => ⟨S_, .f32⟩
  | 19 => ⟨S_, .f32⟩
  | 20 => ⟨S2x512, .f32⟩
  | 21 => ⟨S1x512, .f32⟩
  | 22 => ⟨S512, .f32⟩
  | 23 => ⟨S64x512, .f32⟩
  | 24 => ⟨S8x8x512, .f32⟩
  | 25 => ⟨S64x512, .f32⟩
  | 26 => ⟨S8x8x512, .f32⟩
  | 27 => ⟨S64x512, .f32⟩
  | 28 => ⟨S8x8x512, .f32⟩
  | 29 => ⟨S8x8x512, .f32⟩
  | 30 => ⟨S8x8x512, .f32⟩
  | 31 => ⟨S_, .f32⟩
  | 32 => ⟨S8x8x512, .f32⟩
  | 33 => ⟨S8x8x512, .f32⟩
  | 34 => ⟨S_, .f32⟩
  | 35 => ⟨S8x8x512, .f32⟩
  | 36 => ⟨S8x8x512, .f32⟩
  | 37 => ⟨S8x8x512, .f32⟩
  | 38 => ⟨S8x8x4x128, .f32⟩
  | 39 => ⟨S_, .f32⟩
  | 40 => ⟨S512, .f32⟩
  | 41 => ⟨S512, .f32⟩
  | 42 => ⟨S8x8x512, .f32⟩
  | 43 => ⟨S8x8x512, .f32⟩
  | 44 => ⟨S_, .f32⟩
  | 45 => ⟨S8x8x512, .f32⟩
  | 46 => ⟨S8x8x512, .f32⟩
  | 47 => ⟨S_, .f32⟩
  | 48 => ⟨S8x8x512, .f32⟩
  | 49 => ⟨S8x8x512, .f32⟩
  | 50 => ⟨S1x1x512, .f32⟩
  | 51 => ⟨S8x8x512, .f32⟩
  | 52 => ⟨S8x8x512, .f32⟩
  | 53 => ⟨S1x1x512, .f32⟩
  | 54 => ⟨S8x8x512, .f32⟩
  | 55 => ⟨S8x8x512, .f32⟩
  | 56 => ⟨S8x8x512, .f32⟩
  | 57 => ⟨S8x8x4x128, .f32⟩
  | 58 => ⟨S_, .f32⟩
  | 59 => ⟨S8x8x512, .f32⟩
  | 60 => ⟨S8x8x512, .f32⟩
  | 61 => ⟨S8x8x4x128, .f32⟩
  | 62 => ⟨S8x8x4x128, .f32⟩
  | 63 => ⟨S_, .i1⟩
  | 64 => ⟨S8x8, .i1⟩
  | 65 => ⟨S8x8, .i32⟩
  | 66 => ⟨S_, .i32⟩
  | 67 => ⟨S8x8, .i32⟩
  | 68 => ⟨S8x8, .i32⟩
  | 69 => ⟨S8x8, .i32⟩
  | 70 => ⟨S8x8, .i1⟩
  | 71 => ⟨S_, .i1⟩
  | 72 => ⟨S8x8, .i1⟩
  | 73 => ⟨S8x8, .i1⟩
  | 74 => ⟨S8x4x128x128, .f32⟩
  | 75 => ⟨S_, .f32⟩
  | 76 => ⟨S_, .f32⟩
  | 77 => ⟨S8x8x4x128, .f32⟩
  | 78 => ⟨S8x8x1x4x128, .f32⟩
  | 79 => ⟨S8x1x8x4x128, .f32⟩
  | 80 => ⟨S8x8x8x4x128, .f32⟩
  | 81 => ⟨S8x8x8x4x128, .f32⟩
  | 82 => ⟨S8x8x8x4x128, .f32⟩
  | 83 => ⟨S1x8x8x1x1, .i1⟩
  | 84 => ⟨S_, .f32⟩
  | 85 => ⟨S_, .f32⟩
  | 86 => ⟨S8x8x8x4x128, .i1⟩
  | 87 => ⟨S8x8x8x4x128, .f32⟩
  | 88 => ⟨S8x8x8x4x128, .f32⟩
  | 89 => ⟨S8x8x8x4x128, .f32⟩
  | 90 => ⟨S8x1x8x4x128, .f32⟩
  | 91 => ⟨S8x8x8x4x128, .f32⟩
  | 92 => ⟨S8x8x8x4x128, .f32⟩
  | 93 => ⟨S8x4x8x8, .f32⟩
  | 94 => ⟨S8x4x128x8, .f32⟩
  | 95 => ⟨S8x8x4x128, .f32⟩
  | 96 => ⟨S8x8x4x128, .f32⟩
  | 97 => ⟨S8x8x4x128, .f32⟩
  | 98 => ⟨S8x4x128x8, .f32⟩
  | 99 => ⟨S8x8x4x128, .f32⟩
  | 100 => ⟨S8x8x4x128, .f32⟩
  | 101 => ⟨S8x1x4x128, .f32⟩
  | 102 => ⟨S8x4x128, .f32⟩
  | 103 => ⟨S8x1x4x128, .f32⟩
  | 104 => ⟨S8x8x4x128, .f32⟩
  | 105 => ⟨S8x8x4x128, .f32⟩
  | 106 => ⟨S8x8x4x128, .f32⟩
  | 107 => ⟨S8x8x4x128, .f32⟩
  | 108 => ⟨S8x4x128, .f32⟩
  | 109 => ⟨S8x4x128x1, .f32⟩
  | 110 => ⟨S8x4x128x128, .f32⟩
  | 111 => ⟨S8x4x128x128, .f32⟩
  | 112 => ⟨S8x4x128x128, .f32⟩
  | 113 => ⟨S8x4x128x128, .f32⟩
  | 114 => ⟨S8x8x4x128, .f32⟩
  | 115 => ⟨S_, .f32⟩
  | 116 => ⟨S8x8x4, .f32⟩
  | 117 => ⟨S8x8x4x1, .f32⟩
  | 118 => ⟨S_, .f32⟩
  | 119 => ⟨S8x8x4x1, .f32⟩
  | 120 => ⟨S8x8x4x1, .f32⟩
  | 121 => ⟨S_, .f32⟩
  | 122 => ⟨S8x8x4x1, .f32⟩
  | 123 => ⟨S8x8x4x1, .f32⟩
  | 124 => ⟨S8x8x4x1, .f32⟩
  | 125 => ⟨S8x8x4x128, .f32⟩
  | 126 => ⟨S8x8x4x128, .f32⟩
  | 127 => ⟨S128, .f32⟩
  | _ => ⟨S64x8192, .f32⟩

abbrev hbmTy0_1 (i : Nat) : BufTy := match i % 128 with
  | 0 => ⟨S1x1x1x128, .f32⟩
  | 1 => ⟨S8x8x4x128, .f32⟩
  | 2 => ⟨S8x8x4x128, .f32⟩
  | 3 => ⟨S64x512, .f32⟩
  | _ => ⟨S64x8192, .f32⟩

abbrev hbmTy (i : Nat) : BufTy := match i / 128 with
  | 0 => hbmTy0_0 i
  | 1 => hbmTy0_1 i
  | _ => ⟨S64x8192, .f32⟩

abbrev bufTy : (tb : Table) → Fin (tcTables nBuf tb) → BufTy
  | .hbm, ⟨i, _⟩ => hbmTy i
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c : Ref sig .tc := ⟨.hbm, 63, rfl⟩
abbrev main_v42 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_0 : Ref sig .tc := ⟨.hbm, 71, rfl⟩
abbrev main_call2_v5 : Ref sig .tc := ⟨.hbm, 72, rfl⟩
abbrev main_v43 : Ref sig .tc := ⟨.hbm, 73, rfl⟩
abbrev main_v44 : Ref sig .tc := ⟨.hbm, 74, rfl⟩
abbrev main_call3_call0_cst : Ref sig .tc := ⟨.hbm, 75, rfl⟩
abbrev main_call3_call0_v0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_6 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_7 : Ref sig .tc := ⟨.hbm, 115, rfl⟩
abbrev main_v79 : Ref sig .tc := ⟨.hbm, 116, rfl⟩
abbrev main_v80 : Ref sig .tc := ⟨.hbm, 117, rfl⟩
abbrev main_cst_8 : Ref sig .tc := ⟨.hbm, 118, rfl⟩
abbrev main_v81 : Ref sig .tc := ⟨.hbm, 119, rfl⟩
abbrev main_v82 : Ref sig .tc := ⟨.hbm, 120, rfl⟩
abbrev main_cst_9 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩

abbrev nD : Nat := 1
abbrev τ : Topo := Topo.v7x

variable {F : FTy → Type} [FloatOps F]
-- ==== Prep.lean ====
abbrev S8192x8192 : Shape := ⟨2, ![8192, 8192]⟩
abbrev S8192x128 : Shape := ⟨2, ![8192, 128]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S1x2048x1x128 : Shape := ⟨4, ![1, 2048, 1, 128]⟩
abbrev S8 : Shape := ⟨1, ![8]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S8192x1024 : Shape := ⟨2, ![8192, 1024]⟩
abbrev S8192x64 : Shape := ⟨2, ![8192, 64]⟩
abbrev S256x1024 : Shape := ⟨2, ![256, 1024]⟩
abbrev S256x128 : Shape := ⟨2, ![256, 128]⟩
abbrev S256x64 : Shape := ⟨2, ![256, 64]⟩
abbrev S256x1 : Shape := ⟨2, ![256, 1]⟩

abbrev nBuf : Space → Nat
  | .hbm => 87
  | .vmem => 42
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S2048, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S2048, .f32⟩
  | .hbm, ⟨12, _⟩ => ⟨S2048x1, .f32⟩
  | .hbm, ⟨13, _⟩ => ⟨S1x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S_, .f32⟩
  | .hbm, ⟨20, _⟩ => ⟨S2048x16, .f32⟩
  | .hbm, ⟨21, _⟩ => ⟨S_, .f32⟩
  | .hbm, ⟨22, _⟩ => ⟨S2048x96, .f32⟩
  | .hbm, ⟨23, _⟩ => ⟨S2048x128, .f32⟩
  | .hbm, ⟨24, _⟩ => ⟨S2048x16, .f32⟩
  | .hbm, ⟨25, _⟩ => ⟨S_, .f32⟩
  | .hbm, ⟨26, _⟩ => ⟨S2048x96, .f32⟩
  | .hbm, ⟨27, _⟩ => ⟨S2048x128, .f32⟩
  | .hbm, ⟨28, _⟩ => ⟨S_, .f32⟩
  | .hbm, ⟨29, _⟩ => ⟨S2048x96, .f32⟩
  | .hbm, ⟨30, _⟩ => ⟨S2048x128, .f32⟩
  | .hbm, ⟨31, _⟩ => ⟨S1x2048x1x128, .f32⟩
  | .hbm, ⟨32, _⟩ => ⟨S1x2048x1x128, .f32⟩
  | .hbm, ⟨33, _⟩ => ⟨S2048x128, .f32⟩
  | .hbm, ⟨34, _⟩ => ⟨S1x2048x1x128, .f32⟩
  | .hbm, ⟨35, _⟩ => ⟨S1x2048x1x128, .f32⟩
  | .hbm, ⟨36, _⟩ => ⟨S2048x128, .f32⟩
  | .hbm, ⟨37, _⟩ => ⟨S1x2048x1x128, .f32⟩
  | .hbm, ⟨38, _⟩ => ⟨S1x2048x1x128, .f32⟩
  | .hbm, ⟨39, _⟩ => ⟨S2048x128, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S2048, .f32⟩
  | .hbm, ⟨49, _⟩ => ⟨S2048x1, .f32⟩
  | .hbm, ⟨50, _⟩ => ⟨S1x8, .f32⟩
  | .hbm, ⟨51, _⟩ => ⟨S2048x8, .f32⟩
  | .hbm, ⟨52, _⟩ => ⟨S2048x8, .f32⟩
  | .hbm, ⟨53, _⟩ => ⟨S2048x8, .f32⟩
  | .hbm, ⟨54, _⟩ => ⟨S2048x8, .f32⟩
  | .hbm, ⟨55, _⟩ => ⟨S2048x8, .f32⟩
  | .hbm, ⟨56, _⟩ => ⟨S_, .f32⟩
  | .hbm, ⟨57, _⟩ => ⟨S2048x8, .f32⟩
  | .hbm, ⟨58, _⟩ => ⟨S_, .f32⟩
  | .hbm, ⟨59, _⟩ => ⟨S2048x48, .f32⟩
  | .hbm, ⟨60, _⟩ => ⟨S2048x64, .f32⟩
  | .hbm, ⟨61, _⟩ => ⟨S2048x8, .f32⟩
  | .hbm, ⟨62, _⟩ => ⟨S_, .f32⟩
  | .hbm, ⟨63, _⟩ => ⟨S2048x48, .f32⟩
  | .hbm, ⟨64, _⟩ => ⟨S2048x64, .f32⟩
  | .hbm, ⟨65, _⟩ => ⟨S_, .f32⟩
  | .hbm, ⟨66, _⟩ => ⟨S2048x48, .f32⟩
  | .hbm, ⟨67, _⟩ => ⟨S2048x64, .f32⟩
  | .hbm, ⟨68, _⟩ => ⟨S1x2048x1x64, .f32⟩
  | .hbm, ⟨69, _⟩ => ⟨S1x2048x2x64, .f32⟩
  | .hbm, ⟨70, _⟩ => ⟨S2048x128, .f32⟩
  | .hbm, ⟨71, _⟩ => ⟨S1x2048x1x64, .f32⟩
  | .hbm, ⟨72, _⟩ => ⟨S1x2048x2x64, .f32⟩
  | .hbm, ⟨73, _⟩ => ⟨S2048x128, .f32⟩
  | .hbm, ⟨74, _⟩ => ⟨S1x2048x1x64, .f32⟩
  | .hbm, ⟨75, _⟩ => ⟨S1x2048x2x64, .f32⟩
  | .hbm, ⟨76, _⟩ => ⟨S2048x128, .f32⟩
  | .hbm, ⟨77, _⟩ => ⟨S8192x1024, .bf16⟩
  | .hbm, ⟨78, _⟩ => ⟨S8192x1024, .f32⟩
  | .hbm, ⟨79, _⟩ => ⟨S8192x1024, .bf16⟩
  | .hbm, ⟨80, _⟩ => ⟨S8192x1024, .f32⟩
  | .hbm, ⟨81, _⟩ => ⟨S8192x1024, .bf16⟩
  | .hbm, ⟨82, _⟩ => ⟨S8192x1024, .bf16⟩
  | .hbm, ⟨83, _⟩ => ⟨S8192x128, .f32⟩
  | .hbm, ⟨84, _⟩ => ⟨S8192x64, .f32⟩
  | .hbm, ⟨85, _⟩ => ⟨S8192x128, .bf16⟩
  | .hbm, ⟨86, _⟩ => ⟨S8192x128, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .f32⟩
  | .local _ .vmem, ⟨29, _⟩ => ⟨S256x1024, .f32⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x128, .f32⟩
  | .local _ .vmem, ⟨35, _⟩ => ⟨S256x128, .f32⟩
  | .local _ .vmem, ⟨36, _⟩ => ⟨S256x64, .f32⟩
  | .local _ .vmem, ⟨37, _⟩ => ⟨S256x64, .f32⟩
  | .local _ .vmem, ⟨38, _⟩ => ⟨S256x128, .bf16⟩
  | .local _ .vmem, ⟨39, _⟩ => ⟨S256x128, .bf16⟩
  | .local _ .vmem, ⟨40, _⟩ => ⟨S256x128, .bf16⟩
  | .local _ .vmem, ⟨41, _⟩ => ⟨S256x128, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_9 : Ref sig .tc := ⟨.hbm, 62, rfl⟩
abbrev main_v50 : Ref sig .tc := ⟨.hbm, 63, rfl⟩
abbrev main_v51 : Ref sig .tc := ⟨.hbm, 64, rfl⟩
abbrev main_cst_10 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63_0 : Ref sig .tc := ⟨.hbm, 77, rfl⟩
abbrev main_v63_1 : Ref sig .tc := ⟨.hbm, 78, rfl⟩
abbrev main_v63_2 : Ref sig .tc := ⟨.hbm, 79, rfl⟩
abbrev main_v63_3 : Ref sig .tc := ⟨.hbm, 80, rfl⟩
abbrev main_v63_4 : Ref sig .tc := ⟨.hbm, 81, rfl⟩
abbrev main_v63_5 : Ref sig .tc := ⟨.hbm, 82, rfl⟩
abbrev main_v63_6 : Ref sig .tc := ⟨.hbm, 83, rfl⟩
abbrev main_v63_7 : Ref sig .tc := ⟨.hbm, 84, rfl⟩
abbrev main_v63_8 : Ref sig .tc := ⟨.hbm, 85, rfl⟩
abbrev main_v63_9 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== PrepIdeal.lean ====
variable {F : FTy → Type} [FloatOps F]
-- ==== XPrepIdeal.lean ====
abbrev S8192x8192 : Shape := ⟨2, ![8192, 8192]⟩
abbrev S8192x128 : Shape := ⟨2, ![8192, 128]⟩
abbrev S2048 : Shape := ⟨1, ![2048]⟩
abbrev S8192x1024 : Shape := ⟨2, ![8192, 1024]⟩
abbrev S4x2048x8x128 : Shape := ⟨4, ![4, 2048, 8, 128]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x8x32 : Shape := ⟨4, ![4, 2048, 8, 32]⟩
abbrev S4x2048x8x16 : Shape := ⟨4, ![4, 2048, 8, 16]⟩
abbrev S1x2048x1x16 : Shape := ⟨4, ![1, 2048, 1, 16]⟩
abbrev S4x2048x8x96 : Shape := ⟨4, ![4, 2048, 8, 96]⟩
abbrev S4x2048x16x64 : Shape := ⟨4, ![4, 2048, 16, 64]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S4x2048x16x16 : Shape := ⟨4, ![4, 2048, 16, 16]⟩
abbrev S4x2048x16x8 : Shape := ⟨4, ![4, 2048, 16, 8]⟩
abbrev S1x2048x1x8 : Shape := ⟨4, ![1, 2048, 1, 8]⟩
abbrev S4x2048x16x48 : Shape := ⟨4, ![4, 2048, 16, 48]⟩
abbrev S8192x16x64 : Shape := ⟨3, ![8192, 16, 64]⟩
abbrev S8192x64 : Shape := ⟨2, ![8192, 64]⟩
abbrev S4x2048x1x64 : Shape := ⟨4, ![4, 2048, 1, 64]⟩
abbrev S4x2048x1x16 : Shape := ⟨4, ![4, 2048, 1, 16]⟩
abbrev S4x2048x1x8 : Shape := ⟨4, ![4, 2048, 1, 8]⟩
abbrev S4x2048x1x48 : Shape := ⟨4, ![4, 2048, 1, 48]⟩
abbrev S4x2048x64 : Shape := ⟨3, ![4, 2048, 64]⟩
abbrev S8192x16 : Shape := ⟨2, ![8192, 16]⟩
abbrev S8192x16x1 : Shape := ⟨3, ![8192, 16, 1]⟩

abbrev nBuf : Space → Nat
  | .hbm => 195
  | .vmem => 0
  | .smem => 0
  | _ => 0

abbrev hbmTy0_0 (i : Nat) : BufTy := match i % 128 with
  | 0 => ⟨S8192x8192, .f32⟩
  | 1 => ⟨S8192x128, .f32⟩
  | 2 => ⟨S2048, .i32⟩
  | 3 => ⟨S8192x1024, .f32⟩
  | 4 => ⟨S4x2048x8x128, .f32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S2048, .f32⟩
  | 14 => ⟨S2048x1, .f32⟩
  | 15 => ⟨S1x16, .f32⟩
  | 16 => ⟨S2048x16, .f32⟩
  | 17 => ⟨S2048x16, .f32⟩
  | 18 => ⟨S2048x16, .f32⟩
  | 19 => ⟨S2048x16, .f32⟩
  | 20 => ⟨S2048x1x16, .f32⟩
  | 21 => ⟨S2048x16, .f32⟩
  | 22 => ⟨S2048x1x16, .f32⟩
  | 23 => ⟨S4x2048x8x32, .f32⟩
  | 24 => ⟨S4x2048x8x16, .f32⟩
  | 25 => ⟨S4x2048x8x16, .f32⟩
  | 26 => ⟨S1x2048x1x16, .f32⟩
  | 27 => ⟨S4x2048x8x16, .f32⟩
  | 28 => ⟨S4x2048x8x16, .f32⟩
  | 29 => ⟨S1x2048x1x16, .f32⟩
  | 30 => ⟨S4x2048x8x16, .f32⟩
  | 31 => ⟨S4x2048x8x16, .f32⟩
  | 32 => ⟨S4x2048x8x16, .f32⟩
  | 33 => ⟨S1x2048x1x16, .f32⟩
  | 34 => ⟨S4x2048x8x16, .f32⟩
  | 35 => ⟨S4x2048x8x16, .f32⟩
  | 36 => ⟨S1x2048x1x16, .f32⟩
  | 37 => ⟨S4x2048x8x16, .f32⟩
  | 38 => ⟨S4x2048x8x16, .f32⟩
  | 39 => ⟨S4x2048x8x16, .f32⟩
  | 40 => ⟨S4x2048x8x32, .f32⟩
  | 41 => ⟨S4x2048x8x96, .f32⟩
  | 42 => ⟨S4x2048x8x128, .f32⟩
  | 43 => ⟨S8192x1024, .f32⟩
  | 44 => ⟨S8192x1024, .f32⟩
  | 45 => ⟨S4x2048x8x128, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S2048, .f32⟩
  | 55 => ⟨S2048x1, .f32⟩
  | 56 => ⟨S1x16, .f32⟩
  | 57 => ⟨S2048x16, .f32⟩
  | 58 => ⟨S2048x16, .f32⟩
  | 59 => ⟨S2048x16, .f32⟩
  | 60 => ⟨S2048x16, .f32⟩
  | 61 => ⟨S2048x1x16, .f32⟩
  | 62 => ⟨S2048x16, .f32⟩
  | 63 => ⟨S2048x1x16, .f32⟩
  | 64 => ⟨S4x2048x8x32, .f32⟩
  | 65 => ⟨S4x2048x8x16, .f32⟩
  | 66 => ⟨S4x2048x8x16, .f32⟩
  | 67 => ⟨S1x2048x1x16, .f32⟩
  | 68 => ⟨S4x2048x8x16, .f32⟩
  | 69 => ⟨S4x2048x8x16, .f32⟩
  | 70 => ⟨S1x2048x1x16, .f32⟩
  | 71 => ⟨S4x2048x8x16, .f32⟩
  | 72 => ⟨S4x2048x8x16, .f32⟩
  | 73 => ⟨S4x2048x8x16, .f32⟩
  | 74 => ⟨S1x2048x1x16, .f32⟩
  | 75 => ⟨S4x2048x8x16, .f32⟩
  | 76 => ⟨S4x2048x8x16, .f32⟩
  | 77 => ⟨S1x2048x1x16, .f32⟩
  | 78 => ⟨S4x2048x8x16, .f32⟩
  | 79 => ⟨S4x2048x8x16, .f32⟩
  | 80 => ⟨S4x2048x8x16, .f32⟩
  | 81 => ⟨S4x2048x8x32, .f32⟩
  | 82 => ⟨S4x2048x8x96, .f32⟩
  | 83 => ⟨S4x2048x8x128, .f32⟩
  | 84 => ⟨S8192x1024, .f32⟩
  | 85 => ⟨S8192x1024, .f32⟩
  | 86 => ⟨S8192x1024, .f32⟩
  | 87 => ⟨S4x2048x16x64, .f32⟩
  | 88 => ⟨S8, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S2048, .f32⟩
  | 97 => ⟨S2048x1, .f32⟩
  | 98 => ⟨S1x8, .f32⟩
  | 99 => ⟨S2048x8, .f32⟩
  | 100 => ⟨S2048x8, .f32⟩
  | 101 => ⟨S2048x8, .f32⟩
  | 102 => ⟨S2048x8, .f32⟩
  | 103 => ⟨S2048x1x8, .f32⟩
  | 104 => ⟨S2048x8, .f32⟩
  | 105 => ⟨S2048x1x8, .f32⟩
  | 106 => ⟨S4x2048x16x16, .f32⟩
  | 107 => ⟨S4x2048x16x8, .f32⟩
  | 108 => ⟨S4x2048x16x8, .f32⟩
  | 109 => ⟨S1x2048x1x8, .f32⟩
  | 110 => ⟨S4x2048x16x8, .f32⟩
  | 111 => ⟨S4x2048x16x8, .f32⟩
  | 112 => ⟨S1x2048x1x8, .f32⟩
  | 113 => ⟨S4x2048x16x8, .f32⟩
  | 114 => ⟨S4x2048x16x8, .f32⟩
  | 115 => ⟨S4x2048x16x8, .f32⟩
  | 116 => ⟨S1x2048x1x8, .f32⟩
  | 117 => ⟨S4x2048x16x8, .f32⟩
  | 118 => ⟨S4x2048x16x8, .f32⟩
  | 119 => ⟨S1x2048x1x8, .f32⟩
  | 120 => ⟨S4x2048x16x8, .f32⟩
  | 121 => ⟨S4x2048x16x8, .f32⟩
  | 122 => ⟨S4x2048x16x8, .f32⟩
  | 123 => ⟨S4x2048x16x16, .f32⟩
  | 124 => ⟨S4x2048x16x48, .f32⟩
  | 125 => ⟨S4x2048x16x64, .f32⟩
  | 126 => ⟨S8192x16x64, .f32⟩
  | 127 => ⟨S8192x64, .f32⟩
  | _ => ⟨S8192x8192, .f32⟩

abbrev hbmTy0_1 (i : Nat) : BufTy := match i % 128 with
  | 0 => ⟨S4x2048x1x64, .f32⟩
  | 1 => ⟨S8, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S2048, .f32⟩
  | 10 => ⟨S2048x1, .f32⟩
  | 11 => ⟨S1x8, .f32⟩
  | 12 => ⟨S2048x8, .f32⟩
  | 13 => ⟨S2048x8, .f32⟩
  | 14 => ⟨S2048x8, .f32⟩
  | 15 => ⟨S2048x8, .f32⟩
  | 16 => ⟨S2048x1x8, .f32⟩
  | 17 => ⟨S2048x8, .f32⟩
  | 18 => ⟨S2048x1x8, .f32⟩
  | 19 => ⟨S4x2048x1x16, .f32⟩
  | 20 => ⟨S4x2048x1x8, .f32⟩
  | 21 => ⟨S4x2048x1x8, .f32⟩
  | 22 => ⟨S1x2048x1x8, .f32⟩
  | 23 => ⟨S4x2048x1x8, .f32⟩
  | 24 => ⟨S4x2048x1x8, .f32⟩
  | 25 => ⟨S1x2048x1x8, .f32⟩
  | 26 => ⟨S4x2048x1x8, .f32⟩
  | 27 => ⟨S4x2048x1x8, .f32⟩
  | 28 => ⟨S4x2048x1x8, .f32⟩
  | 29 => ⟨S1x2048x1x8, .f32⟩
  | 30 => ⟨S4x2048x1x8, .f32⟩
  | 31 => ⟨S4x2048x1x8, .f32⟩
  | 32 => ⟨S1x2048x1x8, .f32⟩
  | 33 => ⟨S4x2048x1x8, .f32⟩
  | 34 => ⟨S4x2048x1x8, .f32⟩
  | 35 => ⟨S4x2048x1x8, .f32⟩
  | 36 => ⟨S4x2048x1x16, .f32⟩
  | 37 => ⟨S4x2048x1x48, .f32⟩
  | 38 => ⟨S4x2048x1x64, .f32⟩
  | 39 => ⟨S4x2048x64, .f32⟩
  | 40 => ⟨S8192x64, .f32⟩
  | 41 => ⟨S8192x16, .f32⟩
  | 42 => ⟨S_, .f32⟩
  | 43 => ⟨S8192x1024, .f32⟩
  | 44 => ⟨S8192x1024, .f32⟩
  | 45 => ⟨S8192x1024, .bf16⟩
  | 46 => ⟨S8192x16, .f32⟩
  | 47 => ⟨S_, .f32⟩
  | 48 => ⟨S8192x16, .f32⟩
  | 49 => ⟨S8192x16, .f32⟩
  | 50 => ⟨S8192x16x1, .f32⟩
  | 51 => ⟨S8192x16x64, .f32⟩
  | 52 => ⟨S8192x16x64, .f32⟩
  | 53 => ⟨S8192x1024, .f32⟩
  | 54 => ⟨S8192x1024, .bf16⟩
  | 55 => ⟨S8192x64, .f32⟩
  | 56 => ⟨S8192x64, .f32⟩
  | 57 => ⟨S8192x128, .f32⟩
  | 58 => ⟨S8192x128, .f32⟩
  | 59 => ⟨S_, .bf16⟩
  | 60 => ⟨S8192x64, .bf16⟩
  | 61 => ⟨S8192x64, .bf16⟩
  | 62 => ⟨S8192x128, .bf16⟩
  | 63 => ⟨S8192x64, .bf16⟩
  | 64 => ⟨S8192x128, .bf16⟩
  | 65 => ⟨S8192x1024, .bf16⟩
  | 66 => ⟨S8192x1024, .bf16⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_cst_1 : Ref sig .tc := ⟨.hbm, 48, rfl⟩
abbrev main_v44 : Ref sig .tc := ⟨.hbm, 49, rfl⟩
abbrev main_v45 : Ref sig .tc := ⟨.hbm, 50, rfl⟩
abbrev main_cst_2 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_cst_3 : Ref sig .tc := ⟨.hbm, 90, rfl⟩
abbrev main_v84 : Ref sig .tc := ⟨.hbm, 91, rfl⟩
abbrev main_v85 : Ref sig .tc := ⟨.hbm, 92, rfl⟩
abbrev main_cst_4 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_cst_5 : Ref sig .tc := ⟨.hbm, 131, rfl⟩
abbrev main_v123 : Ref sig .tc := ⟨.hbm, 132, rfl⟩
abbrev main_v124 : Ref sig .tc := ⟨.hbm, 133, rfl⟩
abbrev main_cst_6 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_cst_7 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_cst_8 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_cst_9 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩

abbrev nD : Nat := 1
abbrev τ : Topo := Topo.v7x

variable {F : FTy → Type} [FloatOps F]
-- ==== Proof.Extended.lean ====
/- Facts about the extended reals that the value modules share: a real factor that is not negative passes through a sum,
   a maximum of finitely many reals is a real, and the constants the programs print. -/
module

public import Idealize.ShloMosaic.Lib.Pointwise

@[expose] public section

noncomputable section

namespace Cert.Extended

open Idealize.ShloMosaic

/-- A real factor that is not negative distributes over any sum of extended reals, infinite terms included. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- An extended real that is neither infinity is a real. -/
theorem exists_real {x : EReal} (h1 : x ≠ ⊥) (h2 : x ≠ ⊤) : ∃ r : ℝ, x = (r : EReal) :=
  ⟨x.toReal, (EReal.coe_toReal h2 h1).symm⟩

/-- A sum of reals is a real: the sum of the real parts. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The running maximum of reals, started at minus infinity, is a real once there is a term. -/
theorem fold_max_real {ι : Type} [Fintype ι] [Nonempty ι] (f : ι → ℝ) :
    ∃ r : ℝ, Finset.univ.fold max (⊥ : EReal) (fun i => (f i : EReal)) = (r : EReal) := by
  have key : Finset.univ.fold max (⊥ : EReal) (fun i => (f i : EReal)) = Finset.univ.sup fun i => (f i : EReal) := rfl
  rw [key]
  obtain ⟨i, -, hi⟩ := Finset.exists_mem_eq_sup Finset.univ Finset.univ_nonempty (fun i => (f i : EReal))
  exact ⟨f i, hi⟩

/-- The f32 pattern of minus infinity. -/
theorem f32_bot : Ideal.ofBits .f32 0xFF800000#32 = ⊥ := by simp [Ideal.ofBits, Ideal.ieee]

/-- The f32 pattern of plus infinity. -/
theorem f32_top : Ideal.ofBits .f32 0x7F800000#32 = ⊤ := by simp [Ideal.ofBits, Ideal.ieee]

/-- Division by a positive real is the product with its reciprocal. -/
theorem div_real (x : EReal) (r : ℝ) (hr : 0 < r) : Ideal.div x (r : EReal) = x * ((r⁻¹ : ℝ) : EReal) := by
  unfold Ideal.div
  rw [if_neg (by exact_mod_cast hr.ne'), EReal.coe_inv]

/-- The scale the attention multiplies its scores by, `128 ^ (-1/2)` rounded to f32, is a positive real. -/
theorem scale_real : ∃ r : ℝ, 0 < r ∧ Ideal.ofBits .f32 0x3DB504F3#32 = (r : EReal) := by
  refine ⟨(2 : ℝ) ^ (-4 : ℤ) * (1 + 3474675 / 2 ^ 23), by positivity, ?_⟩
  simp [Ideal.ofBits, Ideal.ieee, -EReal.coe_mul]; norm_num

end Cert.Extended

end
-- ==== Proof.Softmax.lean ====
/- The softmax of a row of finite scores, in the two spellings the programs use: the products with the values divided once
   by the sum of the weights, and every weight divided by that sum before the product. -/
module

public import proofs.«01_k».proof.Proof.Extended

@[expose] public section

noncomputable section

namespace Cert.Softmax

open Idealize.ShloMosaic Cert.Extended

/-- Scaling the queries by a real that is not negative scales the scores: no finiteness is needed. -/
theorem scores_scaled {n : ℕ} (q k : Fin n → EReal) (c : ℝ) (hc : 0 ≤ c) :
    ∑ d, (q d * (c : EReal)) * k d = (∑ d, q d * k d) * (c : EReal) := by
  rw [sum_mul_real _ _ c hc]
  exact Finset.sum_congr rfl fun d _ => mul_right_comm _ _ _

/-- A finite sum of products of reals is a real. -/
theorem dot_real {n : ℕ} (q k : Fin n → EReal) (hq : ∀ d, ∃ r : ℝ, q d = r) (hk : ∀ d, ∃ r : ℝ, k d = r) :
    ∃ r : ℝ, ∑ d, q d * k d = (r : EReal) := by
  choose q' hq' using hq
  choose k' hk' using hk
  refine ⟨∑ d, q' d * k' d, ?_⟩
  rw [← sum_coe]
  exact Finset.sum_congr rfl fun d _ => by rw [hq', hk', EReal.coe_mul]

/-- The weights of a row of real scores, shifted by a real, are positive reals, and so is their sum. -/
theorem weights_real {ι : Type} [Fintype ι] [Nonempty ι] (s : ι → EReal) (hs : ∀ n, ∃ r : ℝ, s n = r) (M : ℝ) :
    ∃ p : ι → ℝ, (∀ n, 0 < p n) ∧ (∀ n, Ideal.exp (s n - (M : EReal)) = (p n : EReal))
      ∧ 0 < ∑ n, p n ∧ ∑ n, Ideal.exp (s n - (M : EReal)) = ((∑ n, p n : ℝ) : EReal) := by
  choose r hr using hs
  refine ⟨fun n => Real.exp (r n - M), fun n => Real.exp_pos _, fun n => ?_, ?_, ?_⟩
  · rw [hr, ← EReal.coe_sub]; rfl
  · exact Finset.sum_pos (fun n _ => Real.exp_pos _) Finset.univ_nonempty
  · rw [← sum_coe]
    exact Finset.sum_congr rfl fun n _ => by rw [hr, ← EReal.coe_sub]; rfl

/-- Dividing the weighted sum of the values by the sum of the weights is weighting each value by its share.
    The values may be any extended reals. -/
theorem divide_last {ι : Type} [Fintype ι] [Nonempty ι] (s v : ι → EReal) (hs : ∀ n, ∃ r : ℝ, s n = r) (M : ℝ) :
    Ideal.div (∑ n, Ideal.exp (s n - (M : EReal)) * v n) (∑ n, Ideal.exp (s n - (M : EReal)))
      = ∑ n, v n * Ideal.div (Ideal.exp (s n - (M : EReal))) (∑ n, Ideal.exp (s n - (M : EReal))) := by
  obtain ⟨p, -, -, hl, hsum⟩ := weights_real s hs M
  rw [hsum, div_real _ _ hl, sum_mul_real _ _ _ (inv_nonneg.2 hl.le)]
  refine Finset.sum_congr rfl fun n _ => ?_
  rw [div_real _ _ hl, mul_comm (Ideal.exp _) (v n), mul_assoc]

/-- The largest of a row of real scores, found from minus infinity, is a real. -/
theorem peak_real {n : ℕ} (s : Fin (n + 1) → EReal) (hs : ∀ i, ∃ r : ℝ, s i = r) :
    ∃ M : ℝ, Finset.univ.fold max (⊥ : EReal) s = (M : EReal) := by
  choose r hr using hs
  obtain rfl : s = fun i => (r i : EReal) := funext hr
  exact fold_max_real r

/-- THE ROW: a softmax over `n` scores of `d` lanes, the queries scaled before the product and the division after the
    product with the values, is the softmax of the scaled scores weighting the values. The queries and the keys are real. -/
theorem row {n d : ℕ} (q : Fin d → EReal) (k : Fin (n + 1) → Fin d → EReal) (v : Fin (n + 1) → EReal) (c : ℝ) (hc : 0 < c)
    (hq : ∀ x, ∃ r : ℝ, q x = r) (hk : ∀ i x, ∃ r : ℝ, k i x = r) :
    Ideal.div
        (∑ i, Ideal.exp ((∑ x, (q x * (c : EReal)) * k i x)
          - Finset.univ.fold max (⊥ : EReal) fun j => ∑ x, (q x * (c : EReal)) * k j x) * v i)
        (∑ i, Ideal.exp ((∑ x, (q x * (c : EReal)) * k i x)
          - Finset.univ.fold max (⊥ : EReal) fun j => ∑ x, (q x * (c : EReal)) * k j x))
      = ∑ i, v i * Ideal.div
          (Ideal.exp ((∑ x, q x * k i x) * (c : EReal)
            - max ⊥ (Finset.univ.fold max (⊥ : EReal) fun j => (∑ x, q x * k j x) * (c : EReal))))
          (∑ i, Ideal.exp ((∑ x, q x * k i x) * (c : EReal)
            - max ⊥ (Finset.univ.fold max (⊥ : EReal) fun j => (∑ x, q x * k j x) * (c : EReal)))) := by
  simp only [scores_scaled _ _ c hc.le, bot_sup_eq]
  have hs : ∀ i, ∃ r : ℝ, (∑ x, q x * k i x) * (c : EReal) = (r : EReal) := fun i => by
    obtain ⟨r, hr⟩ := dot_real q (k i) hq (hk i)
    exact ⟨r * c, by rw [hr, EReal.coe_mul]⟩
  obtain ⟨M, hM⟩ := peak_real _ hs
  rw [hM]
  exact divide_last _ v hs M

end Cert.Softmax

end
-- ==== Proof.MemRead.lean ====
/- The memory cross-attention's reference, read at an index: the softmax of a token's scores over the 256 memory slots of
   its sequence, weighting the slots' values. -/
module

public import proofs.«01_k».proof.Proof.Gen.XMemIdeal.Run
public import proofs.«01_k».proof.Proof.Softmax

@[expose] public section

set_option maxRecDepth 16384

noncomputable section

open Idealize.ShloMosaic Idealize.ShloMosaic.TcCoe Idealize.SL.Sem

namespace Cert.XMemIdeal.Value

open Cert.XMemIdeal Cert.XMemIdeal.Gen

/-- The reference's scores: every query against every slot of its sequence, scaled. -/
def scores (z : FVec Ideal S8192x8192 .f32) (w : FVec Ideal S1024x1024 .f32) : FVec Ideal S4x4x2048x256 .f32 :=
  mulf (Host.dotGeneral dot_S4x2048x4x128_S4x256x4x128_S4x4x2048x256_3_3_1_1_02_02 none
      (shapeCast _ (extractStridedSlice S8192x512 ![0, 7168] z slices_S8192x8192_S8192x512_0_7168) shapeCasts_S8192x512_S4x2048x4x128)
      (shapeCast _ (extractStridedSlice S1024x512 ![0, 0] w slices_S1024x1024_S1024x512_0_0) shapeCasts_S1024x512_S4x256x4x128))
    (broadcastInDim S4x4x2048x256 ![] bcast_S_S4x4x2048x256 (constant S_ .f32 0x3DB504F3#32))

/-- The largest score of every row. -/
def peak (s : FVec Ideal S4x4x2048x256 .f32) : FVec Ideal S4x4x2048 .f32 :=
  Host.reduce FloatOps.maximumf s (constant S_ .f32 0xFF800000#32) reducesTo_S4x4x2048x256_S4x4x2048_d3 h_S_

/-- The reference's weights before they are divided by their sum, from the scores and their rows' largest. -/
def weights (s : FVec Ideal S4x4x2048x256 .f32) (p : FVec Ideal S4x4x2048 .f32) : FVec Ideal S4x4x2048x256 .f32 :=
  Host.exp (subf s
    (broadcastInDim S4x4x2048x256 ![0, 1, 2, 3] bcast_S4x4x2048x1_S4x4x2048x256_0_1_2_3
      (broadcastInDim S4x4x2048x1 ![0, 1, 2] bcast_S4x4x2048_S4x4x2048x1_0_1_2
        (maximumf (broadcastInDim S4x4x2048 ![] bcast_S_S4x4x2048 (constant S_ .f32 0xFF800000#32)) p))))

/-- The reference's result over its two arguments. -/
def REF (z : FVec Ideal S8192x8192 .f32) (w : FVec Ideal S1024x1024 .f32) : FVec Ideal S8192x512 .f32 :=
  shapeCast _ (transpose S4x2048x4x128 [0, 3, 1, 2]
    (Host.dotGeneral dot_S4x256x4x128_S4x4x2048x256_S4x4x128x2048_1_3_3_2_02_01 none
      (shapeCast _ (extractStridedSlice S1024x512 ![0, 512] w slices_S1024x1024_S1024x512_0_512) shapeCasts_S1024x512_S4x256x4x128)
      (Host.divf (weights (scores z w) (peak (scores z w)))
        (broadcastInDim S4x4x2048x256 ![0, 1, 2, 3] bcast_S4x4x2048x1_S4x4x2048x256_0_1_2_3
          (broadcastInDim S4x4x2048x1 ![0, 1, 2] bcast_S4x4x2048_S4x4x2048x1_0_1_2
            (Host.reduceAdd (weights (scores z w) (peak (scores z w))) (constant S_ .f32 0x00000000#32) reducesTo_S4x4x2048x256_S4x4x2048_d3 h_S_)))))
    transposes_S4x4x128x2048_S4x2048x4x128_0_3_1_2) shapeCasts_S4x2048x4x128_S8192x512

/-- A score at sequence `b`, head `h`, token `t`, slot `n`. -/
theorem scores_at (z : FVec Ideal S8192x8192 .f32) (w : FVec Ideal S1024x1024 .f32) (b : Fin 4) (h : Fin 4) (t : Fin 2048) (n : Fin 256) :
    scores z w (ix4 b h t n)
      = (∑ d : Fin 128, z (ix2 ⟨b.val * 2048 + t.val, by omega⟩ ⟨7168 + (h.val * 128 + d.val), by omega⟩)
          * w (ix2 ⟨b.val * 256 + n.val, by omega⟩ ⟨h.val * 128 + d.val, by omega⟩)) * Ideal.ofBits .f32 0x3DB504F3#32 := by
  pointwise [scores]

/-- A row's largest score. -/
theorem peak_at (s : FVec Ideal S4x4x2048x256 .f32) (b : Fin 4) (h : Fin 4) (t : Fin 2048) :
    peak s (ix3 b h t) = Finset.univ.fold max (Ideal.ofBits .f32 0xFF800000#32) fun k : Fin 256 => s (ix4 b h t k) := by
  unfold peak
  pointwise

/-- A weight: the exponential of the score minus the row's largest. -/
theorem weights_at (s : FVec Ideal S4x4x2048x256 .f32) (p : FVec Ideal S4x4x2048 .f32) (b : Fin 4) (h : Fin 4) (t : Fin 2048) (n : Fin 256) :
    weights s p (ix4 b h t n)
      = Ideal.exp (s (ix4 b h t n) - max (Ideal.ofBits .f32 0xFF800000#32) (p (ix3 b h t))) := by
  pointwise [weights]

/-- The result at a row and a lane, from the scores of its sequence, head and token. -/
theorem REF_at (z : FVec Ideal S8192x8192 .f32) (w : FVec Ideal S1024x1024 .f32) (i : Fin 8192) (j : Fin 512) :
    REF z w (ix2 i j)
      = ∑ n : Fin 256, w (ix2 ⟨i.val / 2048 * 256 + n.val, by omega⟩ ⟨512 + j.val, by omega⟩)
          * Ideal.div (weights (scores z w) (peak (scores z w)) (ix4 ⟨i.val / 2048, by omega⟩ ⟨j.val / 128, by omega⟩ ⟨i.val % 2048, by omega⟩ n))
              (∑ k : Fin 256, weights (scores z w) (peak (scores z w)) (ix4 ⟨i.val / 2048, by omega⟩ ⟨j.val / 128, by omega⟩ ⟨i.val % 2048, by omega⟩ k)) := by
  pointwise [REF]

/-- The result at a row and a lane as sums over the arguments' elements. -/
theorem REF_row (z : FVec Ideal S8192x8192 .f32) (w : FVec Ideal S1024x1024 .f32) (i : Fin 8192) (j : Fin 512)
    (q : Fin 128 → EReal) (k : Fin 256 → Fin 128 → EReal) (v : Fin 256 → EReal)
    (hq : ∀ d : Fin 128, z (ix2 i ⟨7168 + (j.val / 128 * 128 + d.val), by omega⟩) = q d)
    (hk : ∀ (n : Fin 256) (d : Fin 128), w (ix2 ⟨i.val / 2048 * 256 + n.val, by omega⟩ ⟨j.val / 128 * 128 + d.val, by omega⟩) = k n d)
    (hv : ∀ n : Fin 256, w (ix2 ⟨i.val / 2048 * 256 + n.val, by omega⟩ ⟨512 + j.val, by omega⟩) = v n) :
    REF z w (ix2 i j)
      = ∑ n, v n * Ideal.div
          (Ideal.exp ((∑ x, q x * k n x) * Ideal.ofBits .f32 0x3DB504F3#32
            - max ⊥ (Finset.univ.fold max (⊥ : EReal) fun j => (∑ x, q x * k j x) * Ideal.ofBits .f32 0x3DB504F3#32)))
          (∑ i, Ideal.exp ((∑ x, q x * k i x) * Ideal.ofBits .f32 0x3DB504F3#32
            - max ⊥ (Finset.univ.fold max (⊥ : EReal) fun j => (∑ x, q x * k j x) * Ideal.ofBits .f32 0x3DB504F3#32))) := by
  have hi : ∀ h : i.val / 2048 * 2048 + i.val % 2048 < 8192, (⟨i.val / 2048 * 2048 + i.val % 2048, h⟩ : Fin 8192) = i :=
    fun h => Fin.ext (by show i.val / 2048 * 2048 + i.val % 2048 = i.val; omega)
  have hs : ∀ n : Fin 256, scores z w (ix4 ⟨i.val / 2048, by omega⟩ ⟨j.val / 128, by omega⟩ ⟨i.val % 2048, by omega⟩ n)
      = (∑ x, q x * k n x) * Ideal.ofBits .f32 0x3DB504F3#32 := fun n => by
    rw [scores_at]
    refine congrArg (· * _) (Finset.sum_congr rfl fun d _ => ?_)
    rw [hi, hq, hk]
  have hw : ∀ n : Fin 256, weights (scores z w) (peak (scores z w)) (ix4 ⟨i.val / 2048, by omega⟩ ⟨j.val / 128, by omega⟩ ⟨i.val % 2048, by omega⟩ n)
      = Ideal.exp ((∑ x, q x * k n x) * Ideal.ofBits .f32 0x3DB504F3#32
            - max ⊥ (Finset.univ.fold max (⊥ : EReal) fun j => (∑ x, q x * k j x) * Ideal.ofBits .f32 0x3DB504F3#32)) := fun n => by
    rw [weights_at, peak_at]
    simp only [hs, Cert.Extended.f32_bot]
  rw [REF_at]
  simp only [hw, hv]

end Cert.XMemIdeal.Value
-- ==== Proof.MemValue.lean ====
/- The memory cross-attention: what its pallas_call writes is the reference's softmax attention over the 256 memory
   slots of the token's sequence. -/
module

public import proofs.«01_k».proof.Defs
public import proofs.«01_k».proof.Proof.Gen.MemIdeal.Value
public import proofs.«01_k».proof.Proof.MemRead
public import proofs.«01_k».proof.Proof.Softmax
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemIdeal.Value

open Cert.MemIdeal Cert.MemIdeal.Gen

variable (m : (ℓ : Loc nD τ sig) → Buf (Elt Ideal) ℓ)

/-- Each window's block at a grid point. -/
theorem idx : ∀ t : Fin cfg0.N, win0_0.index t = ![t.val, 14] ∧ win0_1.index t = ![t.val / 4, 0]
    ∧ win0_2.index t = ![t.val / 4, 1] ∧ win0_3.index t = ![t.val, 0] :=
  (by decide +kernel : ∀ t : Fin grid0.N, _)

/-- ONE HEAD: the 128 lanes a head's store holds, read at the array's index, are the reference's attention there. -/
theorem head (c : Dev nD) (t : Fin cfg0.N) (y : S512x512.Idx) (o : ℕ) (ho : o + 128 ≤ 512) (ho' : o % 128 = 0) (r : Fin 512) (l : Fin 128)
    (h0 : (y 0 : ℕ) = r.val) (h1 : (y 1 : ℕ) = o + l.val)
    (hz : ∀ (i : Fin 8192) (d : Fin 512), ∃ r : ℝ, (m ((c : Thread nD τ).loc main_arg0) : FVec Ideal S8192x8192 .f32) (ix2 i ⟨7168 + d.val, by omega⟩) = (r : EReal))
    (hw : ∀ (i : Fin 1024) (d : Fin 512), ∃ r : ℝ, (m ((c : Thread nD τ).loc main_arg1) : FVec Ideal S1024x1024 .f32) (ix2 i ⟨d.val, by omega⟩) = (r : EReal))
    (X0 : FVec Ideal S512x512 .f32) (X1 X2 : FVec Ideal S256x512 .f32)
    (e0 : X0 = iblk m c 0 t) (e1 : X1 = iblk m c 1 t) (e2 : X2 = iblk m c 2 t) :
    Ideal.div
        (∑ n : Fin 256, Ideal.exp ((∑ d : Fin 128, X0 (ix2 r ⟨o + d.val, by omega⟩) * Ideal.ofBits .f32 0x3DB504F3#32 * X1 (ix2 n ⟨o + d.val, by omega⟩))
            - Finset.univ.fold max (Ideal.ofBits .f32 0xFF800000#32) fun k : Fin 256 => ∑ d : Fin 128, X0 (ix2 r ⟨o + d.val, by omega⟩) * Ideal.ofBits .f32 0x3DB504F3#32 * X1 (ix2 k ⟨o + d.val, by omega⟩))
          * X2 (ix2 n ⟨o + l.val, by omega⟩))
        (∑ n : Fin 256, Ideal.exp ((∑ d : Fin 128, X0 (ix2 r ⟨o + d.val, by omega⟩) * Ideal.ofBits .f32 0x3DB504F3#32 * X1 (ix2 n ⟨o + d.val, by omega⟩))
            - Finset.univ.fold max (Ideal.ofBits .f32 0xFF800000#32) fun k : Fin 256 => ∑ d : Fin 128, X0 (ix2 r ⟨o + d.val, by omega⟩) * Ideal.ofBits .f32 0x3DB504F3#32 * X1 (ix2 k ⟨o + d.val, by omega⟩)))
      = Cert.XMemIdeal.Value.REF (m ((c : Thread nD τ).loc main_arg0)) (m ((c : Thread nD τ).loc main_arg1)) (((cfg0.win 3).blk t).view.emb y) := by
  have ht : t.val < 16 := lt_of_lt_of_eq t.isLt N_0
  have hy0 : (y 0 : ℕ) < 512 := (y 0).isLt
  have hy1 : (y 1 : ℕ) < 512 := (y 1).isLt
  have hemb : ((cfg0.win 3).blk t).view.emb y = (ix2 (⟨t.val * 512 + (y 0 : ℕ), by omega⟩ : Fin 8192) (⟨(y 1 : ℕ), hy1⟩ : Fin 512) : S8192x512.Idx) := by
    blk_ext [idx t]
  rw [hemb]
  have hq : ∀ d : Fin 128, X0 (ix2 r ⟨o + d.val, by omega⟩)
      = (m ((c : Thread nD τ).loc main_arg0) : FVec Ideal S8192x8192 .f32) (ix2 ⟨t.val * 512 + (y 0 : ℕ), by omega⟩ ⟨7168 + ((y 1 : ℕ) / 128 * 128 + d.val), by omega⟩) := fun d => by
    rw [e0]
    blk_ext [iblk, V, idx t]
  have hk : ∀ (n : Fin 256) (d : Fin 128), X1 (ix2 n ⟨o + d.val, by omega⟩)
      = (m ((c : Thread nD τ).loc main_arg1) : FVec Ideal S1024x1024 .f32) (ix2 ⟨(t.val * 512 + (y 0 : ℕ)) / 2048 * 256 + n.val, by omega⟩ ⟨(y 1 : ℕ) / 128 * 128 + d.val, by omega⟩) := fun n d => by
    rw [e1]
    blk_ext [iblk, V, idx t]
  have hv : ∀ n : Fin 256, X2 (ix2 n ⟨o + l.val, by omega⟩)
      = (m ((c : Thread nD τ).loc main_arg1) : FVec Ideal S1024x1024 .f32) (ix2 ⟨(t.val * 512 + (y 0 : ℕ)) / 2048 * 256 + n.val, by omega⟩ ⟨512 + (y 1 : ℕ), by omega⟩) := fun n => by
    rw [e2]
    blk_ext [iblk, V, idx t]
  obtain ⟨s, hs, hse⟩ := Cert.Extended.scale_real
  refine Eq.trans ?_ (Cert.XMemIdeal.Value.REF_row _ _ _ _ (fun d => X0 (ix2 r ⟨o + d.val, by omega⟩))
    (fun n d => X1 (ix2 n ⟨o + d.val, by omega⟩)) (fun n => X2 (ix2 n ⟨o + l.val, by omega⟩))
    (fun d => (hq d).symm) (fun n d => (hk n d).symm) (fun n => (hv n).symm)).symm
  rw [hse, Cert.Extended.f32_bot]
  refine Cert.Softmax.row (n := 255) _ _ _ s hs (fun d => ?_) (fun n d => ?_)
  · obtain ⟨r, hr⟩ := hz ⟨t.val * 512 + (y 0 : ℕ), by omega⟩ ⟨(y 1 : ℕ) / 128 * 128 + d.val, by omega⟩
    exact ⟨r, (hq d).trans hr⟩
  · obtain ⟨r, hr⟩ := hw ⟨(t.val * 512 + (y 0 : ℕ)) / 2048 * 256 + n.val, by omega⟩ ⟨(y 1 : ℕ) / 128 * 128 + d.val, by omega⟩
    exact ⟨r, (hk n d).trans hr⟩

/-- POINT: what a grid point's body leaves in the output block is the reference's attention at the block's place. -/
theorem point (c : Dev nD) (t : Fin cfg0.N) (y : S512x512.Idx)
    (hz : ∀ (i : Fin 8192) (d : Fin 512), ∃ r : ℝ, (m ((c : Thread nD τ).loc main_arg0) : FVec Ideal S8192x8192 .f32) (ix2 i ⟨7168 + d.val, by omega⟩) = (r : EReal))
    (hw : ∀ (i : Fin 1024) (d : Fin 512), ∃ r : ℝ, (m ((c : Thread nD τ).loc main_arg1) : FVec Ideal S1024x1024 .f32) (ix2 i ⟨d.val, by omega⟩) = (r : EReal)) :
    out0_3 (iblk m c 0 t) (iblk m c 1 t) (iblk m c 2 t) y
      = Cert.XMemIdeal.Value.REF (m ((c : Thread nD τ).loc main_arg0)) (m ((c : Thread nD τ).loc main_arg1)) (((cfg0.win 3).blk t).view.emb y) := by
  canon_tiles x h
  case piece0 =>
    refine Eq.trans ?_ (head m c t y 384 (by omega) (by omega) (x 0) (x 1) h0 h1 hz hw _ _ _ rfl rfl rfl)
    open_payloads
    pointwise
  case piece1 =>
    refine Eq.trans ?_ (head m c t y 256 (by omega) (by omega) (x 0) (x 1) h0 h1 hz hw _ _ _ rfl rfl rfl)
    open_payloads
    pointwise
  case piece2 =>
    refine Eq.trans ?_ (head m c t y 128 (by omega) (by omega) (x 0) (x 1) h0 h1 hz hw _ _ _ rfl rfl rfl)
    open_payloads
    pointwise
  case piece3 =>
    refine Eq.trans ?_ (head m c t y 0 (by omega) (by omega) (x 0) (x 1) (by omega) (by omega) hz hw _ _ _ rfl rfl rfl)
    open_payloads
    pointwise

/-- THE ARRAY: after the run, the call's output is the reference's result over the two arguments. -/
theorem final (c : Dev nD)
    (hz : ∀ (i : Fin 8192) (d : Fin 512), ∃ r : ℝ, (m ((c : Thread nD τ).loc main_arg0) : FVec Ideal S8192x8192 .f32) (ix2 i ⟨7168 + d.val, by omega⟩) = (r : EReal))
    (hw : ∀ (i : Fin 1024) (d : Fin 512), ∃ r : ℝ, (m ((c : Thread nD τ).loc main_arg1) : FVec Ideal S1024x1024 .f32) (ix2 i ⟨d.val, by omega⟩) = (r : EReal)) :
    (dats m 0 c).arrAt 3 (cfgs 0).N
      = Cert.XMemIdeal.Value.REF (m ((c : Thread nD τ).loc main_arg0)) (m ((c : Thread nD τ).loc main_arg1)) := by
  refine (dats m 0 c).arrAt_eq_of_covers 3 _ (by decide +kernel) fun t _ y => ?_
  blk_simp
  rw [after0_3]
  exact point m c t y hz hw

/-- A number below plus infinity in absolute value is a real. -/
theorem real_of_abs {x : EReal} (h : BitVec.ofBool (decide (FloatOps.absf (F := Ideal) (φ := .f32) x < Ideal.ofBits .f32 0x7F800000#32)) = 1#1) :
    ∃ r : ℝ, x = (r : EReal) := by
  rw [Cert.Extended.f32_top] at h
  have h' : FloatOps.absf (F := Ideal) (φ := .f32) x < ⊤ := by
    by_contra hn
    rw [decide_eq_false hn] at h
    exact absurd h (by decide)
  have h2 : max x (-x) < ⊤ := h'
  obtain ⟨h3, h4⟩ := max_lt_iff.1 h2
  refine Cert.Extended.exists_real (fun e => ?_) h3.ne
  rw [e] at h4
  exact absurd h4 (by simp)

/-- The precondition's meaning: the queries and the keys the attention reads are real numbers. -/
theorem finite [Cert.Pre_recall_finite.Facts] (h : Cert.Pre_MemIdeal_recall_finite m) (c : Dev nD) :
    (∀ (i : Fin 8192) (d : Fin 512), ∃ r : ℝ, (m ((c : Thread nD τ).loc main_arg0) : FVec Ideal S8192x8192 .f32) (ix2 i ⟨7168 + d.val, by omega⟩) = (r : EReal))
    ∧ ∀ (i : Fin 1024) (d : Fin 512), ∃ r : ℝ, (m ((c : Thread nD τ).loc main_arg1) : FVec Ideal S1024x1024 .f32) (ix2 i ⟨d.val, by omega⟩) = (r : EReal) := by
  obtain ⟨h0, h1⟩ := h c
  refine ⟨fun i d => ?_, fun i d => ?_⟩
  · have e := congrFun h0 (ix2 i d)
    dsimp only [Cert.Pre_recall_finite.fn] at e
    pointwise at e
    exact real_of_abs e
  · have e := congrFun h1 (ix2 i d)
    dsimp only [Cert.Pre_recall_finite.fn] at e
    pointwise at e
    exact real_of_abs e

end Cert.MemIdeal.Value

end
-- ==== Proof.MemClaim.lean ====
/- The memory cross-attention's value claim: both idealized programs end with the same array. -/
module

public import proofs.«01_k».proof.Proof.MemValue

@[expose] public section

set_option maxRecDepth 16384

noncomputable section

namespace Cert.Proof

open Idealize.ShloMosaic Idealize.SL.Sem

/-- The precondition's side conditions on its own shapes. -/
instance finite_facts : Cert.Pre_recall_finite.Facts where
  slices_S8192x8192_S8192x512_0_7168 := by decide
  bcast_S_S8192x512 := by decide
  slices_S1024x1024_S1024x512_0_0 := by decide
  bcast_S_S1024x512 := by decide

/-- The memory attention's pallas_call computes the reference's attention. -/
theorem recall : Cert.algebraic_MemIdeal_XMemIdeal_pre_recall_finite := by
  pair_intro
  · run_from Cert.MemIdeal.Gen.run_main m g
  · hlo_run
    exact (Cert.MemIdeal.Value.final m c (Cert.MemIdeal.Value.finite m hpre c).1 (Cert.MemIdeal.Value.finite m hpre c).2).symm

end Cert.Proof

end
-- ==== Proof.ProjBody.lean ====
/- The projection's kernel body at one grid point: what it leaves in its two output blocks and in the scratch block
   that keeps the row block of the input for the whole row of the grid. -/
module

public import proofs.«01_k».proof.Proof.Gen.ProjIdeal.Frame
public import proofs.«01_k».proof.Proof.Gen.ProjIdeal.Skeleton
public import proofs.«01_k».proof.Proof.Gen.ProjIdeal.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Pipeline.ValueKit
public import Idealize.ShloMosaic.Lib.Tactic
public import Idealize.ShloMosaic.Lib.WordCmp

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point of a row of the grid: the input's block goes to the scratch, its product with the narrow weights to
    the narrow output, and its product with the wide weights' block to the wide output. -/
theorem first (c : Dev nD) (i : grid0.Coords) (a0 : Memref sig .tc .vmem S512x2048 .f32) (h0 : a0.IsWhole) (a1 : Memref sig .tc .vmem S2048x1024 .bf16) (h1 : a1.IsWhole) (a2 : Memref sig .tc .vmem S2048x128 .bf16) (h2 : a2.IsWhole) (a3 : Memref sig .tc .vmem S512x1024 .f32) (h3 : a3.IsWhole) (a4 : Memref sig .tc .vmem S512x128 .f32) (h4 : a4.IsWhole) (a5 : Memref sig .tc .vmem S512x2048 .bf16) (h5 : a5.IsWhole) (hc : k0_cond1 i = 1#1)
    (x0 : Vec F S512x2048 .f32) (x1 : Vec F S2048x1024 .bf16) (x2 : Vec F S2048x128 .bf16) (E : Set ℕ) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d) ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare (k0_pay4 (k0_pay2 x0) x1) ∗ owns (c : Thread nD τ) a4 fullShare (k0_pay3 x0 x2)
            ∗ owns (c : Thread nD τ) a5 fullShare (k0_pay2 x0)) -∗ K ⟨⟩))
      ⊢ wp frame (wpE (defs₀ (F := F)) Variants.none c none) E (cc0_in_proj i a0 h0 a1 h1 a2 h2 a3 h3 a4 h4 a5 h5) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := h0.eq_unread hf0; obtain rfl := h1.eq_unread hf1; obtain rfl := h2.eq_unread hf2
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    rw [View.read_writes_full, View.readAt_full, hf1]
    unfold first.sl.v3
    unfold first.sl.H5_1
    rw [View.readAt_full, hf0, View.readCov_unit_zero _ (by decide)]
  isplitl [H4]
  · iexists _; isplitr
    swap; · iexact H4
    ipureintro
    rw [View.read_writes_full, View.readAt_full, View.readAt_full, hf0, hf2]
  iexists _; isplitr
  swap; · iexact H5
  ipureintro
  unfold first.sl.H5_1
  rw [View.read_writes_full, View.readAt_full, hf0]

set_option maxHeartbeats 1000000 in
/-- Every later point of a row of the grid: the scratch still holds the input's block; the wide output gets its product
    with the wide weights' block, and the narrow output is not touched. -/
theorem later (c : Dev nD) (i : grid0.Coords) (a0 : Memref sig .tc .vmem S512x2048 .f32) (h0 : a0.IsWhole) (a1 : Memref sig .tc .vmem S2048x1024 .bf16) (h1 : a1.IsWhole) (a2 : Memref sig .tc .vmem S2048x128 .bf16) (h2 : a2.IsWhole) (a3 : Memref sig .tc .vmem S512x1024 .f32) (h3 : a3.IsWhole) (a4 : Memref sig .tc .vmem S512x128 .f32) (h4 : a4.IsWhole) (a5 : Memref sig .tc .vmem S512x2048 .bf16) (h5 : a5.IsWhole) (hc : ¬ k0_cond1 i = 1#1)
    (x0 : Vec F S512x2048 .f32) (x1 : Vec F S2048x1024 .bf16) (x2 : Vec F S2048x128 .bf16) (x4 : Vec F S512x128 .f32) (x5 : Vec F S512x2048 .bf16) (E : Set ℕ) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ owns (c : Thread nD τ) a4 fullShare x4 ∗ owns (c : Thread nD τ) a5 fullShare x5
        ∗ (iprop(owns (c : Thread nD τ) a0 fullShare x0 ∗ owns (c : Thread nD τ) a1 fullShare x1 ∗ owns (c : Thread nD τ) a2 fullShare x2
            ∗ owns (c : Thread nD τ) a3 fullShare (k0_pay4 x5 x1) ∗ owns (c : Thread nD τ) a4 fullShare x4
            ∗ owns (c : Thread nD τ) a5 fullShare x5) -∗ K ⟨⟩))
      ⊢ wp frame (wpE (defs₀ (F := F)) Variants.none c none) E (cc0_in_proj i a0 h0 a1 h1 a2 h2 a3 h3 a4 h4 a5 h5) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := h0.eq_unread hf0; obtain rfl := h1.eq_unread hf1; obtain rfl := h2.eq_unread hf2
  obtain rfl := h4.eq_unread hf4; obtain rfl := h5.eq_unread hf5
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [View.read_writes_full, View.readAt_full, View.readAt_full, hf1, hf5]
  isplitl [H4]
  · iexists _; isplitr; · ipureintro; exact hf4
    iexact H4
  iexists _; isplitr; · ipureintro; exact hf5
  iexact H5

/-! ## What the buffers hold from point to point -/

variable (m : (ℓ : Loc nD τ sig) → Buf (Elt F) ℓ) (ρ : Dev nD → PrngReg)

/-- The first point of the row of the grid that point `t` lies in. -/
def rowStart (t : Fin cfg0.N) : Fin cfg0.N := ⟨t.val - t.val % 8, by have := t.isLt; omega⟩

theorem rowStart_first (t : Fin cfg0.N) (h : t.val % 8 = 0) : rowStart t = t := Fin.ext (by simp only [rowStart]; omega)

theorem rowStart_later (t : Fin cfg0.N) (h : ¬ t.val % 8 = 0) (h' : t.val - 1 < cfg0.N) : rowStart ⟨t.val - 1, h'⟩ = rowStart t :=
  Fin.ext (by simp only [rowStart]; omega)

/-- The input's row block, as the scratch keeps it. -/
def kept (c : Dev nD) (t : Fin cfg0.N) : Vec F S512x2048 .bf16 := k0_pay2 (iblk m c 0 (rowStart t))

/-- The scratch before point `n`: it holds the row's input block unless the point begins a row. -/
def scratch (c : Dev nD) (n : Fin (cfg0.N + 1)) : sProp 𝕄 :=
  iprop((∃ d, ⌜∀ h : n.val - 1 < cfg0.N, ¬ n.val % 8 = 0 → d = kept m c ⟨n.val - 1, h⟩⌝ ∗ owns (c : Thread nD τ) (Memref.whole cc0_scratch0 : Memref sig .tc .vmem S512x2048 .bf16) fullShare d)
    ∗ (∃ r, prngReg c r))

/-- The proof data: the inputs' blocks stay, the wide output's block is the product of the kept input block with the
    wide weights' block, the narrow output's block is the product made at the row's first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (kept m c t) (iblk m c 1 t)
    | ⟨4, _⟩ => k0_pay3 (iblk m c 0 (rowStart t)) (iblk m c 2 (rowStart t))
  Φ n := scratch m c n
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay4 (kept m c t) (iblk m c 1 t) := by dsimp only [dats]
theorem after0_4 (c : Dev nD) (t : Fin cfg0.N) : (dats m 0 c).after 4 t = k0_pay3 (iblk m c 0 (rowStart t)) (iblk m c 2 (rowStart t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The narrow output is idle exactly where a row does not begin. -/
theorem idle4 : ∀ t : Fin cfg0.N, cfg0.idle 4 (grid0.coords t) = decide (¬ t.val % 8 = 0) := by decide +kernel

/-- The body's branch is taken exactly where a row begins. -/
theorem branch (t : Fin cfg0.N) : k0_cond1 (grid0.coords t) = 1#1 ↔ t.val % 8 = 0 := by
  have h := idle4 t
  have e : cfg0.idle 4 (grid0.coords t) = !(k0_cond1 (grid0.coords t) == 1#1) := rfl
  rw [e] at h
  by_cases hc : k0_cond1 (grid0.coords t) = 1#1 <;> by_cases ht : t.val % 8 = 0 <;> simp_all

/-- The narrow output's buffer is fresh exactly where a row begins. -/
theorem fresh4 : ∀ t : Fin cfg0.N, cfg0.fresh 4 t.val = decide (t.val % 8 = 0) := by decide +kernel

/-- Within a row the narrow output's block is what the point before left. -/
theorem before0_4 (c : Dev nD) (t : Fin cfg0.N) (h : ¬ t.val % 8 = 0) (d) : (dats m 0 c).before 4 t d = (dats m 0 c).after 4 t := by
  have carry : ∀ t : Fin cfg0.N, ∀ h' : t.val - 1 < cfg0.N, ¬ t.val % 8 = 0 → (dats m 0 c).after 4 t = (dats m 0 c).after 4 ⟨t.val - 1, h'⟩ :=
    fun t h' h => by rw [after0_4, after0_4, rowStart_later t h h']
  rw [(dats m 0 c).before_out_traj 4 rfl (fun _ _ => rfl)
    (fun t _ hi _ => carry t _ (by rw [idle4] at hi; exact of_decide_eq_true hi)) t.val t rfl d, fresh4, if_neg (by simpa using h)]
  exact (carry t _ h).symm

end Cert.ProjIdeal.Body

end
-- ==== Proof.ProjRun.lean ====
/- The projection's run: the body obligation at every grid point, the launch, and the frame. -/
module

public import proofs.«01_k».proof.Proof.ProjBody

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging blocks of the five windows at point `t`. -/
abbrev M0 (t : Fin cfg0.N) : Memref sig .tc .vmem S512x2048 .f32 := win0_0.stage (cfg0.slots t 0)
abbrev M1 (t : Fin cfg0.N) : Memref sig .tc .vmem S2048x1024 .bf16 := win0_1.stage (cfg0.slots t 1)
abbrev M2 (t : Fin cfg0.N) : Memref sig .tc .vmem S2048x128 .bf16 := win0_2.stage (cfg0.slots t 2)
abbrev M3 (t : Fin cfg0.N) : Memref sig .tc .vmem S512x1024 .f32 := win0_3.stage (cfg0.slots t 3)
abbrev M4 (t : Fin cfg0.N) : Memref sig .tc .vmem S512x128 .f32 := win0_4.stage (cfg0.slots t 4)

/-- What the body finds at point `t`. -/
def pre (c : Dev nD) (t : Fin cfg0.N) : sProp 𝕄 :=
  iprop((dats m 0 c).Φ t.castSucc ∗ (dats m 0 c).owesAt () t.castSucc
    ∗ (∃ d, owns (c : Thread nD τ) (M0 t) fullShare ((dats m 0 c).before 0 t d))
    ∗ (∃ d, owns (c : Thread nD τ) (M1 t) fullShare ((dats m 0 c).before 1 t d))
    ∗ (∃ d, owns (c : Thread nD τ) (M2 t) fullShare ((dats m 0 c).before 2 t d))
    ∗ (∃ d, owns (c : Thread nD τ) (M3 t) fullShare ((dats m 0 c).before 3 t d))
    ∗ (∃ d, owns (c : Thread nD τ) (M4 t) fullShare ((dats m 0 c).before 4 t d)))

/-- What the body leaves at point `t`. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- A window the point is not idle for is left at what the proof data say. -/
theorem leaves_live (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The narrow output, untouched at a later point of a row, is left as found. -/
theorem leaves_kept (c : Dev nD) (t : Fin cfg0.N) (h : ¬ t.val % 8 = 0) (d) :
    (owns (c : Thread nD τ) (M4 t) fullShare ((dats m 0 c).before 4 t d) : sProp 𝕄) ⊢ (dats m 0 c).leavesExact 4 t := by
  have hi : cfg0.idle 4 (grid0.coords t) = true := by rw [idle4]; exact decide_eq_true h
  cases hf : (cfg0.win 4).flush t
  · rw [(dats m 0 c).leavesExact_idle 4 t hi hf]
    iintro H; iexists d; iexact H
  · unfold Dat.leavesExact; rw [hi, hf]
    rw [before0_4 m c t h d]

set_option maxHeartbeats 800000 in
/-- The body at any point: a row's first point fills the scratch and both outputs; a later point reads the scratch. -/
theorem sound (c : Dev nD) (t : Fin cfg0.N) :
    pre m c t ⊢ wp frame (wpE (defs₀ (F := F)) Variants.none c none) Set.univ (bodyAt0 t) (fun _ => post m c t) := by
  unfold pre post bodyAt0
  simp only [before0_0, before0_1, before0_2]
  rw [show (dats m 0 c).Φ t.succ = scratch m c t.succ from rfl,
    show (dats m 0 c).Φ t.castSucc = scratch m c t.castSucc from rfl,
    show (dats m 0 c).owesAt () t.succ = (dats m 0 c).owesAt () t.castSucc from rfl,
    leaves_live m c t 0 rfl, leaves_live m c t 1 rfl, leaves_live m c t 2 rfl, leaves_live m c t 3 rfl,
    after0_0, after0_1, after0_2, after0_3]
  unfold scratch
  by_cases h : t.val % 8 = 0
  · rw [leaves_live m c t 4 (by rw [idle4]; exact decide_eq_false (not_not.mpr h)), after0_4, rowStart_first t h]
    iintro ⟨⟨⟨%s, -, HS⟩, Hg⟩, Ho, ⟨%d0, H0⟩, ⟨%d1, H1⟩, ⟨%d2, H2⟩, ⟨%d3, H3⟩, ⟨%d4, H4⟩⟩
    iapply (first c (grid0.coords t) _ _ _ _ _ _ _ _ _ _ _ _ ((branch t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexists _; iexact HS
    iintro ⟨H0, H1, H2, H3, H4, HS⟩
    have ek : kept m c t = k0_pay2 (iblk m c 0 t) := by unfold kept; rw [rowStart_first t h]
    isplitl [HS Hg]
    · isplitl [HS]
      · iexists _; isplitr
        swap; · iexact HS
        ipureintro
        intro h' _
        exact ek.symm
      iexact Hg
    isplitl [Ho]; · iexact Ho
    isplitl [H0]; · iexact H0
    isplitl [H1]; · iexact H1
    isplitl [H2]; · iexact H2
    isplitl [H3]; · rw [ek]; iexact H3
    iexact H4
  · iintro ⟨⟨⟨%s, %hs, HS⟩, Hg⟩, Ho, ⟨%d0, H0⟩, ⟨%d1, H1⟩, ⟨%d2, H2⟩, ⟨%d3, H3⟩, ⟨%d4, H4⟩⟩
    have es : s = kept m c t := by
      have h' : t.val - 1 < cfg0.N := by have := t.isLt; omega
      have e : kept m c ⟨t.val - 1, h'⟩ = kept m c t := by unfold kept; rw [rowStart_later t h h']
      exact (hs h' h).trans e
    subst es
    iapply (later c (grid0.coords t) _ _ _ _ _ _ _ _ _ _ _ _ (fun e => h ((branch t).mp e)) (iblk m c 0 t) (iblk m c 1 t) (iblk m c 2 t) ((dats m 0 c).before 4 t d4) (kept m c t) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]
      · iexists _; isplitr
        swap; · iexact HS
        ipureintro
        intro h' _
        rfl
      iexact Hg
    isplitl [Ho]; · iexact Ho
    isplitl [H0]; · iexact H0
    isplitl [H1]; · iexact H1
    isplitl [H2]; · iexact H2
    isplitl [H3]; · iexact H3
    iapply (leaves_kept m c t h d4); iexact H4

theorem row (t : Fin cfg0.N) :
    defs₀ (F := F) .tc cfg0.body (cfg0.bodyArgs t (cfg0.slots t)) = bodyAt0 t := by
  unfold defs₀; rw [Defs.onTc_tc]

/-- The body obligation at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

/-- Before the first point the scratch holds anything. -/
theorem enter (c : Dev nD) : (Pipeline.ΦA spec0 c : sProp 𝕄) ⊢ (dats m 0 c).Φ 0 := by
  rw [show (dats m 0 c).Φ 0 = scratch m c 0 from rfl]
  unfold scratch Pipeline.ΦA; rw [scopedRest0_eq]; simp only [owns_whole]
  iintro ⟨⟨%d, HS⟩, Hg⟩
  isplitl [HS]
  · iexists d; isplitr
    swap; · iexact HS
    ipureintro; intro _ h; exact absurd rfl h
  iexact Hg

/-- After the last point what the scratch holds is forgotten. -/
theorem leave (c : Dev nD) : (dats m 0 c).Φ (Fin.last cfg0.N) ⊢ (Pipeline.ΦA spec0 c : sProp 𝕄) := by
  rw [show (dats m 0 c).Φ (Fin.last cfg0.N) = scratch m c (Fin.last cfg0.N) from rfl]
  unfold scratch Pipeline.ΦA; rw [scopedRest0_eq]; simp only [owns_whole]
  iintro ⟨⟨%d, -, HS⟩, Hg⟩
  isplitl [HS]; · iexists d; iexact HS
  iexact Hg

set_option backward.isDefEq.respectTransparency.types false in
/-- The launch: the arrays end at what the proof data compute, with every counter at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (launch m ρ)

/-- The frame: the arguments end unchanged, with every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (launch m ρ))

end Cert.ProjIdeal.Body

end
-- ==== Proof.ProjRead.lean ====
/- The projection's reference read at an index: every element of its two results is one inner product of a token with a
   column of the weights. -/
module

public import proofs.«01_k».proof.Proof.Gen.XProjIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.XProjIdeal.Value

open Cert.XProjIdeal Cert.XProjIdeal.Gen

/-- Every token against every column of the weights. -/
def product (x : FVec Ideal S4x2048x2048 .f32) (w : FVec Ideal S1x2048x8272 .f32) : FVec Ideal S4x2048x8272 .f32 :=
  Host.dotGeneral dot_S4x2048x2048_S2048x8272_S4x2048x8272_2_0_01_1_n_n none x (shapeCast _ w shapeCasts_S1x2048x8272_S2048x8272)

/-- The wide columns side by side. -/
def wide (z : FVec Ideal S4x2048x8272 .f32) : FVec Ideal S4x2048x8192 .f32 :=
  concatenate S4x2048x8192 2
    [⟨S4x2048x1024, extractStridedSlice S4x2048x1024 ![0, 0, 0] z slices_S4x2048x8272_S4x2048x1024_0_0_0⟩,
     ⟨S4x2048x1024, extractStridedSlice S4x2048x1024 ![0, 0, 1024] z slices_S4x2048x8272_S4x2048x1024_0_0_1024⟩,
     ⟨S4x2048x1024, extractStridedSlice S4x2048x1024 ![0, 0, 2048] z slices_S4x2048x8272_S4x2048x1024_0_0_2048⟩,
     ⟨S4x2048x1024, extractStridedSlice S4x2048x1024 ![0, 0, 3072] z slices_S4x2048x8272_S4x2048x1024_0_0_3072⟩,
     ⟨S4x2048x1024, extractStridedSlice S4x2048x1024 ![0, 0, 4096] z slices_S4x2048x8272_S4x2048x1024_0_0_4096⟩,
     ⟨S4x2048x512, extractStridedSlice S4x2048x512 ![0, 0, 5200] z slices_S4x2048x8272_S4x2048x512_0_0_5200⟩,
     ⟨S4x2048x512, extractStridedSlice S4x2048x512 ![0, 0, 5712] z slices_S4x2048x8272_S4x2048x512_0_0_5712⟩,
     ⟨S4x2048x512, extractStridedSlice S4x2048x512 ![0, 0, 6224] z slices_S4x2048x8272_S4x2048x512_0_0_6224⟩,
     ⟨S4x2048x512, extractStridedSlice S4x2048x512 ![0, 0, 6736] z slices_S4x2048x8272_S4x2048x512_0_0_6736⟩,
     ⟨S4x2048x512, extractStridedSlice S4x2048x512 ![0, 0, 7248] z slices_S4x2048x8272_S4x2048x512_0_0_7248⟩,
     ⟨S4x2048x512, extractStridedSlice S4x2048x512 ![0, 0, 7760] z slices_S4x2048x8272_S4x2048x512_0_0_7760⟩]
    concatenates_S4x2048x1024_S4x2048x1024_S4x2048x1024_S4x2048x1024_S4x2048x1024_S4x2048x512_S4x2048x512_S4x2048x512_S4x2048x512_S4x2048x512_S4x2048x512_S4x2048x8192_d2

/-- The narrow columns side by side, filled up with zeros. -/
def narrow (z : FVec Ideal S4x2048x8272 .f32) : FVec Ideal S4x2048x128 .f32 :=
  concatenate S4x2048x128 2
    [⟨S4x2048x64, extractStridedSlice S4x2048x64 ![0, 0, 5120] z slices_S4x2048x8272_S4x2048x64_0_0_5120⟩,
     ⟨S4x2048x16, extractStridedSlice S4x2048x16 ![0, 0, 5184] z slices_S4x2048x8272_S4x2048x16_0_0_5184⟩,
     ⟨S4x2048x48, broadcastInDim S4x2048x48 ![] bcast_S_S4x2048x48 (constant S_ .f32 0x00000000#32)⟩]
    concatenates_S4x2048x64_S4x2048x16_S4x2048x48_S4x2048x128_d2

/-- The wide result. -/
def REF0 (x : FVec Ideal S4x2048x2048 .f32) (w : FVec Ideal S1x2048x8272 .f32) : FVec Ideal S8192x8192 .f32 :=
  shapeCast _ (wide (product x w)) shapeCasts_S4x2048x8192_S8192x8192

/-- The narrow result. -/
def REF1 (x : FVec Ideal S4x2048x2048 .f32) (w : FVec Ideal S1x2048x8272 .f32) : FVec Ideal S8192x128 .f32 :=
  shapeCast _ (narrow (product x w)) shapeCasts_S4x2048x128_S8192x128

theorem product_at (x : FVec Ideal S4x2048x2048 .f32) (w : FVec Ideal S1x2048x8272 .f32) (b : Fin 4) (t : Fin 2048) (n : Fin 8272) :
    product x w (ix3 b t n) = ∑ d : Fin 2048, x (ix3 b t d) * w (ix3 0 d n) := by
  pointwise [product]

/-- A choice equals `x` when both its branches do. -/
theorem choice {α : Type} {P : Prop} [Decidable P] {a : P → α} {b : ¬P → α} {x : α}
    (ha : ∀ h, a h = x) (hb : ∀ h, b h = x) : dite P a b = x := by
  by_cases h : P
  · rw [dif_pos h]; exact ha h
  · rw [dif_neg h]; exact hb h

/-- The wide columns are the weights' columns with the eighty narrow ones left out. -/
theorem wide_at (z : FVec Ideal S4x2048x8272 .f32) (b : Fin 4) (t : Fin 2048) (n : Fin 8192) (k : Fin 8272)
    (hk : k.val = if n.val < 5120 then n.val else n.val + 80) : wide z (ix3 b t n) = z (ix3 b t k) := by
  pointwise [wide]
  repeat' refine choice (fun _ => ?_) (fun _ => ?_)
  all_goals
    refine congrArg z (congrArg (ix3 b t) (Fin.ext ?_))
    split at hk <;> (dsimp only; omega)

theorem narrow_at (z : FVec Ideal S4x2048x8272 .f32) (b : Fin 4) (t : Fin 2048) (n : Fin 128) :
    narrow z (ix3 b t n) = if h : n.val < 80 then z (ix3 b t ⟨5120 + n.val, by omega⟩) else 0 := by
  pointwise [narrow]
  refine choice (fun _ => ?_) (fun _ => choice (fun _ => ?_) (fun _ => ?_))
  · rw [dif_pos (by omega)]
  · rw [dif_pos (by omega)]
    exact congrArg z (congrArg (ix3 b t) (Fin.ext (by dsimp only; omega)))
  · rw [dif_neg (by omega)]

theorem REF0_at (x : FVec Ideal S4x2048x2048 .f32) (w : FVec Ideal S1x2048x8272 .f32) (i : Fin 8192) (n : Fin 8192) :
    REF0 x w (ix2 i n) = wide (product x w) (ix3 ⟨i.val / 2048, by omega⟩ ⟨i.val % 2048, by omega⟩ n) := by
  pointwise [REF0]

theorem REF1_at (x : FVec Ideal S4x2048x2048 .f32) (w : FVec Ideal S1x2048x8272 .f32) (i : Fin 8192) (n : Fin 128) :
    REF1 x w (ix2 i n) = narrow (product x w) (ix3 ⟨i.val / 2048, by omega⟩ ⟨i.val % 2048, by omega⟩ n) := by
  pointwise [REF1]

end Cert.XProjIdeal.Value

end
-- ==== Proof.ProjValue.lean ====
/- The projection: what its pallas_call writes is the reference's two results. -/
module

public import proofs.«01_k».proof.Proof.ProjRun
public import proofs.«01_k».proof.Proof.ProjRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Body

open Cert.ProjIdeal Cert.ProjIdeal.Gen

variable (m : (ℓ : Loc nD τ sig) → Buf (Elt Ideal) ℓ)

/-- Each window's block at a grid point. -/
theorem idx : ∀ t : Fin cfg0.N, win0_0.index t = ![t.val / 8, 0] ∧ win0_1.index t = ![0, t.val % 8]
    ∧ win0_2.index t = ![0, 0] ∧ win0_3.index t = ![t.val / 8, t.val % 8] ∧ win0_4.index t = ![t.val / 8, 0] :=
  (by decide +kernel : ∀ t : Fin grid0.N, _)

theorem wide_block (x : Vec Ideal S512x2048 .f32) (w : Vec Ideal S2048x1024 .bf16) (r : Fin 512) (l : Fin 1024) :
    k0_pay4 (F := Ideal) (k0_pay2 (F := Ideal) x : FVec Ideal S512x2048 .bf16) w (ix2 r l) = ∑ d : Fin 2048, (x : FVec Ideal S512x2048 .f32) (ix2 r d) * (w : FVec Ideal S2048x1024 .bf16) (ix2 d l) := by
  pointwise [k0_pay4, k0_pay2, k0_pay1]

theorem narrow_block (x : Vec Ideal S512x2048 .f32) (w : Vec Ideal S2048x128 .bf16) (r : Fin 512) (l : Fin 128) :
    k0_pay3 (F := Ideal) x w (ix2 r l) = ∑ d : Fin 2048, (x : FVec Ideal S512x2048 .f32) (ix2 r d) * (w : FVec Ideal S2048x128 .bf16) (ix2 d l) := by
  pointwise [k0_pay3, k0_pay1]

/-! ## The operands the host prepares -/

/-- The tokens, one to a row. -/
def tokens (x : FVec Ideal S4x2048x2048 .f32) : FVec Ideal S8192x2048 .f32 := shapeCast _ x shapeCasts_S4x2048x2048_S8192x2048

/-- The wide weights. -/
def wideW (w : FVec Ideal S1x2048x8272 .f32) : FVec Ideal S2048x8192 .bf16 :=
  truncf .bf16 (concatenate S2048x8192 1
      [⟨S2048x5120, extractStridedSlice S2048x5120 ![0, 0] (shapeCast S2048x8272 w shapeCasts_S1x2048x8272_S2048x8272) slices_S2048x8272_S2048x5120_0_0⟩,
       ⟨S2048x3072, extractStridedSlice S2048x3072 ![0, 5200] (shapeCast S2048x8272 w shapeCasts_S1x2048x8272_S2048x8272) slices_S2048x8272_S2048x3072_0_5200⟩]
      concatenates_S2048x5120_S2048x3072_S2048x8192_d1 : FVec Ideal S2048x8192 .f32) bitsLt_bf16_f32

/-- The narrow weights. -/
def narrowW (w : FVec Ideal S1x2048x8272 .f32) : FVec Ideal S2048x128 .bf16 :=
  truncf .bf16 (concatenate S2048x128 1
      [⟨S2048x80, extractStridedSlice S2048x80 ![0, 5120] (shapeCast S2048x8272 w shapeCasts_S1x2048x8272_S2048x8272) slices_S2048x8272_S2048x80_0_5120⟩,
       ⟨S2048x48, broadcastInDim S2048x48 ![] bcast_S_S2048x48 (constant S_ .f32 0x00000000#32)⟩]
      concatenates_S2048x80_S2048x48_S2048x128_d1 : FVec Ideal S2048x128 .f32) bitsLt_bf16_f32

theorem tokens_at (x : FVec Ideal S4x2048x2048 .f32) (i : Fin 8192) (d : Fin 2048) :
    tokens x (ix2 i d) = x (ix3 ⟨i.val / 2048, by omega⟩ ⟨i.val % 2048, by omega⟩ d) := by
  pointwise [tokens]

theorem wideW_at (w : FVec Ideal S1x2048x8272 .f32) (d : Fin 2048) (n : Fin 8192) (k : Fin 8272)
    (hk : k.val = if n.val < 5120 then n.val else n.val + 80) : wideW w (ix2 d n) = w (ix3 0 d k) := by
  pointwise [wideW]
  repeat' refine Cert.XProjIdeal.Value.choice (fun _ => ?_) (fun _ => ?_)
  all_goals
    refine congrArg w (congrArg (ix3 0 d) (Fin.ext ?_))
    split at hk <;> (dsimp only; omega)

theorem narrowW_at (w : FVec Ideal S1x2048x8272 .f32) (d : Fin 2048) (n : Fin 128) :
    narrowW w (ix2 d n) = if h : n.val < 80 then w (ix3 0 d ⟨5120 + n.val, by omega⟩) else 0 := by
  pointwise [narrowW]

theorem V_tokens (c : Dev nD) : V m c main_v9 = tokens (m ((c : Thread nD τ).loc main_arg0)) := by
  entry_read; rfl
theorem V_wide (c : Dev nD) : V m c main_v4 = wideW (m ((c : Thread nD τ).loc main_arg1)) := by
  entry_read; rfl
theorem V_narrow (c : Dev nD) : V m c main_v8 = narrowW (m ((c : Thread nD τ).loc main_arg1)) := by
  entry_read; rfl

/-- A row of the input's block is row `512 * (t / 8) + r` of the tokens. -/
theorem input_at (c : Dev nD) (t : Fin cfg0.N) (r : Fin 512) (d : Fin 2048) (i : Fin 8192) (hi : i.val = t.val / 8 * 512 + r.val) :
    (iblk m c 0 t : FVec Ideal S512x2048 .f32) (ix2 r d) = tokens (m ((c : Thread nD τ).loc main_arg0)) (ix2 i d) := by
  have ht : t.val < 128 := lt_of_lt_of_eq t.isLt N_0
  rw [← V_tokens]
  blk_ext [iblk, idx t, hi]

theorem wide_col (c : Dev nD) (t : Fin cfg0.N) (d : Fin 2048) (l : Fin 1024) (n : Fin 8192) (hn : n.val = t.val % 8 * 1024 + l.val) :
    (iblk m c 1 t : FVec Ideal S2048x1024 .bf16) (ix2 d l) = wideW (m ((c : Thread nD τ).loc main_arg1)) (ix2 d n) := by
  have ht : t.val < 128 := lt_of_lt_of_eq t.isLt N_0
  rw [← V_wide]
  blk_ext [iblk, idx t, hn]

theorem narrow_col (c : Dev nD) (t : Fin cfg0.N) (d : Fin 2048) (n : Fin 128) :
    (iblk m c 2 t : FVec Ideal S2048x128 .bf16) (ix2 d n) = narrowW (m ((c : Thread nD τ).loc main_arg1)) (ix2 d n) := by
  rw [← V_narrow]
  blk_ext [iblk, idx t]

/-! ## The arrays -/

/-- The weights' column which column `n` of the wide result multiplies. -/
theorem column (n : Fin 8192) : ∃ k : Fin 8272, k.val = if n.val < 5120 then n.val else n.val + 80 := by
  have := n.isLt
  by_cases h : n.val < 5120
  · exact ⟨⟨n.val, by omega⟩, (if_pos h).symm⟩
  · exact ⟨⟨n.val + 80, by omega⟩, (if_neg h).symm⟩

/-- A wide block at a point is the reference's wide result at the block's place. -/
theorem wide_point (c : Dev nD) (t : Fin cfg0.N) (y : S512x1024.Idx) :
    k0_pay4 (F := Ideal) (kept m c t) (iblk m c 1 t) y
      = Cert.XProjIdeal.Value.REF0 (m ((c : Thread nD τ).loc main_arg0)) (m ((c : Thread nD τ).loc main_arg1)) (((cfg0.win 3).blk t).view.emb y) := by
  have ht : t.val < 128 := lt_of_lt_of_eq t.isLt N_0
  obtain ⟨r, l, rfl⟩ : ∃ (r : Fin 512) (l : Fin 1024), y = ix2 r l := ⟨y 0, y 1, by blk_ext⟩
  have hemb : ((cfg0.win 3).blk t).view.emb (ix2 r l) = (ix2 (⟨t.val / 8 * 512 + r.val, by omega⟩ : Fin 8192) (⟨t.val % 8 * 1024 + l.val, by omega⟩ : Fin 8192) : S8192x8192.Idx) := by
    blk_ext [idx t]
  obtain ⟨k, hk⟩ := column ⟨t.val % 8 * 1024 + l.val, by omega⟩
  rw [hemb, Cert.XProjIdeal.Value.REF0_at, Cert.XProjIdeal.Value.wide_at _ _ _ _ k hk, Cert.XProjIdeal.Value.product_at]
  unfold kept
  rw [wide_block]
  refine Finset.sum_congr rfl fun d _ => ?_
  rw [input_at m c (rowStart t) r d ⟨t.val / 8 * 512 + r.val, by omega⟩ (by simp only [rowStart]; omega),
    wide_col m c t d l ⟨t.val % 8 * 1024 + l.val, by omega⟩ rfl, tokens_at, wideW_at _ _ _ k hk]

/-- A narrow block at a point is the reference's narrow result at the block's place. -/
theorem narrow_point (c : Dev nD) (t : Fin cfg0.N) (y : S512x128.Idx) :
    k0_pay3 (F := Ideal) (iblk m c 0 (rowStart t)) (iblk m c 2 (rowStart t)) y
      = Cert.XProjIdeal.Value.REF1 (m ((c : Thread nD τ).loc main_arg0)) (m ((c : Thread nD τ).loc main_arg1)) (((cfg0.win 4).blk t).view.emb y) := by
  have ht : t.val < 128 := lt_of_lt_of_eq t.isLt N_0
  obtain ⟨r, l, rfl⟩ : ∃ (r : Fin 512) (l : Fin 128), y = ix2 r l := ⟨y 0, y 1, by blk_ext⟩
  have hemb : ((cfg0.win 4).blk t).view.emb (ix2 r l) = (ix2 (⟨t.val / 8 * 512 + r.val, by omega⟩ : Fin 8192) l : S8192x128.Idx) := by
    blk_ext [idx t]
  rw [hemb, Cert.XProjIdeal.Value.REF1_at, Cert.XProjIdeal.Value.narrow_at, narrow_block]
  refine (Finset.sum_congr rfl fun d _ => congrArg₂ (fun a b : EReal => a * b)
    (input_at m c (rowStart t) r d ⟨t.val / 8 * 512 + r.val, by omega⟩ (by simp only [rowStart]; omega)) (narrow_col m c t d l)).trans ?_
  simp only [narrowW_at, tokens_at]
  by_cases h : l.val < 80
  · simp only [dif_pos h]
    rw [Cert.XProjIdeal.Value.product_at]
  · simp only [dif_neg h, mul_zero, Finset.sum_const_zero]

theorem final0 (c : Dev nD) : (dats m 0 c).arrAt 3 (cfgs 0).N
    = Cert.XProjIdeal.Value.REF0 (m ((c : Thread nD τ).loc main_arg0)) (m ((c : Thread nD τ).loc main_arg1)) := by
  refine (dats m 0 c).arrAt_eq_of_covers 3 _ (by decide +kernel) fun t _ y => ?_
  blk_simp
  rw [after0_3]
  exact wide_point m c t y

theorem final1 (c : Dev nD) : (dats m 0 c).arrAt 4 (cfgs 0).N
    = Cert.XProjIdeal.Value.REF1 (m ((c : Thread nD τ).loc main_arg0)) (m ((c : Thread nD τ).loc main_arg1)) := by
  refine (dats m 0 c).arrAt_eq_of_covers 4 _ (by decide +kernel) fun t _ y => ?_
  blk_simp
  rw [after0_4]
  exact narrow_point m c t y

end Cert.ProjIdeal.Body

end
-- ==== Proof.ProjClaim.lean ====
/- The projection's value claim: both idealized programs end with the same two arrays. -/
module

public import proofs.«01_k».proof.Defs
public import proofs.«01_k».proof.Proof.ProjValue

@[expose] public section

set_option maxRecDepth 16384

noncomputable section

namespace Cert.Proof

open Idealize.ShloMosaic Idealize.SL.Sem

/-- The projection's pallas_call multiplies every token by every column of the weights. -/
theorem projection : Cert.algebraic_ProjIdeal_XProjIdeal := by
  pair_intro
  · run_from Cert.ProjIdeal.Body.run_main m g
  · refine (θ_run Cert.XProjIdeal.defs _ _).mono (fun r h => ?_) (Cert.XProjIdeal.Value.run (F := Ideal) _ _)
    intro c
    refine ⟨(h c).1.trans ?_, (h c).2.1.trans ?_, (h c).2.2⟩
    · refine Eq.trans ?_ (Cert.ProjIdeal.Body.final0 m c).symm
      exact congrArg₂ Cert.XProjIdeal.Value.REF0 (hagree c).1 (hagree c).2
    · refine Eq.trans ?_ (Cert.ProjIdeal.Body.final1 m c).symm
      exact congrArg₂ Cert.XProjIdeal.Value.REF1 (hagree c).1 (hagree c).2

end Cert.Proof

end
-- ==== Proof.KvRead.lean ====
/- The memory projection's reference read at an index: an inner product of a memory slot with a column of the keys' weights, or
   of the values'. -/
module

public import proofs.«01_k».proof.Proof.Gen.XKvIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.XKvIdeal.Value

open Cert.XKvIdeal Cert.XKvIdeal.Gen

/-- Every memory slot against every column of one of the two weights. -/
def half (x : FVec Ideal S4x256x2048 .f32) (w : FVec Ideal S1x2048x512 .f32) : FVec Ideal S4x256x512 .f32 :=
  Host.dotGeneral dot_S4x256x2048_S2048x512_S4x256x512_2_0_01_1_n_n none x (shapeCast _ w shapeCasts_S1x2048x512_S2048x512)

/-- The keys and the values side by side, one slot to a row. -/
def REF (x : FVec Ideal S4x256x2048 .f32) (k v : FVec Ideal S1x2048x512 .f32) : FVec Ideal S1024x1024 .f32 :=
  shapeCast _ (concatenate S4x256x1024 2 [⟨S4x256x512, half x k⟩, ⟨S4x256x512, half x v⟩]
    concatenates_S4x256x512_S4x256x512_S4x256x1024_d2) shapeCasts_S4x256x1024_S1024x1024

theorem half_at (x : FVec Ideal S4x256x2048 .f32) (w : FVec Ideal S1x2048x512 .f32) (b : Fin 4) (t : Fin 256) (n : Fin 512) :
    half x w (ix3 b t n) = ∑ d : Fin 2048, x (ix3 b t d) * w (ix3 0 d n) := by
  pointwise [half]

theorem REF_at (x : FVec Ideal S4x256x2048 .f32) (k v : FVec Ideal S1x2048x512 .f32) (i n : Fin 1024) :
    REF x k v (ix2 i n) = if h : n.val < 512 then half x k (ix3 ⟨i.val / 256, by omega⟩ ⟨i.val % 256, by omega⟩ ⟨n.val, h⟩)
      else half x v (ix3 ⟨i.val / 256, by omega⟩ ⟨i.val % 256, by omega⟩ ⟨n.val - 512, by omega⟩) := by
  pointwise [REF]

end Cert.XKvIdeal.Value

end
-- ==== Proof.KvValue.lean ====
/- The memory projection: what its pallas_call writes is the memory's keys and values side by side. -/
module

public import proofs.«01_k».proof.Proof.Gen.KvIdeal.Value
public import proofs.«01_k».proof.Proof.Gen.Kv.Frame
public import proofs.«01_k».proof.Proof.KvRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KvIdeal.Value

open Cert.KvIdeal Cert.KvIdeal.Gen

variable (m : (ℓ : Loc nD τ sig) → Buf (Elt Ideal) ℓ)

/-- Each window's block at a grid point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- A block of the result is the input's block against the weights. -/
theorem block_at (x : Vec Ideal S256x2048 .f32) (w : Vec Ideal S2048x1024 .bf16) (r : Fin 256) (l : Fin 1024) :
    k0_pay4 (F := Ideal) (k0_pay2 (F := Ideal) x : FVec Ideal S256x2048 .bf16) w (ix2 r l) = ∑ d : Fin 2048, (x : FVec Ideal S256x2048 .f32) (ix2 r d) * (w : FVec Ideal S2048x1024 .bf16) (ix2 d l) := by
  pointwise [k0_pay4, k0_pay2, k0_pay1]

/-! ## The operands the host prepares -/

/-- The memory slots, one to a row. -/
def slots (x : FVec Ideal S4x256x2048 .f32) : FVec Ideal S1024x2048 .f32 := shapeCast _ x shapeCasts_S4x256x2048_S1024x2048

/-- The keys' and the values' weights side by side. -/
def bothW (k v : FVec Ideal S1x2048x512 .f32) : FVec Ideal S2048x1024 .bf16 :=
  truncf .bf16 (concatenate S2048x1024 1
      [⟨S2048x512, shapeCast S2048x512 k shapeCasts_S1x2048x512_S2048x512⟩, ⟨S2048x512, shapeCast S2048x512 v shapeCasts_S1x2048x512_S2048x512⟩]
      concatenates_S2048x512_S2048x512_S2048x1024_d1 : FVec Ideal S2048x1024 .f32) bitsLt_bf16_f32

theorem slots_at (x : FVec Ideal S4x256x2048 .f32) (i : Fin 1024) (d : Fin 2048) :
    slots x (ix2 i d) = x (ix3 ⟨i.val / 256, by omega⟩ ⟨i.val % 256, by omega⟩ d) := by
  pointwise [slots]

theorem bothW_at (k v : FVec Ideal S1x2048x512 .f32) (d : Fin 2048) (n : Fin 1024) :
    bothW k v (ix2 d n) = if h : n.val < 512 then k (ix3 0 d ⟨n.val, h⟩) else v (ix3 0 d ⟨n.val - 512, by omega⟩) := by
  pointwise [bothW]

theorem V_slots (c : Dev nD) : V m c main_v13 = slots (m ((c : Thread nD τ).loc main_arg0)) := by
  entry_read; rfl
theorem V_both (c : Dev nD) : V m c main_v12 = bothW (m ((c : Thread nD τ).loc main_arg1)) (m ((c : Thread nD τ).loc main_arg2)) := by
  entry_read; rfl

theorem input_at (c : Dev nD) (t : Fin cfg0.N) (r : Fin 256) (d : Fin 2048) (i : Fin 1024) (hi : i.val = t.val * 256 + r.val) :
    (iblk m c 0 t : FVec Ideal S256x2048 .f32) (ix2 r d) = slots (m ((c : Thread nD τ).loc main_arg0)) (ix2 i d) := by
  have ht : t.val < 4 := lt_of_lt_of_eq t.isLt N_0
  rw [← V_slots]
  blk_ext [iblk, idx t, hi]

theorem weights_at (c : Dev nD) (t : Fin cfg0.N) (d : Fin 2048) (n : Fin 1024) :
    (iblk m c 1 t : FVec Ideal S2048x1024 .bf16) (ix2 d n) = bothW (m ((c : Thread nD τ).loc main_arg1)) (m ((c : Thread nD τ).loc main_arg2)) (ix2 d n) := by
  rw [← V_both]
  blk_ext [iblk, idx t]

/-- A block at a point is the reference's result at the block's place. -/
theorem point (c : Dev nD) (t : Fin cfg0.N) (y : S256x1024.Idx) :
    k0_pay4 (F := Ideal) (k0_pay2 (F := Ideal) (iblk m c 0 t) : FVec Ideal S256x2048 .bf16) (iblk m c 1 t) y
      = Cert.XKvIdeal.Value.REF (m ((c : Thread nD τ).loc main_arg0)) (m ((c : Thread nD τ).loc main_arg1)) (m ((c : Thread nD τ).loc main_arg2)) (((cfg0.win 3).blk t).view.emb y) := by
  have ht : t.val < 4 := lt_of_lt_of_eq t.isLt N_0
  obtain ⟨r, l, rfl⟩ : ∃ (r : Fin 256) (l : Fin 1024), y = ix2 r l := ⟨y 0, y 1, by blk_ext⟩
  have hemb : ((cfg0.win 3).blk t).view.emb (ix2 r l) = (ix2 (⟨t.val * 256 + r.val, by omega⟩ : Fin 1024) l : S1024x1024.Idx) := by
    blk_ext [idx t]
  rw [hemb, Cert.XKvIdeal.Value.REF_at, block_at]
  refine (Finset.sum_congr rfl fun d _ => congrArg₂ (fun a b : EReal => a * b)
    (input_at m c t r d ⟨t.val * 256 + r.val, by omega⟩ rfl) (weights_at m c t d l)).trans ?_
  simp only [slots_at, bothW_at]
  by_cases h : l.val < 512
  · simp only [dif_pos h]
    rw [Cert.XKvIdeal.Value.half_at]
  · simp only [dif_neg h]
    rw [Cert.XKvIdeal.Value.half_at]

/-- THE ARRAY: after the run, the call's first result is the reference's. -/
theorem final (c : Dev nD) : (dats m 0 c).arrAt 3 (cfgs 0).N
    = Cert.XKvIdeal.Value.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold Gen.outsAt0
  frame_out
  exact point m c t y

end Cert.KvIdeal.Value

end
-- ==== Proof.KvClaim.lean ====
/- The memory projection's value claim: both idealized programs end with the same array. -/
module

public import proofs.«01_k».proof.Defs
public import proofs.«01_k».proof.Proof.KvValue

@[expose] public section

set_option maxRecDepth 16384

noncomputable section

namespace Cert.Proof

open Idealize.ShloMosaic Idealize.SL.Sem

/-- The memory projection's pallas_call computes the memory's keys and values. -/
theorem memory : Cert.algebraic_KvIdeal_XKvIdeal := by
  pair_intro
  · run_from Cert.KvIdeal.Gen.run_main m g
  · hlo_run
    exact (Cert.KvIdeal.Value.final m c).symm

end Cert.Proof

end
-- ==== Proof.MergeRead.lean ====
/- The merge's reference read at an index: the gated branches against the output weights, the residual, and the layer norm of
   a row. -/
module

public import proofs.«01_k».proof.Proof.Gen.XMergeIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Norm

/-- A number behind its gate: the gate times its sigmoid. -/
def gated (a g : EReal) : EReal :=
  a * (g * Ideal.div (Ideal.ofBits .f32 0x3F800000#32) (Ideal.ofBits .f32 0x3F800000#32 + Ideal.exp (-g)))

/-- The mean of a row of 2048. -/
def mean (r : Fin 2048 → EReal) : EReal := Ideal.div (∑ k, r k) (Ideal.ofBits .f32 0x45000000#32)

/-- The row, centred and divided by its deviation. -/
def normal (r : Fin 2048 → EReal) (j : Fin 2048) : EReal :=
  (r j - mean r) * Ideal.rsqrt (mean (fun k => (r k - mean r) * (r k - mean r)) + Ideal.ofBits .f32 0x3727C5AC#32)

/-- A sum over 2048 places is the sum over the first 1024, the next 512 and the last 512. -/
theorem sum_three (f : Fin 2048 → EReal) :
    ∑ n, f n = (∑ n : Fin 1024, f ⟨n.val, by omega⟩) + (∑ n : Fin 512, f ⟨1024 + n.val, by omega⟩) + ∑ n : Fin 512, f ⟨1536 + n.val, by omega⟩ := by
  have h := Fin.sum_univ_add (a := 1024 + 512) (b := 512) (fun n => f ⟨n.val, by omega⟩)
  have h' := Fin.sum_univ_add (a := 1024) (b := 512) (fun n => f ⟨n.val, by omega⟩)
  refine (show ∑ n, f n = _ from h).trans ?_
  refine congrArg₂ (· + ·) ((show _ = _ from h').trans ?_) ?_
  · exact congrArg₂ (· + ·) rfl rfl
  · rfl

end Cert.Norm

namespace Cert.XMergeIdeal.Value

open Cert.XMergeIdeal Cert.XMergeIdeal.Gen

/-- The first branch behind its gate. -/
def branchA (a : FVec Ideal S8192x1024 .f32) (z : FVec Ideal S8192x8192 .f32) : FVec Ideal S4x2048x1024 .f32 :=
  mulf (shapeCast _ a shapeCasts_S8192x1024_S4x2048x1024) (mulf (shapeCast _ (extractStridedSlice S8192x1024 ![0, 3072] z slices_S8192x8192_S8192x1024_0_3072) shapeCasts_S8192x1024_S4x2048x1024) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (shapeCast _ (extractStridedSlice S8192x1024 ![0, 3072] z slices_S8192x8192_S8192x1024_0_3072) shapeCasts_S8192x1024_S4x2048x1024))))))

/-- The second branch behind its gate. -/
def branchB (b : FVec Ideal S8192x512 .f32) (z : FVec Ideal S8192x8192 .f32) : FVec Ideal S4x2048x512 .f32 :=
  mulf (shapeCast _ b shapeCasts_S8192x512_S4x2048x512) (mulf (shapeCast _ (extractStridedSlice S8192x512 ![0, 6656] z slices_S8192x8192_S8192x512_0_6656) shapeCasts_S8192x512_S4x2048x512) (Host.divf (broadcastInDim S4x2048x512 ![] bcast_S_S4x2048x512 (constant S_ .f32 0x3F800000#32)) (addf (broadcastInDim S4x2048x512 ![] bcast_S_S4x2048x512 (constant S_ .f32 0x3F800000#32)) (Host.exp (Host.negf (shapeCast _ (extractStridedSlice S8192x512 ![0, 6656] z slices_S8192x8192_S8192x512_0_6656) shapeCasts_S8192x512_S4x2048x512))))))

/-- The third branch behind its gate. -/
def branchM (b : FVec Ideal S8192x512 .f32) (z : FVec Ideal S8192x8192 .f32) : FVec Ideal S4x2048x512 .f32 :=
  mulf (shapeCast _ b shapeCasts_S8192x512_S4x2048x512) (mulf (shapeCast _ (extractStridedSlice S8192x512 ![0, 7680] z slices_S8192x8192_S8192x512_0_7680) shapeCasts_S8192x512_S4x2048x512) (Host.divf (broadcastInDim S4x2048x512 ![] bcast_S_S4x2048x512 (constant S_ .f32 0x3F800000#32)) (addf (broadcastInDim S4x2048x512 ![] bcast_S_S4x2048x512 (constant S_ .f32 0x3F800000#32)) (Host.exp (Host.negf (shapeCast _ (extractStridedSlice S8192x512 ![0, 7680] z slices_S8192x8192_S8192x512_0_7680) shapeCasts_S8192x512_S4x2048x512))))))

/-- The three branches side by side. -/
def together (a : FVec Ideal S4x2048x1024 .f32) (b e : FVec Ideal S4x2048x512 .f32) : FVec Ideal S4x2048x2048 .f32 :=
  concatenate S4x2048x2048 2 [⟨S4x2048x1024, a⟩, ⟨S4x2048x512, b⟩, ⟨S4x2048x512, e⟩] concatenates_S4x2048x1024_S4x2048x512_S4x2048x512_S4x2048x2048_d2

/-- The branches against the output weights, and the residual. -/
def summed (y : FVec Ideal S4x2048x2048 .f32) (x : FVec Ideal S4x2048x2048 .f32) (w : FVec Ideal S1x2048x2048 .f32) : FVec Ideal S4x2048x2048 .f32 :=
  addf (mulf (broadcastInDim S4x2048x2048 ![] bcast_S_S4x2048x2048 (constant S_ .f32 0x3F9837F0#32)) x)
    (Host.dotGeneral dot_S4x2048x2048_S2048x2048_S4x2048x2048_2_0_01_1_n_n none y (shapeCast _ w shapeCasts_S1x2048x2048_S2048x2048))

/-- The rows' means. -/
def means (x : FVec Ideal S4x2048x2048 .f32) : FVec Ideal S4x2048x1 .f32 :=
  Host.divf (broadcastInDim S4x2048x1 ![0, 1] bcast_S4x2048_S4x2048x1_0_1 (Host.reduceAdd x (constant S_ .f32 0x00000000#32) reducesTo_S4x2048x2048_S4x2048_d2 h_S_)) (broadcastInDim S4x2048x1 ![] bcast_S_S4x2048x1 (constant S_ .f32 0x45000000#32))

/-- The rows without their means. -/
def centred (x : FVec Ideal S4x2048x2048 .f32) : FVec Ideal S4x2048x2048 .f32 :=
  subf x (broadcastInDim S4x2048x2048 ![0, 1, 2] bcast_S4x2048x1_S4x2048x2048_0_1_2 (means x))

/-- The centred rows scaled. -/
def scaled (x : FVec Ideal S4x2048x2048 .f32) : FVec Ideal S4x2048x2048 .f32 :=
  mulf (centred x) (broadcastInDim S4x2048x2048 ![0, 1, 2] bcast_S4x2048x1_S4x2048x2048_0_1_2 (Host.rsqrt (addf (means (mulf (centred x) (centred x))) (broadcastInDim S4x2048x1 ![] bcast_S_S4x2048x1 (constant S_ .f32 0x3727C5AC#32)))))

/-- The layer norm's gain and bias, one row to a token. -/
def affine (x : FVec Ideal S4x2048x2048 .f32) (g b : FVec Ideal S1x2048 .f32) : FVec Ideal S8192x2048 .f32 :=
  shapeCast _ (addf (mulf x (broadcastInDim S4x2048x2048 ![0, 1, 2] bcast_S1x1x2048_S4x2048x2048_0_1_2 (broadcastInDim S1x1x2048 ![2] bcast_S2048_S1x1x2048_2 (shapeCast _ g shapeCasts_S1x2048_S2048)))) (broadcastInDim S4x2048x2048 ![0, 1, 2] bcast_S1x1x2048_S4x2048x2048_0_1_2 (broadcastInDim S1x1x2048 ![2] bcast_S2048_S1x1x2048_2 (shapeCast _ b shapeCasts_S1x2048_S2048)))) shapeCasts_S4x2048x2048_S8192x2048

/-- The reference's result of its eight arguments. -/
def REF (a : FVec Ideal S8192x1024 .f32) (z : FVec Ideal S8192x8192 .f32) (b e : FVec Ideal S8192x512 .f32) (x : FVec Ideal S4x2048x2048 .f32)
    (w : FVec Ideal S1x2048x2048 .f32) (g s : FVec Ideal S1x2048 .f32) : FVec Ideal S8192x2048 .f32 :=
  affine (scaled (summed (together (branchA a z) (branchB b z) (branchM e z)) x w)) g s

/-- The composed term of the run is `REF`. -/
theorem REF_eq (m : (ℓ : Loc nD τ sig) → Buf (Elt Ideal) ℓ) (c : Dev nD) : res_main_v45 m c
    = REF (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := rfl

theorem branchA_at (a : FVec Ideal S8192x1024 .f32) (z : FVec Ideal S8192x8192 .f32) (b : Fin 4) (t : Fin 2048) (n : Fin 1024) :
    branchA a z (ix3 b t n) = Cert.Norm.gated (a (ix2 ⟨b.val * 2048 + t.val, by omega⟩ n)) (z (ix2 ⟨b.val * 2048 + t.val, by omega⟩ ⟨3072 + n.val, by omega⟩)) := by
  pointwise [branchA, Cert.Norm.gated]

theorem branchB_at (a : FVec Ideal S8192x512 .f32) (z : FVec Ideal S8192x8192 .f32) (b : Fin 4) (t : Fin 2048) (n : Fin 512) :
    branchB a z (ix3 b t n) = Cert.Norm.gated (a (ix2 ⟨b.val * 2048 + t.val, by omega⟩ n)) (z (ix2 ⟨b.val * 2048 + t.val, by omega⟩ ⟨6656 + n.val, by omega⟩)) := by
  pointwise [branchB, Cert.Norm.gated]

theorem branchM_at (a : FVec Ideal S8192x512 .f32) (z : FVec Ideal S8192x8192 .f32) (b : Fin 4) (t : Fin 2048) (n : Fin 512) :
    branchM a z (ix3 b t n) = Cert.Norm.gated (a (ix2 ⟨b.val * 2048 + t.val, by omega⟩ n)) (z (ix2 ⟨b.val * 2048 + t.val, by omega⟩ ⟨7680 + n.val, by omega⟩)) := by
  pointwise [branchM, Cert.Norm.gated]

theorem together_first (a : FVec Ideal S4x2048x1024 .f32) (b e : FVec Ideal S4x2048x512 .f32) (i : Fin 4) (t : Fin 2048) (n : Fin 1024) :
    together a b e (ix3 i t ⟨n.val, by omega⟩) = a (ix3 i t n) := by
  pointwise [together]

theorem together_second (a : FVec Ideal S4x2048x1024 .f32) (b e : FVec Ideal S4x2048x512 .f32) (i : Fin 4) (t : Fin 2048) (n : Fin 512) :
    together a b e (ix3 i t ⟨1024 + n.val, by omega⟩) = b (ix3 i t n) := by
  pointwise [together]

theorem together_third (a : FVec Ideal S4x2048x1024 .f32) (b e : FVec Ideal S4x2048x512 .f32) (i : Fin 4) (t : Fin 2048) (n : Fin 512) :
    together a b e (ix3 i t ⟨1536 + n.val, by omega⟩) = e (ix3 i t n) := by
  pointwise [together]
  rw [dif_neg (by omega), dif_neg (by omega)]
  exact congrArg e (congrArg (ix3 i t) (Fin.ext (by dsimp only; omega)))

theorem summed_at (y x : FVec Ideal S4x2048x2048 .f32) (w : FVec Ideal S1x2048x2048 .f32) (i : Fin 4) (t j : Fin 2048) :
    summed y x w (ix3 i t j) = Ideal.ofBits .f32 0x3F9837F0#32 * x (ix3 i t j) + ∑ n : Fin 2048, y (ix3 i t n) * w (ix3 0 n j) := by
  pointwise [summed]

theorem means_at (x : FVec Ideal S4x2048x2048 .f32) (i : Fin 4) (t : Fin 2048) (o : Fin 1) :
    means x (ix3 i t o) = Cert.Norm.mean fun k => x (ix3 i t k) := by
  pointwise [means, Cert.Norm.mean]

theorem centred_at (x : FVec Ideal S4x2048x2048 .f32) (i : Fin 4) (t j : Fin 2048) :
    centred x (ix3 i t j) = x (ix3 i t j) - Cert.Norm.mean fun k => x (ix3 i t k) := by
  rw [← means_at x i t 0]
  pointwise [centred]

theorem scaled_at (x : FVec Ideal S4x2048x2048 .f32) (i : Fin 4) (t j : Fin 2048) :
    scaled x (ix3 i t j) = Cert.Norm.normal (fun k => x (ix3 i t k)) j := by
  have h : scaled x (ix3 i t j) = centred x (ix3 i t j) * Ideal.rsqrt (means (mulf (centred x) (centred x)) (ix3 i t 0) + Ideal.ofBits .f32 0x3727C5AC#32) := by
    pointwise [scaled]
  rw [h, means_at]
  have e : (fun k => mulf (centred x) (centred x) (ix3 i t k)) = fun k => (x (ix3 i t k) - Cert.Norm.mean fun k => x (ix3 i t k)) * (x (ix3 i t k) - Cert.Norm.mean fun k => x (ix3 i t k)) := by
    funext k
    rw [← centred_at]
    rfl
  rw [e, centred_at]
  rfl

theorem affine_at (x : FVec Ideal S4x2048x2048 .f32) (g b : FVec Ideal S1x2048 .f32) (i : Fin 8192) (j : Fin 2048) :
    affine x g b (ix2 i j) = x (ix3 ⟨i.val / 2048, by omega⟩ ⟨i.val % 2048, by omega⟩ j) * g (ix2 0 j) + b (ix2 0 j) := by
  pointwise [affine]

end Cert.XMergeIdeal.Value

end
-- ==== Proof.MergeValue.lean ====
/- The merge: what its pallas_call writes is the layer norm of the residual and the gated branches against the output
   weights. -/
module

public import proofs.«01_k».proof.Proof.Gen.MergeIdeal.Value
public import proofs.«01_k».proof.Proof.Gen.Merge.Frame
public import proofs.«01_k».proof.Proof.MergeRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.Norm

variable (m : (ℓ : Loc nD τ sig) → Buf (Elt Ideal) ℓ)

/-- Each window's block at a grid point. -/
theorem idx : ∀ t : Fin cfg0.N, win0_0.index t = ![t.val, 0] ∧ win0_1.index t = ![t.val, 3] ∧ win0_2.index t = ![t.val, 0]
    ∧ win0_3.index t = ![t.val, 13] ∧ win0_4.index t = ![t.val, 0] ∧ win0_5.index t = ![t.val, 15] ∧ win0_6.index t = ![t.val, 0]
    ∧ win0_7.index t = ![0, 0] ∧ win0_8.index t = ![0, 0] ∧ win0_9.index t = ![0, 0] ∧ win0_10.index t = ![t.val, 0] :=
  (by decide +kernel : ∀ t : Fin grid0.N, _)

/-! ## The body's block -/

/-- The branches' blocks against the three parts of the weights, and the residual. -/
def sumBlock (a : FVec Ideal S256x1024 .bf16) (b e : FVec Ideal S256x512 .bf16) (wa : FVec Ideal S1024x2048 .bf16) (wb we : FVec Ideal S512x2048 .bf16)
    (x : FVec Ideal S256x2048 .f32) : FVec Ideal S256x2048 .f32 :=
  addf (mulf (broadcast S256x2048 (Scalar.ofBits .f32 0x3F9837F0#32)) (shapeCast S256x2048 x shapeCasts_S256x2048_S256x2048))
    (addf (addf (matmul dot_S256x1024_S1024x2048_S256x2048_1_0_0_1_n_n none a (shapeCast S1024x2048 wa shapeCasts_S1024x2048_S1024x2048) (constant S256x2048 .f32 0x00000000#32))
      (matmul dot_S256x512_S512x2048_S256x2048_1_0_0_1_n_n none b (shapeCast S512x2048 wb shapeCasts_S512x2048_S512x2048) (constant S256x2048 .f32 0x00000000#32)))
      (matmul dot_S256x512_S512x2048_S256x2048_1_0_0_1_n_n none e (shapeCast S512x2048 we shapeCasts_S512x2048_S512x2048) (constant S256x2048 .f32 0x00000000#32)))

/-- The block's means. -/
def meanBlock (x : FVec Ideal S256x2048 .f32) : FVec Ideal S256x1 .f32 :=
  divf (shapeCast S256x1 (multiReduction .add [1] S256 x 0x00000000#32 reduces_S256x2048_S256 (.inl rfl) rfl) shapeCasts_S256_S256x1) (broadcast S256x1 (Scalar.ofBits .f32 0x45000000#32))

/-- The block without its means. -/
def centredBlock (x : FVec Ideal S256x2048 .f32) : FVec Ideal S256x2048 .f32 :=
  subf x (broadcastTo S256x2048 (meanBlock x) broadcasts_S256x1_S256x2048)

/-- The centred block scaled. -/
def scaledBlock (x : FVec Ideal S256x2048 .f32) : FVec Ideal S256x2048 .f32 :=
  mulf (centredBlock x) (broadcastTo S256x2048 (rsqrt (addf (meanBlock (mulf (centredBlock x) (centredBlock x))) (broadcast S256x1 (Scalar.ofBits .f32 0x3727C5AC#32)))) broadcasts_S256x1_S256x2048)

/-- The block with gain and bias. -/
def affineBlock (x : FVec Ideal S256x2048 .f32) (g b : FVec Ideal S1x2048 .f32) : FVec Ideal S256x2048 .f32 :=
  addf (mulf x (broadcastTo S256x2048 (shapeCast S1x2048 g shapeCasts_S1x2048_S1x2048) broadcasts_S1x2048_S256x2048))
    (broadcastTo S256x2048 (shapeCast S1x2048 b shapeCasts_S1x2048_S1x2048) broadcasts_S1x2048_S256x2048)

theorem payload_eq (a : FVec Ideal S256x1024 .bf16) (b e : FVec Ideal S256x512 .bf16) (wa : Vec Ideal S1024x2048 .bf16) (wb we : Vec Ideal S512x2048 .bf16)
    (x : Vec Ideal S256x2048 .f32) (g s : Vec Ideal S1x2048 .f32) :
    k0_pay4 a b e wa wb we x g s = affineBlock (scaledBlock (sumBlock a b e wa wb we x)) g s := rfl

theorem gate1_at (a z : FVec Ideal S256x1024 .f32) (r : Fin 256) (n : Fin 1024) : k0_pay1 (F := Ideal) a z (ix2 r n) = gated (a (ix2 r n)) (z (ix2 r n)) := by
  pointwise [k0_pay1, gated]
  rw [zero_sub]

theorem gate2_at (a z : FVec Ideal S256x512 .f32) (r : Fin 256) (n : Fin 512) : k0_pay2 (F := Ideal) a z (ix2 r n) = gated (a (ix2 r n)) (z (ix2 r n)) := by
  pointwise [k0_pay2, gated]
  rw [zero_sub]

theorem gate3_at (a z : FVec Ideal S256x512 .f32) (r : Fin 256) (n : Fin 512) : k0_pay3 (F := Ideal) a z (ix2 r n) = gated (a (ix2 r n)) (z (ix2 r n)) := by
  pointwise [k0_pay3, gated]
  rw [zero_sub]

theorem sumBlock_at (a : FVec Ideal S256x1024 .bf16) (b e : FVec Ideal S256x512 .bf16) (wa : FVec Ideal S1024x2048 .bf16) (wb we : FVec Ideal S512x2048 .bf16)
    (x : FVec Ideal S256x2048 .f32) (r : Fin 256) (j : Fin 2048) :
    sumBlock a b e wa wb we x (ix2 r j) = Ideal.ofBits .f32 0x3F9837F0#32 * x (ix2 r j)
      + ((∑ n : Fin 1024, a (ix2 r n) * wa (ix2 n j)) + (∑ n : Fin 512, b (ix2 r n) * wb (ix2 n j)) + ∑ n : Fin 512, e (ix2 r n) * we (ix2 n j)) := by
  pointwise [sumBlock]

theorem meanBlock_at (x : FVec Ideal S256x2048 .f32) (r : Fin 256) (o : Fin 1) : meanBlock x (ix2 r o) = mean fun k => x (ix2 r k) := by
  pointwise [meanBlock, mean]

theorem centredBlock_at (x : FVec Ideal S256x2048 .f32) (r : Fin 256) (j : Fin 2048) : centredBlock x (ix2 r j) = x (ix2 r j) - mean fun k => x (ix2 r k) := by
  rw [← meanBlock_at x r 0]
  pointwise [centredBlock]

theorem scaledBlock_at (x : FVec Ideal S256x2048 .f32) (r : Fin 256) (j : Fin 2048) : scaledBlock x (ix2 r j) = normal (fun k => x (ix2 r k)) j := by
  have h : scaledBlock x (ix2 r j) = centredBlock x (ix2 r j) * Ideal.rsqrt (meanBlock (mulf (centredBlock x) (centredBlock x)) (ix2 r 0) + Ideal.ofBits .f32 0x3727C5AC#32) := by
    pointwise [scaledBlock]
  rw [h, meanBlock_at]
  have e : (fun k => mulf (centredBlock x) (centredBlock x) (ix2 r k)) = fun k => (x (ix2 r k) - mean fun k => x (ix2 r k)) * (x (ix2 r k) - mean fun k => x (ix2 r k)) := by
    funext k
    rw [← centredBlock_at]
    rfl
  rw [e, centredBlock_at]
  rfl

theorem affineBlock_at (x : FVec Ideal S256x2048 .f32) (g b : FVec Ideal S1x2048 .f32) (r : Fin 256) (j : Fin 2048) :
    affineBlock x g b (ix2 r j) = x (ix2 r j) * g (ix2 0 j) + b (ix2 0 j) := by
  pointwise [affineBlock]

/-! ## The operands the host prepares -/

/-- The residual, one token to a row. -/
def residual (x : FVec Ideal S4x2048x2048 .f32) : FVec Ideal S8192x2048 .f32 := shapeCast _ x shapeCasts_S4x2048x2048_S8192x2048
/-- The output weights. -/
def outW (w : FVec Ideal S1x2048x2048 .f32) : FVec Ideal S2048x2048 .bf16 := truncf .bf16 (shapeCast S2048x2048 w shapeCasts_S1x2048x2048_S2048x2048 : FVec Ideal S2048x2048 .f32) bitsLt_bf16_f32

theorem residual_at (x : FVec Ideal S4x2048x2048 .f32) (i : Fin 8192) (j : Fin 2048) :
    residual x (ix2 i j) = x (ix3 ⟨i.val / 2048, by omega⟩ ⟨i.val % 2048, by omega⟩ j) := by
  pointwise [residual]

theorem outW_at (w : FVec Ideal S1x2048x2048 .f32) (n j : Fin 2048) : outW w (ix2 n j) = w (ix3 0 n j) := by
  pointwise [outW]

/-- A row of gains or biases. -/
def rowOf (g : FVec Ideal S1x2048 .f32) : FVec Ideal S1x2048 .f32 :=
  broadcastInDim S1x2048 ![1] bcast_S2048_S1x2048_1 (shapeCast S2048 g shapeCasts_S1x2048_S2048)

theorem rowOf_at (g : FVec Ideal S1x2048 .f32) (j : Fin 2048) : rowOf g (ix2 0 j) = g (ix2 0 j) := by
  pointwise [rowOf]

theorem V_residual (c : Dev nD) : V m c main_v6 = residual (m ((c : Thread nD τ).loc main_arg4)) := by
  entry_read; rfl
theorem V_out (c : Dev nD) : V m c main_v1 = outW (m ((c : Thread nD τ).loc main_arg5)) := by
  entry_read; rfl
theorem V_gain (c : Dev nD) : V m c main_v3 = rowOf (m ((c : Thread nD τ).loc main_arg6)) := by
  entry_read; rfl
theorem V_bias (c : Dev nD) : V m c main_v5 = rowOf (m ((c : Thread nD τ).loc main_arg7)) := by
  entry_read; rfl

section Blocks

variable (c : Dev nD) (t : Fin cfg0.N) (r : Fin 256) (i : Fin 8192) (hi : i.val = t.val * 256 + r.val)

include hi

theorem a_at (n : Fin 1024) : (View.ld (iblk m c 0 t) r0_0 : FVec Ideal S256x1024 .f32) (ix2 r n) = (m ((c : Thread nD τ).loc main_arg0) : FVec Ideal S8192x1024 .f32) (ix2 i n) := by
  have ht : t.val < 32 := lt_of_lt_of_eq t.isLt N_0
  refine Eq.trans (b := (iblk m c 0 t : FVec Ideal S256x1024 .f32) (ix2 r n)) (by pointwise) ?_
  blk_ext [iblk, V, idx t, hi]

theorem ag_at (n : Fin 1024) : (View.ld (iblk m c 1 t) r0_0 : FVec Ideal S256x1024 .f32) (ix2 r n) = (m ((c : Thread nD τ).loc main_arg1) : FVec Ideal S8192x8192 .f32) (ix2 i ⟨3072 + n.val, by omega⟩) := by
  have ht : t.val < 32 := lt_of_lt_of_eq t.isLt N_0
  refine Eq.trans (b := (iblk m c 1 t : FVec Ideal S256x1024 .f32) (ix2 r n)) (by pointwise) ?_
  blk_ext [iblk, V, idx t, hi]

theorem b_at (n : Fin 512) : (View.ld (iblk m c 2 t) r0_1 : FVec Ideal S256x512 .f32) (ix2 r n) = (m ((c : Thread nD τ).loc main_arg2) : FVec Ideal S8192x512 .f32) (ix2 i n) := by
  have ht : t.val < 32 := lt_of_lt_of_eq t.isLt N_0
  refine Eq.trans (b := (iblk m c 2 t : FVec Ideal S256x512 .f32) (ix2 r n)) (by pointwise) ?_
  blk_ext [iblk, V, idx t, hi]

theorem bg_at (n : Fin 512) : (View.ld (iblk m c 3 t) r0_1 : FVec Ideal S256x512 .f32) (ix2 r n) = (m ((c : Thread nD τ).loc main_arg1) : FVec Ideal S8192x8192 .f32) (ix2 i ⟨6656 + n.val, by omega⟩) := by
  have ht : t.val < 32 := lt_of_lt_of_eq t.isLt N_0
  refine Eq.trans (b := (iblk m c 3 t : FVec Ideal S256x512 .f32) (ix2 r n)) (by pointwise) ?_
  blk_ext [iblk, V, idx t, hi]

theorem e_at (n : Fin 512) : (View.ld (iblk m c 4 t) r0_1 : FVec Ideal S256x512 .f32) (ix2 r n) = (m ((c : Thread nD τ).loc main_arg3) : FVec Ideal S8192x512 .f32) (ix2 i n) := by
  have ht : t.val < 32 := lt_of_lt_of_eq t.isLt N_0
  refine Eq.trans (b := (iblk m c 4 t : FVec Ideal S256x512 .f32) (ix2 r n)) (by pointwise) ?_
  blk_ext [iblk, V, idx t, hi]

theorem eg_at (n : Fin 512) : (View.ld (iblk m c 5 t) r0_1 : FVec Ideal S256x512 .f32) (ix2 r n) = (m ((c : Thread nD τ).loc main_arg1) : FVec Ideal S8192x8192 .f32) (ix2 i ⟨7680 + n.val, by omega⟩) := by
  have ht : t.val < 32 := lt_of_lt_of_eq t.isLt N_0
  refine Eq.trans (b := (iblk m c 5 t : FVec Ideal S256x512 .f32) (ix2 r n)) (by pointwise) ?_
  blk_ext [iblk, V, idx t, hi]

theorem x_at (j : Fin 2048) : (View.ld (iblk m c 6 t) r0_5 : FVec Ideal S256x2048 .f32) (ix2 r j) = residual (m ((c : Thread nD τ).loc main_arg4)) (ix2 i j) := by
  have ht : t.val < 32 := lt_of_lt_of_eq t.isLt N_0
  refine Eq.trans (b := (iblk m c 6 t : FVec Ideal S256x2048 .f32) (ix2 r j)) (by pointwise) ?_
  rw [← V_residual]
  blk_ext [iblk, idx t, hi]

end Blocks

theorem w_at (c : Dev nD) (t : Fin cfg0.N) (n j : Fin 2048) : (iblk m c 7 t : FVec Ideal S2048x2048 .bf16) (ix2 n j) = outW (m ((c : Thread nD τ).loc main_arg5)) (ix2 n j) := by
  rw [← V_out]
  blk_ext [iblk, idx t]

theorem wa_at (c : Dev nD) (t : Fin cfg0.N) (n : Fin 1024) (j : Fin 2048) :
    (View.ld (iblk m c 7 t) r0_2 : FVec Ideal S1024x2048 .bf16) (ix2 n j) = outW (m ((c : Thread nD τ).loc main_arg5)) (ix2 ⟨n.val, by omega⟩ j) := by
  rw [← w_at m c t]
  pointwise

theorem wb_at (c : Dev nD) (t : Fin cfg0.N) (n : Fin 512) (j : Fin 2048) :
    (View.ld (iblk m c 7 t) r0_3 : FVec Ideal S512x2048 .bf16) (ix2 n j) = outW (m ((c : Thread nD τ).loc main_arg5)) (ix2 ⟨1024 + n.val, by omega⟩ j) := by
  rw [← w_at m c t]
  pointwise

theorem we_at (c : Dev nD) (t : Fin cfg0.N) (n : Fin 512) (j : Fin 2048) :
    (View.ld (iblk m c 7 t) r0_4 : FVec Ideal S512x2048 .bf16) (ix2 n j) = outW (m ((c : Thread nD τ).loc main_arg5)) (ix2 ⟨1536 + n.val, by omega⟩ j) := by
  rw [← w_at m c t]
  pointwise

theorem g_at (c : Dev nD) (t : Fin cfg0.N) (j : Fin 2048) :
    (View.ld (iblk m c 8 t) r0_6 : FVec Ideal S1x2048 .f32) (ix2 0 j) = rowOf (m ((c : Thread nD τ).loc main_arg6)) (ix2 0 j) := by
  refine Eq.trans (b := (iblk m c 8 t : FVec Ideal S1x2048 .f32) (ix2 0 j)) (by pointwise) ?_
  rw [← V_gain]
  blk_ext [iblk, idx t]

theorem s_at (c : Dev nD) (t : Fin cfg0.N) (j : Fin 2048) :
    (View.ld (iblk m c 9 t) r0_6 : FVec Ideal S1x2048 .f32) (ix2 0 j) = rowOf (m ((c : Thread nD τ).loc main_arg7)) (ix2 0 j) := by
  refine Eq.trans (b := (iblk m c 9 t : FVec Ideal S1x2048 .f32) (ix2 0 j)) (by pointwise) ?_
  rw [← V_bias]
  blk_ext [iblk, idx t]

/-! ## The array -/

/-- A row of the body's block before the layer norm is the reference's row. -/
theorem row (c : Dev nD) (t : Fin cfg0.N) (r : Fin 256) (i : Fin 8192) (hi : i.val = t.val * 256 + r.val) (j : Fin 2048) :
    sumBlock (k0_pay1 (View.ld (iblk m c 0 t) r0_0) (View.ld (iblk m c 1 t) r0_0)) (k0_pay2 (View.ld (iblk m c 2 t) r0_1) (View.ld (iblk m c 3 t) r0_1))
        (k0_pay3 (View.ld (iblk m c 4 t) r0_1) (View.ld (iblk m c 5 t) r0_1)) (View.ld (iblk m c 7 t) r0_2) (View.ld (iblk m c 7 t) r0_3)
        (View.ld (iblk m c 7 t) r0_4) (View.ld (iblk m c 6 t) r0_5) (ix2 r j)
      = Cert.XMergeIdeal.Value.summed (Cert.XMergeIdeal.Value.together
          (Cert.XMergeIdeal.Value.branchA (m ((c : Thread nD τ).loc main_arg0)) (m ((c : Thread nD τ).loc main_arg1)))
          (Cert.XMergeIdeal.Value.branchB (m ((c : Thread nD τ).loc main_arg2)) (m ((c : Thread nD τ).loc main_arg1)))
          (Cert.XMergeIdeal.Value.branchM (m ((c : Thread nD τ).loc main_arg3)) (m ((c : Thread nD τ).loc main_arg1))))
        (m ((c : Thread nD τ).loc main_arg4)) (m ((c : Thread nD τ).loc main_arg5)) (ix3 ⟨i.val / 2048, by omega⟩ ⟨i.val % 2048, by omega⟩ j) := by
  have hk : (⟨i.val / 2048 * 2048 + i.val % 2048, by omega⟩ : Fin 8192) = i := Fin.ext (by dsimp only; omega)
  rw [sumBlock_at, Cert.XMergeIdeal.Value.summed_at, sum_three]
  refine congrArg₂ (· + ·) (congrArg (Ideal.ofBits .f32 0x3F9837F0#32 * ·) ?_) (congrArg₂ (· + ·) (congrArg₂ (· + ·) ?_ ?_) ?_)
  · exact (x_at m c t r i hi j).trans (residual_at _ _ _)
  · refine Finset.sum_congr rfl fun n _ => congrArg₂ (fun a b : EReal => a * b) ?_ ?_
    · rw [Cert.XMergeIdeal.Value.together_first, Cert.XMergeIdeal.Value.branchA_at, hk]
      exact (gate1_at _ _ r n).trans (congrArg₂ gated (a_at m c t r i hi n) (ag_at m c t r i hi n))
    · exact (wa_at m c t n j).trans (outW_at _ _ _)
  · refine Finset.sum_congr rfl fun n _ => congrArg₂ (fun a b : EReal => a * b) ?_ ?_
    · rw [Cert.XMergeIdeal.Value.together_second, Cert.XMergeIdeal.Value.branchB_at, hk]
      exact (gate2_at _ _ r n).trans (congrArg₂ gated (b_at m c t r i hi n) (bg_at m c t r i hi n))
    · exact (wb_at m c t n j).trans (outW_at _ _ _)
  · refine Finset.sum_congr rfl fun n _ => congrArg₂ (fun a b : EReal => a * b) ?_ ?_
    · rw [Cert.XMergeIdeal.Value.together_third, Cert.XMergeIdeal.Value.branchM_at, hk]
      exact (gate3_at _ _ r n).trans (congrArg₂ gated (e_at m c t r i hi n) (eg_at m c t r i hi n))
    · exact (we_at m c t n j).trans (outW_at _ _ _)

/-- POINT: what a grid point's body leaves in the output block is the reference at the block's place. -/
theorem point (c : Dev nD) (t : Fin cfg0.N) (y : S256x2048.Idx) :
    out0_10 (iblk m c 0 t) (iblk m c 1 t) (iblk m c 2 t) (iblk m c 3 t) (iblk m c 4 t) (iblk m c 5 t) (iblk m c 6 t) (iblk m c 7 t) (iblk m c 8 t) (iblk m c 9 t) y
      = Cert.XMergeIdeal.Value.REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (((cfg0.win 10).blk t).view.emb y) := by
  canon_tiles x h
  case piece0 =>
    have ht : t.val < 32 := lt_of_lt_of_eq t.isLt N_0
    obtain ⟨r, j, rfl⟩ : ∃ (r : Fin 256) (j : Fin 2048), x = ix2 r j := ⟨x 0, x 1, by blk_ext⟩
    have h0' : (y 0 : ℕ) = r.val := h0
    have h1' : (y 1 : ℕ) = j.val := h1
    have hemb : ((cfg0.win 10).blk t).view.emb y = (ix2 (⟨t.val * 256 + r.val, by omega⟩ : Fin 8192) j : S8192x2048.Idx) := by
      blk_ext [idx t, h0', h1']
    rw [hemb, payload_eq, affineBlock_at, scaledBlock_at, Cert.XMergeIdeal.Value.REF, Cert.XMergeIdeal.Value.affine_at, Cert.XMergeIdeal.Value.scaled_at]
    refine congrArg₂ (fun a b : EReal => a + b) (congrArg₂ (fun a b : EReal => a * b) (congrArg (normal · j) ?_) ?_) ?_
    · funext k
      exact row m c t r ⟨t.val * 256 + r.val, by omega⟩ rfl k
    · exact (g_at m c t j).trans (rowOf_at _ j)
    · exact (s_at m c t j).trans (rowOf_at _ j)

/-- THE ARRAY: after the run, the call's output is the reference's result over the eight arguments. -/
theorem final (c : Dev nD) : (dats m 0 c).arrAt 10 (cfgs 0).N
    = Cert.XMergeIdeal.Value.REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  exact point m c t y

end Cert.MergeIdeal.Value

end
-- ==== Proof.MergeClaim.lean ====
/- The merge's value claim: both idealized programs end with the same array. -/
module

public import proofs.«01_k».proof.Defs
public import proofs.«01_k».proof.Proof.MergeValue

@[expose] public section

set_option maxRecDepth 16384

noncomputable section

namespace Cert.Proof

open Idealize.ShloMosaic Idealize.SL.Sem

/-- The merge's pallas_call computes the layer norm of the residual and the gated branches against the output weights. -/
theorem merged : Cert.algebraic_MergeIdeal_XMergeIdeal := by
  pair_intro
  · run_from Cert.MergeIdeal.Gen.run_main m g
  · refine (θ_run Cert.XMergeIdeal.defs _ _).mono (fun r h => ?_) (Cert.XMergeIdeal.Value.run (F := Ideal) _ _)
    intro c
    refine ⟨(h c).1.trans ?_, (h c).2⟩
    refine Eq.trans ?_ (Cert.MergeIdeal.Value.final m c).symm
    obtain ⟨h0, h1, h2, h3, h4, h5, h6, h7⟩ := hagree c
    rw [Cert.XMergeIdeal.Value.REF_eq]
    exact congr (congr (congr (congr (congr (congr (congr (congrArg Cert.XMergeIdeal.Value.REF h0) h1) h2) h3) h4) h5) h6) h7

end Cert.Proof

end
-- ==== Proof.HgrnMath.lean ====
/- The recurrence of a sequence of eight tokens, in plain sums: the forget gates, their running log sums, the weights
   between tokens, what a token reads and what the state becomes. -/
module

public import proofs.«01_k».proof.Proof.Extended
public import Idealize.ShloMosaic.Lib.Pointwise

@[expose] public section

noncomputable section

open Idealize.ShloMosaic

namespace Cert.Recur

/-- A token's forget gate: the lower bound, and a sigmoid's share of the rest. -/
def gate (l x : EReal) : EReal :=
  l + (Ideal.ofBits .f32 0x3F800000#32 - l) * Ideal.div (Ideal.ofBits .f32 0x3F800000#32) (Ideal.ofBits .f32 0x3F800000#32 + Ideal.exp (-x))

/-- A number times its sigmoid. -/
def swish (x : EReal) : EReal :=
  x * Ideal.div (Ideal.ofBits .f32 0x3F800000#32) (Ideal.ofBits .f32 0x3F800000#32 + Ideal.exp (-x))

/-- What a gate lets in. -/
def pass (f : EReal) : EReal := Ideal.ofBits .f32 0x3F800000#32 - f

/-- The log gates up to token `t`, added. -/
def sums (f : Fin 8 → EReal) (t : Fin 8) : EReal := ∑ s : Fin 8, if s ≤ t then Ideal.log (f s) else 0

/-- The weight of token `s` in token `t`'s reading. -/
def weight (q f : Fin 8 → Fin 128 → EReal) (t s : Fin 8) : EReal :=
  ∑ d, q t d * (pass (f s d) * Ideal.exp (if s ≤ t then sums (f · d) t - sums (f · d) s else ⊥))

/-- A token's reading, at one lane of the values: the earlier tokens' and the old state's. -/
def reading (q f : Fin 8 → Fin 128 → EReal) (v : Fin 8 → EReal) (st : Fin 128 → EReal) (t : Fin 8) : EReal :=
  (∑ s, v s * weight q f t s) + ∑ d, st d * (q t d * Ideal.exp (sums (f · d) t))

/-- The new state at one place. -/
def state (f v : Fin 8 → EReal) (st : EReal) : EReal :=
  Ideal.exp (sums f 7) * st + ∑ s, pass (f s) * Ideal.exp (sums f 7 - sums f s) * v s

/-- The root of a row's mean square. -/
def rootMean (o : Fin 128 → EReal) : EReal :=
  Ideal.rsqrt (Ideal.div (∑ e, o e * o e) (Ideal.ofBits .f32 0x43000000#32) + Ideal.ofBits .f32 0x358637BD#32)

theorem bits_one : Ideal.ofBits .f32 0x3F800000#32 = 1 := by
  simp [Ideal.ofBits, Ideal.ieee, -EReal.coe_mul]
  norm_num

theorem one_ne_top : ¬ ((⊤ : EReal) ≤ 1) := not_le.mpr (EReal.coe_lt_top 1)

theorem bits_zero : Ideal.ofBits .f32 0x00000000#32 = 0 := by simp [Ideal.ofBits, Ideal.ieee]

/-- An exponential is not negative. -/
theorem exp_nonneg (x : EReal) : 0 ≤ Ideal.exp x := by
  induction x using EReal.rec with
  | bot => simp
  | top => simp
  | coe r => simpa using (Real.exp_pos r).le

/-- The exponential of what is at most zero is at most one. -/
theorem exp_le_one {x : EReal} (h : x ≤ 0) : Ideal.exp x ≤ 1 := by
  induction x using EReal.rec with
  | bot => simp
  | top => simp at h
  | coe r =>
    have hr : r ≤ 0 := by exact_mod_cast h
    have : Real.exp r ≤ 1 := Real.exp_le_one_iff.mpr hr
    simpa using (by exact_mod_cast this : ((Real.exp r : ℝ) : EReal) ≤ 1)

/-- The logarithm of what is at most one is at most zero. -/
theorem log_nonpos {x : EReal} (h : x ≤ 1) : Ideal.log x ≤ 0 := by
  induction x using EReal.rec with
  | bot => exact (bot_le : (⊥ : EReal) ≤ 0)
  | top => exact absurd h one_ne_top
  | coe r =>
    have hr : r ≤ 1 := by exact_mod_cast h
    have e : Ideal.log (r : EReal) = if r ≤ 0 then ⊥ else ((Real.log r : ℝ) : EReal) := rfl
    rw [e]
    split_ifs with h0
    · exact bot_le
    · have : Real.log r ≤ 0 := Real.log_nonpos (not_le.mp h0).le hr
      exact_mod_cast this

/-- A part of a sum of two numbers that are not negative, divided by the sum, is at most one. -/
theorem share_le_one {x y : EReal} (hx : 0 ≤ x) (hy : 0 ≤ y) (hx1 : x ≤ 1) : Ideal.div x (x + y) ≤ 1 := by
  unfold Ideal.div
  split_ifs with h h0
  · exfalso
    have : x ≤ x + y := le_add_of_nonneg_right hy
    rw [h] at this
    exact absurd h0 (not_lt.mpr this)
  · exact bot_le
  · induction y using EReal.rec with
    | bot => simp at hy
    | top =>
      rw [EReal.add_top_of_ne_bot (ne_of_gt (lt_of_lt_of_le EReal.bot_lt_zero hx))]
      simp
    | coe b =>
      induction x using EReal.rec with
      | bot => simp at hx
      | top => exact absurd hx1 one_ne_top
      | coe a =>
        have ha : 0 ≤ a := by exact_mod_cast hx
        have hb : 0 ≤ b := by exact_mod_cast hy
        rw [← EReal.coe_add, ← EReal.coe_inv, ← EReal.coe_mul]
        have : a * (a + b)⁻¹ ≤ 1 := by
          rw [← div_eq_mul_inv]
          exact div_le_one_of_le₀ (by linarith) (by linarith)
        exact_mod_cast this

/-- A sigmoid lies between zero and one. -/
theorem sigmoid_mem (x : EReal) : ∃ r : ℝ, 0 ≤ r ∧ r ≤ 1 ∧ Ideal.div 1 (1 + Ideal.exp (-x)) = (r : EReal) := by
  have he := exp_nonneg (-x)
  generalize Ideal.exp (-x) = e at he
  induction e using EReal.rec with
  | bot => simp at he
  | top =>
    have h : (1 : EReal) + ⊤ = ⊤ := EReal.add_top_of_ne_bot (EReal.coe_ne_bot 1)
    exact ⟨0, le_rfl, zero_le_one, by rw [h]; simp [Ideal.div]⟩
  | coe a =>
    have ha : 0 ≤ a := by exact_mod_cast he
    refine ⟨(1 + a)⁻¹, by positivity, inv_le_one_of_one_le₀ (by linarith), ?_⟩
    have h1 : (1 : EReal) + (a : EReal) = ((1 + a : ℝ) : EReal) := by norm_cast
    rw [h1]
    unfold Ideal.div
    rw [if_neg (by exact_mod_cast (by positivity : (1 + a) ≠ 0)), one_mul, EReal.coe_inv]

/-- With a lower bound of at most one, a gate is at most one. -/
theorem gate_le_one {l : EReal} (h : l ≤ 1) (x : EReal) : gate l x ≤ 1 := by
  obtain ⟨r, h0, h1, hr⟩ := sigmoid_mem x
  unfold gate
  rw [bits_one, hr]
  induction l using EReal.rec with
  | bot => simp
  | top => exact absurd h one_ne_top
  | coe a =>
    have ha : a ≤ 1 := by exact_mod_cast h
    have : a + (1 - a) * r ≤ 1 := by nlinarith
    exact_mod_cast this

/-- The running sums only fall. -/
theorem sums_le (f : Fin 8 → EReal) (hf : ∀ s, f s ≤ 1) {s t : Fin 8} (h : s ≤ t) : sums f t ≤ sums f s := by
  refine Finset.sum_le_sum fun i _ => ?_
  by_cases hs : i ≤ s
  · rw [if_pos hs, if_pos (hs.trans h)]
  · rw [if_neg hs]
    split_ifs
    · exact log_nonpos (hf i)
    · exact le_rfl

/-- The clamp of a later running sum minus an earlier one changes nothing. -/
theorem clamp (f : Fin 8 → EReal) (hf : ∀ s, f s ≤ 1) {s t : Fin 8} (h : s ≤ t) : min (sums f t - sums f s) 0 = sums f t - sums f s := by
  refine min_eq_left ?_
  have hle := sums_le f hf h
  generalize sums f t = a at hle
  generalize sums f s = b at hle
  calc a - b ≤ b - b := EReal.sub_le_sub hle le_rfl
    _ ≤ 0 := EReal.sub_self_le_zero

/-- The weight of a token as the kernel forms it: zero for a later token, else the clamped form. -/
theorem weight_eq (q f : Fin 8 → Fin 128 → EReal) (hf : ∀ s d, f s d ≤ 1) (t s : Fin 8) :
    weight q f t s = if s ≤ t then ∑ d, q t d * pass (f s d) * Ideal.exp (min (sums (f · d) t - sums (f · d) s) 0) else 0 := by
  unfold weight
  split_ifs with h
  · refine Finset.sum_congr rfl fun d _ => ?_
    rw [clamp (f · d) (fun s => hf s d) h, mul_assoc]
  · refine Finset.sum_eq_zero fun d _ => ?_
    simp

end Cert.Recur

end
-- ==== Proof.HgrnBody.lean ====
/- The recurrence's body at a grid point, read at an index: the sequence's gates, their running sums, the weights between
   tokens as eight diagonals, the readings and the new state. -/
module

public import proofs.«01_k».proof.Proof.Gen.HgrnIdeal.Value
public import proofs.«01_k».proof.Proof.HgrnMath
public import Idealize.ShloMosaic.Lib.KernelVsHost
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.HgrnIdeal.Value

open Cert.HgrnIdeal Cert.HgrnIdeal.Gen Cert.Recur

/-! ## Queries, gates, keys and running sums -/

/-- The block's gates. -/
def gateBlock (f : FVec Ideal S8x128 .f32) (l : FVec Ideal S1x128 .f32) : FVec Ideal S8x128 .f32 :=
  k0_pay10 (k0_pay3 l) (k0_pay8 l) (k0_pay9 f) (Scalar.ofBits .f32 0x3F800000#32)

/-- The block's keys. -/
def keyBlock (f : FVec Ideal S8x128 .f32) (l : FVec Ideal S1x128 .f32) : FVec Ideal S8x128 .f32 :=
  k0_pay11 (k0_pay3 l) (k0_pay8 l) (k0_pay9 f) (Scalar.ofBits .f32 0x3F800000#32)

/-- The block's running sums. -/
def sumBlock (f : FVec Ideal S8x128 .f32) (l : FVec Ideal S1x128 .f32) : FVec Ideal S8x128 .f32 :=
  k0_pay12 (k0_pay3 l) k0_pay6 (k0_pay8 l) (k0_pay9 f) (Scalar.ofBits .f32 0x3F800000#32)

theorem query_at (q : FVec Ideal S8x128 .f32) (t : Fin 8) (d : Fin 128) : k0_pay7 (F := Ideal) q (ix2 t d) = swish (q (ix2 t d)) := by
  pointwise [k0_pay7, swish]
  rw [zero_sub]

theorem gateBlock_at (f : FVec Ideal S8x128 .f32) (l : FVec Ideal S1x128 .f32) (t : Fin 8) (d : Fin 128) :
    gateBlock f l (ix2 t d) = gate (l (ix2 0 d)) (f (ix2 t d)) := by
  pointwise [gateBlock, k0_pay10, k0_pay3, k0_pay8, k0_pay9, gate]
  rw [zero_sub]

theorem keyBlock_at (f : FVec Ideal S8x128 .f32) (l : FVec Ideal S1x128 .f32) (t : Fin 8) (d : Fin 128) :
    keyBlock f l (ix2 t d) = pass (gate (l (ix2 0 d)) (f (ix2 t d))) := by
  rw [← gateBlock_at]
  rfl

/-- The ones on and below the diagonal. -/
theorem lower_at (t s : Fin 8) : k0_pay6 (F := Ideal) (ix2 t s) = if s ≤ t then 1 else 0 := by
  have e : k0_pay6 (F := Ideal) (ix2 t s)
      = if cmpi .sle (iota .tc S8x8 32 [1] iota_S8x8_d1_w32) (iota .tc S8x8 32 [0] iota_S8x8_d0_w32) (ix2 t s) = 1#1 then Ideal.ofBits .f32 0x3F800000#32 else Ideal.ofBits .f32 0x00000000#32 := rfl
  have c : ∀ t s : Fin 8, cmpi .sle (iota .tc S8x8 32 [1] iota_S8x8_d1_w32) (iota .tc S8x8 32 [0] iota_S8x8_d0_w32) (ix2 t s) = if s ≤ t then 1#1 else 0#1 := by
    decide +kernel
  rw [e, c, bits_one, bits_zero]
  by_cases h : s ≤ t
  · simp [h]
  · simp [h]

theorem sumBlock_at (f : FVec Ideal S8x128 .f32) (l : FVec Ideal S1x128 .f32) (t : Fin 8) (d : Fin 128) :
    sumBlock f l (ix2 t d) = sums (fun s => gate (l (ix2 0 d)) (f (ix2 s d))) t := by
  have e : sumBlock f l (ix2 t d) = ∑ s : Fin 8, k0_pay6 (F := Ideal) (ix2 t s) * Ideal.log (gateBlock f l (ix2 s d)) := by
    unfold sumBlock k0_pay12
    rw [show k0_pay10 (F := Ideal) (k0_pay3 l) (k0_pay8 l) (k0_pay9 f) (Scalar.ofBits .f32 0x3F800000#32) = gateBlock f l from rfl]
    generalize gateBlock f l = g
    generalize k0_pay6 (F := Ideal) = a
    pointwise
  rw [e]
  refine Finset.sum_congr rfl fun s _ => ?_
  rw [lower_at, gateBlock_at]
  split_ifs
  · rw [one_mul]
  · rw [zero_mul]

/-! ## The weights, a diagonal at a time -/

/-- Which places lie `j` below the diagonal. -/
def diagonal (j : BitVec 32) : IVec S8x8 1 :=
  andi (cmpi .eq (subi (iota .tc S8x8 32 [0] iota_S8x8_d0_w32) (iota .tc S8x8 32 [1] iota_S8x8_d1_w32)) (broadcast S8x8 j))
    (cmpi .sge (andi (iota .tc S8x8 32 [0] iota_S8x8_d0_w32) (broadcast S8x8 7#32)) (broadcast S8x8 j))

theorem diagonal_at : ∀ j t s : Fin 8, diagonal (BitVec.ofNat 32 j.val) (ix2 t s) = if t.val = s.val + j.val then 1#1 else 0#1 := by
  decide +kernel

/-- Each token's product with a key, decayed from a running sum. -/
def products (q k g r : FVec Ideal S8x128 .f32) : FVec Ideal S8x1 .f32 :=
  shapeCast S8x1 (multiReduction .add [1] S8 (mulf (mulf q k) (exp (minimumf (subf g r) (broadcast S8x128 (Scalar.ofBits .f32 0x00000000#32))))) 0x00000000#32 reduces_S8x128_S8 (.inl rfl) rfl) shapeCasts_S8_S8x1

/-- The products on one diagonal. -/
def onDiagonal (j : BitVec 32) (q k g r : FVec Ideal S8x128 .f32) : FVec Ideal S8x8 .f32 :=
  select (diagonal j) (broadcastTo S8x8 (shapeCast S8x1 (products q k g r) shapeCasts_S8x1_S8x1) broadcasts_S8x1_S8x8) (broadcast S8x8 (Scalar.ofBits .f32 0x00000000#32))

theorem products_at (q k g r : FVec Ideal S8x128 .f32) (t : Fin 8) (u : Fin 1) :
    products q k g r (ix2 t u) = ∑ d : Fin 128, q (ix2 t d) * k (ix2 t d) * Ideal.exp (min (g (ix2 t d) - r (ix2 t d)) 0) := by
  pointwise [products]

theorem onDiagonal_at (j : Fin 8) (q k g r : FVec Ideal S8x128 .f32) (t s : Fin 8) :
    onDiagonal (BitVec.ofNat 32 j.val) q k g r (ix2 t s) = if t.val = s.val + j.val then products q k g r (ix2 t 0) else 0 := by
  have e : onDiagonal (BitVec.ofNat 32 j.val) q k g r (ix2 t s)
      = if diagonal (BitVec.ofNat 32 j.val) (ix2 t s) = 1#1 then products q k g r (ix2 t 0) else 0 := by
    rw [← bits_zero]
    unfold onDiagonal
    generalize diagonal (BitVec.ofNat 32 j.val) = a
    generalize products q k g r = p
    pointwise
    rfl
  rw [e, diagonal_at]
  by_cases h : t.val = s.val + j.val
  · simp [h]
  · simp [h]

/-- The rows moved down by `j`, around the end. -/
def moved (j : BitVec 32) (x : FVec Ideal S8x128 .f32) : FVec Ideal S8x128 .f32 := dynamicRotate 0 j none x rotates_S8x128_d0

theorem moved_at (j : Fin 8) (x : FVec Ideal S8x128 .f32) (t s : Fin 8) (h : t.val = s.val + j.val) (d : Fin 128) :
    moved (BitVec.ofNat 32 j.val) x (ix2 t d) = x (ix2 s d) := by
  refine dynamicRotate_apply 0 _ x rotates_S8x128_d0 _ _ fun b => ?_
  have hj : (BitVec.ofNat 32 j.val).toNat = j.val := by simp; omega
  rw [hj]
  fin_cases b
  · show s.val = (t.val + 8 - j.val % 8) % 8
    omega
  · rfl

/-- The clamped weight of token `s` for token `t`. -/
def clamped (q k g : FVec Ideal S8x128 .f32) (t s : Fin 8) : EReal :=
  ∑ d : Fin 128, q (ix2 t d) * k (ix2 s d) * Ideal.exp (min (g (ix2 t d) - g (ix2 s d)) 0)

/-- The moved products on a diagonal are the clamped weights there. -/
theorem shifted_at (j : Fin 8) (q k g : FVec Ideal S8x128 .f32) (t s : Fin 8) :
    onDiagonal (BitVec.ofNat 32 j.val) q (moved (BitVec.ofNat 32 j.val) k) g (moved (BitVec.ofNat 32 j.val) g) (ix2 t s)
      = if t.val = s.val + j.val then clamped q k g t s else 0 := by
  rw [onDiagonal_at]
  split_ifs with h
  · rw [products_at]
    refine Finset.sum_congr rfl fun d _ => ?_
    rw [moved_at j k t s h, moved_at j g t s h]
  · rfl

/-- The main diagonal, where nothing is moved. -/
theorem unshifted_at (q k g : FVec Ideal S8x128 .f32) (t s : Fin 8) :
    onDiagonal 0#32 q k g g (ix2 t s) = if t.val = s.val then clamped q k g t s else 0 := by
  refine (onDiagonal_at 0 q k g g t s).trans ?_
  show (if t.val = s.val then _ else _) = _
  split_ifs with h
  · rw [products_at, Fin.ext h]
    rfl
  · rfl

/-- The diagonal `j` with keys and running sums moved. -/
def shifted (j : BitVec 32) (q k g : FVec Ideal S8x128 .f32) : FVec Ideal S8x8 .f32 := onDiagonal j q (moved j k) g (moved j g)

/-- All the weights: the eight diagonals added. -/
def weightBlock (q k g : FVec Ideal S8x128 .f32) : FVec Ideal S8x8 .f32 :=
  addf (addf (addf (addf (addf (addf (addf (addf (broadcast S8x8 (Scalar.ofBits .f32 0x00000000#32)) (onDiagonal 0#32 q k g g)) (shifted 1#32 q k g)) (shifted 2#32 q k g)) (shifted 3#32 q k g))
    (shifted 4#32 q k g)) (shifted 5#32 q k g)) (shifted 6#32 q k g)) (shifted 7#32 q k g)

theorem weightBlock_at (q k g : FVec Ideal S8x128 .f32) (t s : Fin 8) :
    weightBlock q k g (ix2 t s) = if s ≤ t then clamped q k g t s else 0 := by
  have e : weightBlock q k g (ix2 t s) = Ideal.ofBits .f32 0x00000000#32 + onDiagonal 0#32 q k g g (ix2 t s) + shifted 1#32 q k g (ix2 t s) + shifted 2#32 q k g (ix2 t s)
      + shifted 3#32 q k g (ix2 t s) + shifted 4#32 q k g (ix2 t s) + shifted 5#32 q k g (ix2 t s) + shifted 6#32 q k g (ix2 t s) + shifted 7#32 q k g (ix2 t s) := rfl
  rw [e, bits_zero, unshifted_at]
  have h : ∀ j : Fin 8, shifted (BitVec.ofNat 32 j.val) q k g (ix2 t s) = if t.val = s.val + j.val then clamped q k g t s else 0 := fun j => shifted_at j q k g t s
  have h1 := h 1
  have h2 := h 2
  have h3 := h 3
  have h4 := h 4
  have h5 := h 5
  have h6 := h 6
  have h7 := h 7
  refine (congrArg₂ (· + ·) (congrArg₂ (· + ·) (congrArg₂ (· + ·) (congrArg₂ (· + ·) (congrArg₂ (· + ·) (congrArg₂ (· + ·) (congrArg₂ (· + ·) rfl h1) h2) h3) h4) h5) h6) h7).trans ?_
  generalize clamped q k g t s = x
  clear h h1 h2 h3 h4 h5 h6 h7 e
  fin_cases t <;> fin_cases s <;> simp

/-! ## The readings and the state -/

/-- What the block's tokens read: the old state first, then the tokens. -/
def readBlock (q k g v : FVec Ideal S8x128 .f32) (st : FVec Ideal S128x128 .f32) : FVec Ideal S8x128 .f32 :=
  addf (matmul dot_S8x128_S128x128_S8x128_1_1_0_0_n_n none (mulf q (exp g)) st (constant S8x128 .f32 0x00000000#32))
    (matmul dot_S8x8_S8x128_S8x128_1_0_0_1_n_n none (weightBlock q k g) v (constant S8x128 .f32 0x00000000#32))

theorem readBlock_at (q k g v : FVec Ideal S8x128 .f32) (st : FVec Ideal S128x128 .f32) (t : Fin 8) (e : Fin 128) :
    readBlock q k g v st (ix2 t e) = (∑ d : Fin 128, q (ix2 t d) * Ideal.exp (g (ix2 t d)) * st (ix2 e d)) + ∑ s : Fin 8, weightBlock q k g (ix2 t s) * v (ix2 s e) := by
  unfold readBlock
  generalize weightBlock q k g = w
  pointwise

/-- The readings' root mean squares. -/
def rootBlock (o : FVec Ideal S8x128 .f32) : FVec Ideal S8x1 .f32 :=
  rsqrt (addf (divf (shapeCast S8x1 (multiReduction .add [1] S8 (mulf o o) 0x00000000#32 reduces_S8x128_S8 (.inl rfl) rfl) shapeCasts_S8_S8x1) (broadcast S8x1 (Scalar.ofBits .f32 0x43000000#32))) (broadcast S8x1 (Scalar.ofBits .f32 0x358637BD#32)))

/-- The readings scaled. -/
def normBlock (o : FVec Ideal S8x128 .f32) (g : FVec Ideal S1x128 .f32) : FVec Ideal S8x128 .f32 :=
  mulf (mulf o (broadcastTo S8x128 (rootBlock o) broadcasts_S8x1_S8x128)) (broadcastTo S8x128 (shapeCast S1x128 g shapeCasts_S1x128_S1x128) broadcasts_S1x128_S8x128)

theorem rootBlock_at (o : FVec Ideal S8x128 .f32) (t : Fin 8) (u : Fin 1) : rootBlock o (ix2 t u) = rootMean fun e => o (ix2 t e) := by
  pointwise [rootBlock, rootMean]

theorem normBlock_at (o : FVec Ideal S8x128 .f32) (g : FVec Ideal S1x128 .f32) (t : Fin 8) (e : Fin 128) :
    normBlock o g (ix2 t e) = o (ix2 t e) * rootMean (fun e => o (ix2 t e)) * g (ix2 0 e) := by
  rw [← rootBlock_at o t 0]
  pointwise [normBlock]

/-- The old state, values by keys. -/
theorem old_at (st : FVec Ideal S1x1x128x128 .f32) (e d : Fin 128) : k0_pay5 (F := Ideal) st (ix2 e d) = st (ix4 0 0 d e) := by
  pointwise [k0_pay5]

/-- The keys decayed to the last token. -/
def decayBlock (k g : FVec Ideal S8x128 .f32) : FVec Ideal S8x128 .f32 :=
  mulf k (exp (subf (broadcastTo S8x128 (extractStridedSlice S1x128 ![7, 0] g slices_S8x128_o7_0_S1x128) broadcasts_S1x128_S8x128) g))

theorem decayBlock_at (k g : FVec Ideal S8x128 .f32) (s : Fin 8) (d : Fin 128) :
    decayBlock k g (ix2 s d) = k (ix2 s d) * Ideal.exp (g (ix2 7 d) - g (ix2 s d)) := by
  pointwise [decayBlock]

theorem new_at (k g v : FVec Ideal S8x128 .f32) (st : FVec Ideal S128x128 .f32) (d e : Fin 128) :
    k0_pay2 (F := Ideal) (k0_pay25 (F := Ideal) k v g st) (ix4 0 0 d e)
      = Ideal.exp (g (ix2 7 d)) * st (ix2 e d) + ∑ s : Fin 8, v (ix2 s e) * decayBlock k g (ix2 s d) := by
  have h : k0_pay25 (F := Ideal) k v g st = shapeCast S128x128 (addf (mulf (broadcastTo S128x128 (exp (extractStridedSlice S1x128 ![7, 0] g slices_S8x128_o7_0_S1x128)) broadcasts_S1x128_S128x128) st)
      (matmul dot_S8x128_S8x128_S128x128_0_0_1_1_n_n none v (decayBlock k g) (constant S128x128 .f32 0x00000000#32))) shapeCasts_S128x128_S128x128 := rfl
  rw [h]
  generalize decayBlock k g = y
  pointwise [k0_pay2]

end Cert.HgrnIdeal.Value

end
-- ==== Proof.HgrnRead.lean ====
/- The recurrence's reference read at an index. -/
module

public import proofs.«01_k».proof.Proof.Gen.XHgrnIdeal.Run
public import proofs.«01_k».proof.Proof.HgrnMath
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.XHgrnIdeal.Value

open Cert.XHgrnIdeal Cert.XHgrnIdeal.Gen Cert.Recur

/-- The logits' exponentials, each column's largest taken off first. -/
def expo (l : FVec Ideal S2x512 .f32) : FVec Ideal S2x512 .f32 :=
  Host.exp (subf l (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf l (constant S_ .f32 0xFF800000#32) reducesTo_S2x512_S512_d0 h_S_)))))

/-- The softmax over the layers. -/
def soft (e : FVec Ideal S2x512 .f32) : FVec Ideal S2x512 .f32 :=
  Host.divf e (broadcastInDim S2x512 ![0, 1] bcast_S1x512_S2x512_0_1 (broadcastInDim S1x512 ![1] bcast_S512_S1x512_1 (Host.reduceAdd e (constant S_ .f32 0x00000000#32) reducesTo_S2x512_S512_d0 h_S_)))

/-- The first layer's bound: the first row of the running sum over the layers. -/
def first (p : FVec Ideal S2x512 .f32) : FVec Ideal S512 .f32 :=
  shapeCast _ (extractStridedSlice S1x512 ![0, 0] (Host.reduceWindowAdd ![2, 1] ![1, 1] ![1, 0] ![0, 0] p (broadcastInDim S_ ![] bcast_S_S_ (constant S_ .f32 0x00000000#32)) reduceWindows_S2x512_S2x512_w2s1p1_0_w1s1p0_0 h_S_) slices_S2x512_S1x512_0_0) shapeCasts_S1x512_S512

/-- The lower bounds of the gates, from the logits. -/
def bound (l : FVec Ideal S2x512 .f32) : FVec Ideal S512 .f32 := first (soft (expo l))

/-- The forget gates. -/
def gates (z : FVec Ideal S64x8192 .f32) (b : FVec Ideal S512 .f32) : FVec Ideal S8x8x512 .f32 :=
  addf (broadcastInDim S8x8x512 ![0, 1, 2] bcast_S1x1x512_S8x8x512_0_1_2 (broadcastInDim S1x1x512 ![2] bcast_S512_S1x1x512_2 b)) (mulf (broadcastInDim S8x8x512 ![0, 1, 2] bcast_S1x1x512_S8x8x512_0_1_2 (broadcastInDim S1x1x512 ![2] bcast_S512_S1x1x512_2 (subf (broadcastInDim S512 ![] bcast_S_S512 (constant S_ .f32 0x3F800000#32)) b))) (Host.divf (broadcastInDim S8x8x512 ![] bcast_S_S8x8x512 (constant S_ .f32 0x3F800000#32)) (addf (broadcastInDim S8x8x512 ![] bcast_S_S8x8x512 (constant S_ .f32 0x3F800000#32)) (Host.exp (Host.negf (shapeCast _ (extractStridedSlice S64x512 ![0, 5632] z slices_S64x8192_S64x512_0_5632) shapeCasts_S64x512_S8x8x512))))))

/-- The running sums of the log gates. -/
def runs (f : FVec Ideal S8x8x512 .f32) : FVec Ideal S8x8x4x128 .f32 :=
  Host.reduceWindowAdd ![1, 8, 1, 1] ![1, 1, 1, 1] ![0, 7, 0, 0] ![0, 0, 0, 0] (shapeCast _ (Host.log f) shapeCasts_S8x8x512_S8x8x4x128) (broadcastInDim S_ ![] bcast_S_S_ (constant S_ .f32 0x00000000#32)) reduceWindows_S8x8x4x128_S8x8x4x128_w1s1p0_0_w8s1p7_0_w1s1p0_0_w1s1p0_0 h_S_

/-- The keys: what the gates let in. -/
def keys (f : FVec Ideal S8x8x512 .f32) : FVec Ideal S8x8x4x128 .f32 :=
  shapeCast _ (subf (broadcastInDim S8x8x512 ![] bcast_S_S8x8x512 (constant S_ .f32 0x3F800000#32)) f) shapeCasts_S8x8x512_S8x8x4x128

/-- The queries. -/
def queries (z : FVec Ideal S64x8192 .f32) : FVec Ideal S8x8x4x128 .f32 :=
  shapeCast _ (mulf (shapeCast _ (extractStridedSlice S64x512 ![0, 5120] z slices_S64x8192_S64x512_0_5120) shapeCasts_S64x512_S8x8x512) (Host.divf (broadcastInDim S8x8x512 ![] bcast_S_S8x8x512 (constant S_ .f32 0x3F800000#32)) (addf (broadcastInDim S8x8x512 ![] bcast_S_S8x8x512 (constant S_ .f32 0x3F800000#32)) (Host.exp (Host.negf (shapeCast _ (extractStridedSlice S64x512 ![0, 5120] z slices_S64x8192_S64x512_0_5120) shapeCasts_S64x512_S8x8x512)))))) shapeCasts_S8x8x512_S8x8x4x128

/-- The values. -/
def vals (z : FVec Ideal S64x8192 .f32) : FVec Ideal S8x8x4x128 .f32 :=
  shapeCast _ (shapeCast _ (extractStridedSlice S64x512 ![0, 6144] z slices_S64x8192_S64x512_0_6144) shapeCasts_S64x512_S8x8x512) shapeCasts_S8x8x512_S8x8x4x128

/-- Which token is not after which. -/
def order : IVec S8x8 1 :=
  select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))

/-- The decay between two tokens, none for a later one. -/
def decay (g : FVec Ideal S8x8x4x128 .f32) : FVec Ideal S8x8x8x4x128 .f32 :=
  Host.exp (select (broadcastInDim S8x8x8x4x128 ![0, 1, 2, 3, 4] bcast_S1x8x8x1x1_S8x8x8x4x128_0_1_2_3_4 (broadcastInDim S1x8x8x1x1 ![1, 2] bcast_S8x8_S1x8x8x1x1_1_2 order)) (subf (broadcastInDim S8x8x8x4x128 ![0, 1, 2, 3, 4] bcast_S8x8x1x4x128_S8x8x8x4x128_0_1_2_3_4 (broadcastInDim S8x8x1x4x128 ![0, 1, 3, 4] bcast_S8x8x4x128_S8x8x1x4x128_0_1_3_4 g)) (broadcastInDim S8x8x8x4x128 ![0, 1, 2, 3, 4] bcast_S8x1x8x4x128_S8x8x8x4x128_0_1_2_3_4 (broadcastInDim S8x1x8x4x128 ![0, 2, 3, 4] bcast_S8x8x4x128_S8x1x8x4x128_0_2_3_4 g))) (broadcastInDim S8x8x8x4x128 ![] bcast_S_S8x8x8x4x128 (id (constant S_ .f32 0xFF800000#32))))

/-- The weights between tokens. -/
def weights (q k : FVec Ideal S8x8x4x128 .f32) (d : FVec Ideal S8x8x8x4x128 .f32) : FVec Ideal S8x4x8x8 .f32 :=
  Host.dotGeneral dot_S8x8x4x128_S8x8x8x4x128_S8x4x8x8_3_4_n_2_021_031 none q (mulf (broadcastInDim S8x8x8x4x128 ![0, 1, 2, 3, 4] bcast_S8x1x8x4x128_S8x8x8x4x128_0_1_2_3_4 (broadcastInDim S8x1x8x4x128 ![0, 2, 3, 4] bcast_S8x8x4x128_S8x1x8x4x128_0_2_3_4 k)) d)

/-- What the tokens read. -/
def readings (w : FVec Ideal S8x4x8x8 .f32) (q v g : FVec Ideal S8x8x4x128 .f32) (st : FVec Ideal S1x8x4x128x128 .f32) : FVec Ideal S8x8x4x128 .f32 :=
  addf (transpose S8x8x4x128 [0, 3, 1, 2] (Host.dotGeneral dot_S8x8x4x128_S8x4x8x8_S8x4x128x8_1_3_3_2_02_01 none v w) transposes_S8x4x128x8_S8x8x4x128_0_3_1_2) (transpose S8x8x4x128 [0, 3, 1, 2] (Host.dotGeneral dot_S8x4x128x128_S8x8x4x128_S8x4x128x8_2_3_3_1_01_02 none (shapeCast _ st shapeCasts_S1x8x4x128x128_S8x4x128x128) (mulf q (Host.exp g))) transposes_S8x4x128x8_S8x8x4x128_0_3_1_2)

/-- The roots of the readings' mean squares. -/
def roots (o : FVec Ideal S8x8x4x128 .f32) : FVec Ideal S8x8x4x1 .f32 :=
  Host.rsqrt (addf (Host.divf (broadcastInDim S8x8x4x1 ![0, 1, 2] bcast_S8x8x4_S8x8x4x1_0_1_2 (Host.reduceAdd (mulf o o) (constant S_ .f32 0x00000000#32) reducesTo_S8x8x4x128_S8x8x4_d3 h_S_)) (broadcastInDim S8x8x4x1 ![] bcast_S_S8x8x4x1 (constant S_ .f32 0x43000000#32))) (broadcastInDim S8x8x4x1 ![] bcast_S_S8x8x4x1 (constant S_ .f32 0x358637BD#32)))

/-- The readings scaled by the roots and the gains. -/
def normed (o : FVec Ideal S8x8x4x128 .f32) (g : FVec Ideal S1x128 .f32) : FVec Ideal S64x512 .f32 :=
  shapeCast _ (mulf (mulf o (broadcastInDim S8x8x4x128 ![0, 1, 2, 3] bcast_S8x8x4x1_S8x8x4x128_0_1_2_3 (roots o))) (broadcastInDim S8x8x4x128 ![0, 1, 2, 3] bcast_S1x1x1x128_S8x8x4x128_0_1_2_3 (broadcastInDim S1x1x1x128 ![3] bcast_S128_S1x1x1x128_3 (shapeCast _ g shapeCasts_S1x128_S128)))) shapeCasts_S8x8x4x128_S64x512

/-- The running sums of the last tokens. -/
def last (g : FVec Ideal S8x8x4x128 .f32) : FVec Ideal S8x4x128 .f32 :=
  shapeCast _ (extractStridedSlice S8x1x4x128 ![0, 7, 0, 0] g slices_S8x8x4x128_S8x1x4x128_0_7_0_0) shapeCasts_S8x1x4x128_S8x4x128

/-- The keys, decayed to the last token. -/
def decayed (k g : FVec Ideal S8x8x4x128 .f32) : FVec Ideal S8x8x4x128 .f32 :=
  mulf k (Host.exp (subf (broadcastInDim S8x8x4x128 ![0, 1, 2, 3] bcast_S8x1x4x128_S8x8x4x128_0_1_2_3 (broadcastInDim S8x1x4x128 ![0, 2, 3] bcast_S8x4x128_S8x1x4x128_0_2_3 (last g))) g))

/-- The new states. -/
def states (k v g : FVec Ideal S8x8x4x128 .f32) (st : FVec Ideal S1x8x4x128x128 .f32) : FVec Ideal S8x4x128x128 .f32 :=
  addf (mulf (broadcastInDim S8x4x128x128 ![0, 1, 2, 3] bcast_S8x4x128x1_S8x4x128x128_0_1_2_3 (broadcastInDim S8x4x128x1 ![0, 1, 2] bcast_S8x4x128_S8x4x128x1_0_1_2 (Host.exp (last g)))) (shapeCast _ st shapeCasts_S1x8x4x128x128_S8x4x128x128)) (Host.dotGeneral dot_S8x8x4x128_S8x8x4x128_S8x4x128x128_1_1_3_3_02_02 none (decayed k g) v)

/-- The reference's readings over its arguments. -/
def RAW (z : FVec Ideal S64x8192 .f32) (l : FVec Ideal S2x512 .f32) (st : FVec Ideal S1x8x4x128x128 .f32) : FVec Ideal S8x8x4x128 .f32 :=
  readings (weights (queries z) (keys (gates z (bound l))) (decay (runs (gates z (bound l))))) (queries z) (vals z) (runs (gates z (bound l))) st

/-- The reference's first result over its arguments. -/
def REF (z : FVec Ideal S64x8192 .f32) (l : FVec Ideal S2x512 .f32) (g : FVec Ideal S1x128 .f32) (st : FVec Ideal S1x8x4x128x128 .f32) : FVec Ideal S64x512 .f32 :=
  normed (RAW z l st) g

/-- The reference's second result over its arguments. -/
def REFS (z : FVec Ideal S64x8192 .f32) (l : FVec Ideal S2x512 .f32) (st : FVec Ideal S1x8x4x128x128 .f32) : FVec Ideal S8x4x128x128 .f32 :=
  states (keys (gates z (bound l))) (vals z) (runs (gates z (bound l))) st

theorem REF_eq (m : (ℓ : Loc nD τ sig) → Buf (Elt Ideal) ℓ) (c : Dev nD) : res_main_v92 m c
    = REF (m ((c : Thread nD τ).loc main_arg0)) (m ((c : Thread nD τ).loc main_arg1)) (m ((c : Thread nD τ).loc main_arg2)) (m ((c : Thread nD τ).loc main_arg3)) := rfl

theorem REFS_eq (m : (ℓ : Loc nD τ sig) → Buf (Elt Ideal) ℓ) (c : Dev nD) : res_main_v77 m c
    = REFS (m ((c : Thread nD τ).loc main_arg0)) (m ((c : Thread nD τ).loc main_arg1)) (m ((c : Thread nD τ).loc main_arg3)) := rfl

theorem gates_at (z : FVec Ideal S64x8192 .f32) (b : FVec Ideal S512 .f32) (i t : Fin 8) (j : Fin 512) :
    gates z b (ix3 i t j) = gate (b (ix1 j)) (z (ix2 ⟨i.val * 8 + t.val, by omega⟩ ⟨5632 + j.val, by omega⟩)) := by
  pointwise [gates, gate]

theorem keys_at (f : FVec Ideal S8x8x512 .f32) (i t : Fin 8) (h : Fin 4) (d : Fin 128) :
    keys f (ix4 i t h d) = pass (f (ix3 i t ⟨h.val * 128 + d.val, by omega⟩)) := by
  pointwise [keys, pass]

theorem queries_at (z : FVec Ideal S64x8192 .f32) (i t : Fin 8) (h : Fin 4) (d : Fin 128) :
    queries z (ix4 i t h d) = swish (z (ix2 ⟨i.val * 8 + t.val, by omega⟩ ⟨5120 + (h.val * 128 + d.val), by omega⟩)) := by
  pointwise [queries, swish]

theorem vals_at (z : FVec Ideal S64x8192 .f32) (i t : Fin 8) (h : Fin 4) (d : Fin 128) :
    vals z (ix4 i t h d) = z (ix2 ⟨i.val * 8 + t.val, by omega⟩ ⟨6144 + (h.val * 128 + d.val), by omega⟩) := by
  pointwise [vals]

theorem decay_at (g : FVec Ideal S8x8x4x128 .f32) (i t s : Fin 8) (h : Fin 4) (d : Fin 128) :
    decay g (ix5 i t s h d) = Ideal.exp (if order (ix2 t s) = 1#1 then g (ix4 i t h d) - g (ix4 i s h d) else ⊥) := by
  rw [← Cert.Extended.f32_bot]
  pointwise [decay]
  rfl

theorem order_at (t s : Fin 8) : order (ix2 t s) = if s ≤ t then 1#1 else 0#1 := by
  revert t s
  decide +kernel

theorem weights_at (q k : FVec Ideal S8x8x4x128 .f32) (e : FVec Ideal S8x8x8x4x128 .f32) (i t s : Fin 8) (h : Fin 4) :
    weights q k e (ix4 i h t s) = ∑ d : Fin 128, q (ix4 i t h d) * (k (ix4 i s h d) * e (ix5 i t s h d)) := by
  pointwise [weights]

theorem readings_at (w : FVec Ideal S8x4x8x8 .f32) (q v g : FVec Ideal S8x8x4x128 .f32) (st : FVec Ideal S1x8x4x128x128 .f32) (i t : Fin 8) (h : Fin 4) (e : Fin 128) :
    readings w q v g st (ix4 i t h e) = (∑ s : Fin 8, v (ix4 i s h e) * w (ix4 i h t s))
      + ∑ d : Fin 128, st (ix5 0 i h d e) * (q (ix4 i t h d) * Ideal.exp (g (ix4 i t h d))) := by
  pointwise [readings]

theorem roots_at (o : FVec Ideal S8x8x4x128 .f32) (i t : Fin 8) (h : Fin 4) (u : Fin 1) :
    roots o (ix4 i t h u) = rootMean fun e => o (ix4 i t h e) := by
  pointwise [roots, rootMean]

theorem normed_at (o : FVec Ideal S8x8x4x128 .f32) (g : FVec Ideal S1x128 .f32) (i t : Fin 8) (h : Fin 4) (e : Fin 128) :
    normed o g (ix2 ⟨i.val * 8 + t.val, by omega⟩ ⟨h.val * 128 + e.val, by omega⟩)
      = o (ix4 i t h e) * rootMean (fun e => o (ix4 i t h e)) * g (ix2 0 e) := by
  rw [← roots_at o i t h 0]
  pointwise [normed]

theorem last_at (g : FVec Ideal S8x8x4x128 .f32) (i : Fin 8) (h : Fin 4) (d : Fin 128) : last g (ix3 i h d) = g (ix4 i 7 h d) := by
  pointwise [last]

theorem decayed_at (k g : FVec Ideal S8x8x4x128 .f32) (i t : Fin 8) (h : Fin 4) (d : Fin 128) :
    decayed k g (ix4 i t h d) = k (ix4 i t h d) * Ideal.exp (g (ix4 i 7 h d) - g (ix4 i t h d)) := by
  rw [← last_at g i h d]
  pointwise [decayed]

theorem states_at (k v g : FVec Ideal S8x8x4x128 .f32) (st : FVec Ideal S1x8x4x128x128 .f32) (i : Fin 8) (h : Fin 4) (d e : Fin 128) :
    states k v g st (ix4 i h d e) = Ideal.exp (g (ix4 i 7 h d)) * st (ix5 0 i h d e)
      + ∑ s : Fin 8, k (ix4 i s h d) * Ideal.exp (g (ix4 i 7 h d) - g (ix4 i s h d)) * v (ix4 i s h e) := by
  have hk : ∀ s, k (ix4 i s h d) * Ideal.exp (g (ix4 i 7 h d) - g (ix4 i s h d)) = decayed k g (ix4 i s h d) := fun s => (decayed_at k g i s h d).symm
  simp only [hk]
  rw [← last_at g i h d]
  pointwise [states]

/-! ## The running sums -/

/-- Eight numbers, of which those a window of eight ending at place `t` meets are added, the others being zero. -/
theorem window_sum (y : Fin 8 → EReal) (t : Fin 8) :
    (List.finRange 8).foldl (fun (r : EReal) (n : Fin 8) => r + (if h : 7 ≤ t.val + n.val then y ⟨t.val + n.val - 7, by omega⟩ else 0)) 0
      = ∑ s : Fin 8, if s ≤ t then y s else 0 := by
  rw [Fin.sum_univ_eight]
  fin_cases t <;> simp [List.finRange_succ]

/-- The place of a window's number. -/
theorem window_place : ∀ (n : Fin (⟨4, ![1, 8, 1, 1]⟩ : Shape).numel) (a : Fin 4),
    ((⟨4, ![1, 8, 1, 1]⟩ : Shape).rowMajor.symm n a).val = (![0, n.val, 0, 0] : Fin 4 → ℕ) a := by
  decide +kernel

theorem window_at (x : FVec Ideal S8x8x4x128 .f32) (i t : Fin 8) (h : Fin 4) (d : Fin 128) :
    Ideal.hostReduceWindowAdd ![1, 8, 1, 1] ![1, 1, 1, 1] ![0, 7, 0, 0] ![0, 0, 0, 0] reduceWindows_S8x8x4x128_S8x8x4x128_w1s1p0_0_w8s1p7_0_w1s1p0_0_w1s1p0_0 x 0 (ix4 i t h d)
      = ∑ s : Fin 8, if s ≤ t then x (ix4 i s h d) else 0 := by
  rw [← window_sum (fun s => x (ix4 i s h d)) t]
  unfold Ideal.hostReduceWindowAdd Host.reduceWindow
  show (List.finRange 8).foldl _ _ = _
  congr 1
  funext r n
  have h8 : n.val < 8 := n.isLt
  refine congrArg (r + ·) ?_
  by_cases hn : 7 ≤ t.val + n.val
  · rw [dif_pos hn, dif_pos]
    · refine congrArg x (funext fun a => Fin.ext ?_)
      fin_cases a <;> simp [window_place, ix4]
    · intro a
      fin_cases a <;> simp [window_place, ix4] <;> omega
  · rw [dif_neg hn, dif_neg]
    intro hin
    have := (hin 1).1
    simp [window_place, ix4] at this
    omega

theorem runs_at (f : FVec Ideal S8x8x512 .f32) (i t : Fin 8) (h : Fin 4) (d : Fin 128) :
    runs f (ix4 i t h d) = sums (fun s => f (ix3 i s ⟨h.val * 128 + d.val, by omega⟩)) t := by
  have e : runs f (ix4 i t h d) = Ideal.hostReduceWindowAdd ![1, 8, 1, 1] ![1, 1, 1, 1] ![0, 7, 0, 0] ![0, 0, 0, 0] reduceWindows_S8x8x4x128_S8x8x4x128_w1s1p0_0_w8s1p7_0_w1s1p0_0_w1s1p0_0
      (shapeCast _ (Host.log f) shapeCasts_S8x8x512_S8x8x4x128) (Ideal.ofBits .f32 0x00000000#32) (ix4 i t h d) := rfl
  rw [e, bits_zero, window_at]
  refine Finset.sum_congr rfl fun s _ => ?_
  split_ifs
  · pointwise
  · rfl

/-! ## The lower bounds -/

theorem expo_at (l : FVec Ideal S2x512 .f32) (r : Fin 2) (j : Fin 512) :
    expo l (ix2 r j) = Ideal.exp (l (ix2 r j) - max ⊥ (Finset.univ.fold max ⊥ fun k : Fin 2 => l (ix2 k j))) := by
  rw [← Cert.Extended.f32_bot]
  pointwise [expo]

theorem soft_at (e : FVec Ideal S2x512 .f32) (r : Fin 2) (j : Fin 512) :
    soft e (ix2 r j) = Ideal.div (e (ix2 r j)) (∑ k : Fin 2, e (ix2 k j)) := by
  pointwise [soft]

theorem place_two : ∀ (n : Fin (⟨2, ![2, 1]⟩ : Shape).numel) (a : Fin 2),
    ((⟨2, ![2, 1]⟩ : Shape).rowMajor.symm n a).val = (![n.val, 0] : Fin 2 → ℕ) a := by
  decide +kernel

theorem window_two (x : FVec Ideal S2x512 .f32) (j : Fin 512) :
    Ideal.hostReduceWindowAdd ![2, 1] ![1, 1] ![1, 0] ![0, 0] reduceWindows_S2x512_S2x512_w2s1p1_0_w1s1p0_0 x 0 (ix2 0 j) = x (ix2 0 j) := by
  have two : ∀ y : EReal, (List.finRange 2).foldl (fun (r : EReal) (n : Fin 2) => r + (if n.val = 1 then y else 0)) 0 = y := fun y => by
    simp [List.finRange_succ]
  rw [← two (x (ix2 0 j))]
  unfold Ideal.hostReduceWindowAdd Host.reduceWindow
  show (List.finRange 2).foldl _ _ = _
  congr 1
  funext r n
  have h2 : n.val < 2 := n.isLt
  refine congrArg (r + ·) ?_
  by_cases hn : n.val = 1
  · rw [if_pos hn, dif_pos]
    · refine congrArg x (funext fun a => Fin.ext ?_)
      fin_cases a <;> simp [place_two, ix2, hn]
    · intro a
      fin_cases a <;> simp [place_two, ix2, hn]
  · rw [if_neg hn, dif_neg]
    intro hin
    have := (hin 0).1
    simp [place_two, ix2] at this
    omega

theorem first_at (p : FVec Ideal S2x512 .f32) (j : Fin 512) : first p (ix1 j) = p (ix2 0 j) := by
  have e : first p (ix1 j) = Ideal.hostReduceWindowAdd ![2, 1] ![1, 1] ![1, 0] ![0, 0] reduceWindows_S2x512_S2x512_w2s1p1_0_w1s1p0_0 p (Ideal.ofBits .f32 0x00000000#32) (ix2 0 j) := by
    unfold first
    refine Eq.trans (b := Host.reduceWindowAdd ![2, 1] ![1, 1] ![1, 0] ![0, 0] p (broadcastInDim S_ ![] bcast_S_S_ (constant S_ .f32 0x00000000#32)) reduceWindows_S2x512_S2x512_w2s1p1_0_w1s1p0_0 h_S_ (ix2 0 j)) ?_ rfl
    generalize Host.reduceWindowAdd ![2, 1] ![1, 1] ![1, 0] ![0, 0] p (broadcastInDim S_ ![] bcast_S_S_ (constant S_ .f32 0x00000000#32)) reduceWindows_S2x512_S2x512_w2s1p1_0_w1s1p0_0 h_S_ = y
    pointwise
  rw [e, bits_zero, window_two]

/-- A lower bound is at most one. -/
theorem bound_le_one (l : FVec Ideal S2x512 .f32) (j : Fin 512) : bound l (ix1 j) ≤ 1 := by
  unfold bound
  rw [first_at, soft_at, Fin.sum_univ_two]
  refine share_le_one ?_ ?_ ?_
  · rw [expo_at]; exact exp_nonneg _
  · rw [expo_at]; exact exp_nonneg _
  · rw [expo_at]
    refine exp_le_one ?_
    have hle : l (ix2 0 j) ≤ max ⊥ (Finset.univ.fold max ⊥ fun k : Fin 2 => l (ix2 k j)) :=
      le_max_of_le_right ((Finset.le_fold_max (l (ix2 0 j))).mpr (Or.inr ⟨0, Finset.mem_univ 0, le_rfl⟩))
    exact (EReal.sub_le_sub hle le_rfl).trans EReal.sub_self_le_zero

/-! ## The results -/

/-- The gates of a sequence and a head. -/
def gatesOf (z : FVec Ideal S64x8192 .f32) (l : FVec Ideal S2x512 .f32) (i : Fin 8) (h : Fin 4) (t : Fin 8) (d : Fin 128) : EReal :=
  gate (bound l (ix1 ⟨h.val * 128 + d.val, by omega⟩)) (z (ix2 ⟨i.val * 8 + t.val, by omega⟩ ⟨5632 + (h.val * 128 + d.val), by omega⟩))

/-- The queries of a sequence and a head. -/
def queriesOf (z : FVec Ideal S64x8192 .f32) (i : Fin 8) (h : Fin 4) (t : Fin 8) (d : Fin 128) : EReal :=
  swish (z (ix2 ⟨i.val * 8 + t.val, by omega⟩ ⟨5120 + (h.val * 128 + d.val), by omega⟩))

/-- The values of a sequence and a head. -/
def valsOf (z : FVec Ideal S64x8192 .f32) (i : Fin 8) (h : Fin 4) (t : Fin 8) (e : Fin 128) : EReal :=
  z (ix2 ⟨i.val * 8 + t.val, by omega⟩ ⟨6144 + (h.val * 128 + e.val), by omega⟩)

theorem gatesOf_le_one (z : FVec Ideal S64x8192 .f32) (l : FVec Ideal S2x512 .f32) (i : Fin 8) (h : Fin 4) (t : Fin 8) (d : Fin 128) : gatesOf z l i h t d ≤ 1 :=
  gate_le_one (bound_le_one l _) _

theorem RAW_at (z : FVec Ideal S64x8192 .f32) (l : FVec Ideal S2x512 .f32) (st : FVec Ideal S1x8x4x128x128 .f32) (i t : Fin 8) (h : Fin 4) (e : Fin 128) :
    RAW z l st (ix4 i t h e) = reading (queriesOf z i h) (gatesOf z l i h) (fun s => valsOf z i h s e) (fun d => st (ix5 0 i h d e)) t := by
  unfold RAW
  rw [readings_at]
  simp only [weights_at, queries_at, keys_at, decay_at, vals_at, runs_at, gates_at, order_at]
  unfold reading weight
  refine congrArg₂ (· + ·) (Finset.sum_congr rfl fun s _ => congrArg (valsOf z i h s e * ·) (Finset.sum_congr rfl fun d _ => ?_)) rfl
  by_cases hs : s ≤ t
  · simp only [if_pos hs]; rfl
  · simp only [if_neg hs]; rfl

theorem REF_at (z : FVec Ideal S64x8192 .f32) (l : FVec Ideal S2x512 .f32) (g : FVec Ideal S1x128 .f32) (st : FVec Ideal S1x8x4x128x128 .f32) (i t : Fin 8) (h : Fin 4) (e : Fin 128) :
    REF z l g st (ix2 ⟨i.val * 8 + t.val, by omega⟩ ⟨h.val * 128 + e.val, by omega⟩)
      = reading (queriesOf z i h) (gatesOf z l i h) (fun s => valsOf z i h s e) (fun d => st (ix5 0 i h d e)) t
        * rootMean (fun e => reading (queriesOf z i h) (gatesOf z l i h) (fun s => valsOf z i h s e) (fun d => st (ix5 0 i h d e)) t) * g (ix2 0 e) := by
  unfold REF
  rw [normed_at]
  simp only [RAW_at]

theorem REFS_at (z : FVec Ideal S64x8192 .f32) (l : FVec Ideal S2x512 .f32) (st : FVec Ideal S1x8x4x128x128 .f32) (i : Fin 8) (h : Fin 4) (d e : Fin 128) :
    REFS z l st (ix4 i h d e) = state (fun s => gatesOf z l i h s d) (fun s => valsOf z i h s e) (st (ix5 0 i h d e)) := by
  unfold REFS
  rw [states_at]
  simp only [keys_at, vals_at, runs_at, gates_at]
  rfl

end Cert.XHgrnIdeal.Value

end
-- ==== Proof.HgrnValue.lean ====
/- The recurrence: what its pallas_call writes is the block's normalized readings and the new state. -/
module

public import proofs.«01_k».proof.Proof.Gen.HgrnIdeal.Value
public import proofs.«01_k».proof.Proof.Gen.Hgrn.Frame
public import proofs.«01_k».proof.Proof.HgrnBody
public import proofs.«01_k».proof.Proof.HgrnRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HgrnIdeal.Value

open Cert.HgrnIdeal Cert.HgrnIdeal.Gen Cert.Recur
open Cert.XHgrnIdeal.Value (gatesOf queriesOf valsOf bound REF REFS)

variable (m : (ℓ : Loc nD τ sig) → Buf (Elt Ideal) ℓ)

/-- Each window's block at a grid point. -/
theorem idx : ∀ t : Fin cfg0.N, win0_0.index t = ![t.val / 4, 40 + t.val % 4] ∧ win0_1.index t = ![t.val / 4, 44 + t.val % 4]
    ∧ win0_2.index t = ![t.val / 4, 48 + t.val % 4] ∧ win0_3.index t = ![0, t.val % 4] ∧ win0_4.index t = ![0, 0]
    ∧ win0_5.index t = ![t.val / 4, t.val % 4, 0, 0] ∧ win0_6.index t = ![t.val / 4, t.val % 4] ∧ win0_7.index t = ![t.val / 4, t.val % 4, 0, 0] :=
  (by decide +kernel : ∀ t : Fin grid0.N, _)

/-! ## The operands the host prepares -/

/-- The bounds as a row. -/
def boundRow (l : FVec Ideal S2x512 .f32) : FVec Ideal S1x512 .f32 := broadcastInDim S1x512 ![1] bcast_S512_S1x512_1 (bound l)
/-- The gain as a row. -/
def gainRow (g : FVec Ideal S1x128 .f32) : FVec Ideal S1x128 .f32 := broadcastInDim S1x128 ![1] bcast_S128_S1x128_1 (shapeCast S128 g shapeCasts_S1x128_S128)
/-- The old states. -/
def olds (s : FVec Ideal S1x8x4x128x128 .f32) : FVec Ideal S8x4x128x128 .f32 := shapeCast S8x4x128x128 s shapeCasts_S1x8x4x128x128_S8x4x128x128

theorem boundRow_at (l : FVec Ideal S2x512 .f32) (j : Fin 512) : boundRow l (ix2 0 j) = bound l (ix1 j) := by
  unfold boundRow
  generalize bound l = b
  pointwise

theorem gainRow_at (g : FVec Ideal S1x128 .f32) (e : Fin 128) : gainRow g (ix2 0 e) = g (ix2 0 e) := by
  pointwise [gainRow]

theorem olds_at (s : FVec Ideal S1x8x4x128x128 .f32) (i : Fin 8) (h : Fin 4) (d e : Fin 128) : olds s (ix4 i h d e) = s (ix5 0 i h d e) := by
  pointwise [olds]

theorem V_bound (c : Dev nD) : V m c main_v14 = boundRow (m ((c : Thread nD τ).loc main_arg1)) := by
  entry_read; rfl
theorem V_gain (c : Dev nD) : V m c main_v16 = gainRow (m ((c : Thread nD τ).loc main_arg2)) := by
  entry_read; rfl
theorem V_olds (c : Dev nD) : V m c main_v17 = olds (m ((c : Thread nD τ).loc main_arg3)) := by
  entry_read; rfl

section Blocks

variable (c : Dev nD) (t : Fin cfg0.N) (i : Fin 8) (h : Fin 4) (hi : t.val / 4 = i.val) (hh : t.val % 4 = h.val)

include hi hh

theorem q_at (s : Fin 8) (d : Fin 128) : (iblk m c 0 t : FVec Ideal S8x128 .f32) (ix2 s d)
    = (m ((c : Thread nD τ).loc main_arg0) : FVec Ideal S64x8192 .f32) (ix2 ⟨i.val * 8 + s.val, by omega⟩ ⟨5120 + (h.val * 128 + d.val), by omega⟩) := by
  blk_ext [iblk, V, idx t, hi, hh]

theorem f_at (s : Fin 8) (d : Fin 128) : (iblk m c 1 t : FVec Ideal S8x128 .f32) (ix2 s d)
    = (m ((c : Thread nD τ).loc main_arg0) : FVec Ideal S64x8192 .f32) (ix2 ⟨i.val * 8 + s.val, by omega⟩ ⟨5632 + (h.val * 128 + d.val), by omega⟩) := by
  blk_ext [iblk, V, idx t, hi, hh]

theorem v_at (s : Fin 8) (e : Fin 128) : (iblk m c 2 t : FVec Ideal S8x128 .f32) (ix2 s e)
    = valsOf (m ((c : Thread nD τ).loc main_arg0)) i h s e := by
  unfold valsOf
  blk_ext [iblk, V, idx t, hi, hh]

theorem b_at (d : Fin 128) : (iblk m c 3 t : FVec Ideal S1x128 .f32) (ix2 0 d)
    = bound (m ((c : Thread nD τ).loc main_arg1)) (ix1 ⟨h.val * 128 + d.val, by omega⟩) := by
  rw [← boundRow_at, ← V_bound]
  blk_ext [iblk, idx t, hi, hh]

theorem g_at (e : Fin 128) : (iblk m c 4 t : FVec Ideal S1x128 .f32) (ix2 0 e) = (m ((c : Thread nD τ).loc main_arg2) : FVec Ideal S1x128 .f32) (ix2 0 e) := by
  rw [← gainRow_at (m ((c : Thread nD τ).loc main_arg2)), ← V_gain]
  blk_ext [iblk, idx t, hi, hh]

theorem s_at (d e : Fin 128) : (iblk m c 5 t : FVec Ideal S1x1x128x128 .f32) (ix4 0 0 d e)
    = (m ((c : Thread nD τ).loc main_arg3) : FVec Ideal S1x8x4x128x128 .f32) (ix5 0 i h d e) := by
  rw [← olds_at (m ((c : Thread nD τ).loc main_arg3)), ← V_olds]
  blk_ext [iblk, idx t, hi, hh]

/-! ## The block's queries, gates and state are the reference's -/

theorem queries_at (s : Fin 8) (d : Fin 128) : k0_pay7 (F := Ideal) (iblk m c 0 t) (ix2 s d) = queriesOf (m ((c : Thread nD τ).loc main_arg0)) i h s d :=
  (query_at _ s d).trans (congrArg swish (q_at m c t i h hi hh s d))

theorem gates_at (s : Fin 8) (d : Fin 128) : gate ((iblk m c 3 t : FVec Ideal S1x128 .f32) (ix2 0 d)) ((iblk m c 1 t : FVec Ideal S8x128 .f32) (ix2 s d))
    = gatesOf (m ((c : Thread nD τ).loc main_arg0)) (m ((c : Thread nD τ).loc main_arg1)) i h s d :=
  congrArg₂ gate (b_at m c t i h hi hh d) (f_at m c t i h hi hh s d)

theorem keys_at (s : Fin 8) (d : Fin 128) : keyBlock (iblk m c 1 t) (iblk m c 3 t) (ix2 s d)
    = pass (gatesOf (m ((c : Thread nD τ).loc main_arg0)) (m ((c : Thread nD τ).loc main_arg1)) i h s d) :=
  (keyBlock_at _ _ s d).trans (congrArg pass (gates_at m c t i h hi hh s d))

theorem sums_at (s : Fin 8) (d : Fin 128) : sumBlock (iblk m c 1 t) (iblk m c 3 t) (ix2 s d)
    = sums (gatesOf (m ((c : Thread nD τ).loc main_arg0)) (m ((c : Thread nD τ).loc main_arg1)) i h · d) s :=
  (sumBlock_at _ _ s d).trans (congrArg (sums · s) (funext fun u => gates_at m c t i h hi hh u d))

theorem weights_at (r s : Fin 8) : weightBlock (k0_pay7 (F := Ideal) (iblk m c 0 t)) (keyBlock (iblk m c 1 t) (iblk m c 3 t)) (sumBlock (iblk m c 1 t) (iblk m c 3 t)) (ix2 r s)
    = weight (queriesOf (m ((c : Thread nD τ).loc main_arg0)) i h) (gatesOf (m ((c : Thread nD τ).loc main_arg0)) (m ((c : Thread nD τ).loc main_arg1)) i h) r s := by
  rw [weightBlock_at, weight_eq _ _ (Cert.XHgrnIdeal.Value.gatesOf_le_one _ _ i h)]
  split_ifs with hs
  · unfold clamped
    refine Finset.sum_congr rfl fun d _ => ?_
    rw [queries_at m c t i h hi hh, keys_at m c t i h hi hh, sums_at m c t i h hi hh, sums_at m c t i h hi hh]
  · rfl

theorem reading_at (r : Fin 8) (e : Fin 128) :
    readBlock (k0_pay7 (F := Ideal) (iblk m c 0 t)) (keyBlock (iblk m c 1 t) (iblk m c 3 t)) (sumBlock (iblk m c 1 t) (iblk m c 3 t)) (iblk m c 2 t) (k0_pay5 (F := Ideal) (iblk m c 5 t)) (ix2 r e)
      = reading (queriesOf (m ((c : Thread nD τ).loc main_arg0)) i h) (gatesOf (m ((c : Thread nD τ).loc main_arg0)) (m ((c : Thread nD τ).loc main_arg1)) i h)
          (fun s => valsOf (m ((c : Thread nD τ).loc main_arg0)) i h s e) (fun d => (m ((c : Thread nD τ).loc main_arg3) : FVec Ideal S1x8x4x128x128 .f32) (ix5 0 i h d e)) r := by
  rw [readBlock_at, reading, add_comm]
  refine congrArg₂ (fun a b : EReal => a + b) (Finset.sum_congr rfl fun s _ => ?_) (Finset.sum_congr rfl fun d _ => ?_)
  · rw [weights_at m c t i h hi hh, mul_comm]
    exact congrArg (· * _) (v_at m c t i h hi hh s e)
  · rw [queries_at m c t i h hi hh, sums_at m c t i h hi hh, mul_comm]
    exact congrArg (· * _) ((old_at _ e d).trans (s_at m c t i h hi hh d e))

theorem state_at (d e : Fin 128) :
    k0_pay2 (F := Ideal) (k0_pay25 (F := Ideal) (keyBlock (iblk m c 1 t) (iblk m c 3 t)) (iblk m c 2 t) (sumBlock (iblk m c 1 t) (iblk m c 3 t)) (k0_pay5 (F := Ideal) (iblk m c 5 t))) (ix4 0 0 d e)
      = state (fun s => gatesOf (m ((c : Thread nD τ).loc main_arg0)) (m ((c : Thread nD τ).loc main_arg1)) i h s d)
          (fun s => valsOf (m ((c : Thread nD τ).loc main_arg0)) i h s e) ((m ((c : Thread nD τ).loc main_arg3) : FVec Ideal S1x8x4x128x128 .f32) (ix5 0 i h d e)) := by
  rw [new_at, state, sums_at m c t i h hi hh]
  refine congrArg₂ (fun a b : EReal => a + b) (congrArg (_ * ·) ((old_at _ e d).trans (s_at m c t i h hi hh d e))) (Finset.sum_congr rfl fun s _ => ?_)
  rw [decayBlock_at, sums_at m c t i h hi hh, sums_at m c t i h hi hh, keys_at m c t i h hi hh, mul_comm]
  exact congrArg (_ * ·) (v_at m c t i h hi hh s e)

end Blocks

/-! ## The arrays -/

/-- What a grid point's body leaves in the readings' block is the reference at the block's place. -/
theorem point (c : Dev nD) (t : Fin cfg0.N) (y : S8x128.Idx) :
    normBlock (readBlock (k0_pay7 (F := Ideal) (iblk m c 0 t)) (keyBlock (iblk m c 1 t) (iblk m c 3 t)) (sumBlock (iblk m c 1 t) (iblk m c 3 t)) (iblk m c 2 t) (k0_pay5 (F := Ideal) (iblk m c 5 t))) (iblk m c 4 t) y
      = REF (m ((c : Thread nD τ).loc main_arg0)) (m ((c : Thread nD τ).loc main_arg1)) (m ((c : Thread nD τ).loc main_arg2)) (m ((c : Thread nD τ).loc main_arg3)) (((cfg0.win 6).blk t).view.emb y) := by
  have ht : t.val < 32 := lt_of_lt_of_eq t.isLt N_0
  obtain ⟨r, e, rfl⟩ : ∃ (r : Fin 8) (e : Fin 128), y = ix2 r e := ⟨y 0, y 1, by blk_ext⟩
  obtain ⟨i, hi⟩ : ∃ i : Fin 8, t.val / 4 = i.val := ⟨⟨t.val / 4, by omega⟩, rfl⟩
  obtain ⟨h, hh⟩ : ∃ h : Fin 4, t.val % 4 = h.val := ⟨⟨t.val % 4, by omega⟩, rfl⟩
  have hemb : ((cfg0.win 6).blk t).view.emb (ix2 r e) = (ix2 (⟨i.val * 8 + r.val, by omega⟩ : Fin 64) (⟨h.val * 128 + e.val, by omega⟩ : Fin 512) : S64x512.Idx) := by
    blk_ext [idx t, hi, hh]
  rw [hemb, normBlock_at, Cert.XHgrnIdeal.Value.REF_at]
  refine congrArg₂ (fun a b : EReal => a * b) (congrArg₂ (fun a b : EReal => a * b) (reading_at m c t i h hi hh r e) (congrArg rootMean ?_)) (g_at m c t i h hi hh e)
  exact funext fun l => reading_at m c t i h hi hh r l

/-- What a grid point's body leaves in the state's block is the reference at the block's place. -/
theorem point_state (c : Dev nD) (t : Fin cfg0.N) (y : S1x1x128x128.Idx) :
    k0_pay2 (F := Ideal) (k0_pay25 (F := Ideal) (keyBlock (iblk m c 1 t) (iblk m c 3 t)) (iblk m c 2 t) (sumBlock (iblk m c 1 t) (iblk m c 3 t)) (k0_pay5 (F := Ideal) (iblk m c 5 t))) y
      = REFS (m ((c : Thread nD τ).loc main_arg0)) (m ((c : Thread nD τ).loc main_arg1)) (m ((c : Thread nD τ).loc main_arg3)) (((cfg0.win 7).blk t).view.emb y) := by
  have ht : t.val < 32 := lt_of_lt_of_eq t.isLt N_0
  obtain ⟨d, e, rfl⟩ : ∃ (d e : Fin 128), y = ix4 0 0 d e := ⟨y 2, y 3, by blk_ext⟩
  obtain ⟨i, hi⟩ : ∃ i : Fin 8, t.val / 4 = i.val := ⟨⟨t.val / 4, by omega⟩, rfl⟩
  obtain ⟨h, hh⟩ : ∃ h : Fin 4, t.val % 4 = h.val := ⟨⟨t.val % 4, by omega⟩, rfl⟩
  have hemb : ((cfg0.win 7).blk t).view.emb (ix4 0 0 d e) = (ix4 i h d e : S8x4x128x128.Idx) := by
    blk_ext [idx t, hi, hh]
  rw [hemb, Cert.XHgrnIdeal.Value.REFS_at]
  exact state_at m c t i h hi hh d e

/-- After the run, the call's first output is the reference's normalized readings. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  unfold Gen.outsAt0
  frame_out
  exact point m c t y

/-- After the run, the call's second output is the reference's new state. -/
theorem final_state (c : Dev nD) : (dats m 0 c).arrAt 7 (cfgs 0).N
    = REFS (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]
  unfold Gen.outsAt0
  frame_out
  exact point_state m c t y

end Cert.HgrnIdeal.Value

end
-- ==== Proof.HgrnClaim.lean ====
/- The recurrence's value claim: both idealized programs end with the same arrays. -/
module

public import proofs.«01_k».proof.Defs
public import proofs.«01_k».proof.Proof.HgrnValue

@[expose] public section

set_option maxRecDepth 16384

noncomputable section

namespace Cert.Proof

open Idealize.ShloMosaic Idealize.SL.Sem

/-- The recurrence's pallas_call computes the block's normalized readings and the new state. -/
theorem recurrence : Cert.algebraic_HgrnIdeal_XHgrnIdeal := by
  pair_intro
  · run_from Cert.HgrnIdeal.Gen.run_main m g
    · exact Cert.HgrnIdeal.Gen.V_main_arg1 m c
    · exact Cert.HgrnIdeal.Gen.V_main_arg2 m c
    · exact Cert.HgrnIdeal.Gen.V_main_arg3 m c
  · refine (θ_run Cert.XHgrnIdeal.defs _ _).mono (fun r h => ?_) (Cert.XHgrnIdeal.Value.run (F := Ideal) _ _)
    intro c
    refine ⟨(h c).1.trans ?_, (h c).2.1.trans ?_, (h c).2.2⟩
    · refine Eq.trans ?_ (Cert.HgrnIdeal.Value.final m c).symm
      obtain ⟨h0, h1, h2, h3⟩ := hagree c
      rw [Cert.XHgrnIdeal.Value.REF_eq]
      exact congr (congr (congr (congrArg Cert.XHgrnIdeal.Value.REF h0) h1) h2) h3
    · refine Eq.trans ?_ (Cert.HgrnIdeal.Value.final_state m c).symm
      obtain ⟨h0, h1, h2, h3⟩ := hagree c
      rw [Cert.XHgrnIdeal.Value.REFS_eq]
      exact congr (congr (congrArg Cert.XHgrnIdeal.Value.REFS h0) h1) h3

end Cert.Proof

end
-- ==== Proof.PrepMath.lean ====
/- A rotation of a head's first entries by a position's angles, written twice: entry by entry, and as three products with
   tables that hold a cosine, a sine or a constant at every entry. -/
module

public import Idealize.ShloMosaic.PureOps.Ideal.Laws
public import Idealize.ShloMosaic.Lib.Pointwise

@[expose] public section

noncomputable section

open Idealize.ShloMosaic

namespace Cert.Turn

/-- A head `x` turned: entry `j` of the first half goes with entry `j + h`, the entries from `w = 2 h` on stay. -/
def turn (h w n : ℕ) (hw : w = h + h) (hn : w ≤ n) (x : Fin n → EReal) (c s : Fin h → EReal) (j : Fin n) : EReal :=
  if p : j.val < h then x j * c ⟨j.val, p⟩ - x ⟨j.val + h, by omega⟩ * s ⟨j.val, p⟩
  else if q : j.val < w then x j * c ⟨j.val - h, by omega⟩ + x ⟨j.val - h, by omega⟩ * s ⟨j.val - h, by omega⟩
  else x j

/-- The cosines' table: a cosine for each of the two halves, one beyond them. -/
def cosines (h w n : ℕ) (hw : w = h + h) (c : Fin h → EReal) (j : Fin n) : EReal :=
  if p : j.val < h then c ⟨j.val, p⟩ else if q : j.val < w then c ⟨j.val - h, by omega⟩ else 1

/-- The first half's sines, negated, and zeros. -/
def sinesUp (h n : ℕ) (s : Fin h → EReal) (j : Fin n) : EReal :=
  if p : j.val < h then -s ⟨j.val, p⟩ else 0

/-- The second half's sines, and zeros. -/
def sinesDown (h w n : ℕ) (hw : w = h + h) (s : Fin h → EReal) (j : Fin n) : EReal :=
  if p : j.val < h then 0 else if q : j.val < w then s ⟨j.val - h, by omega⟩ else 0

/-- THE THREE PRODUCTS: an entry, the one `h` above it and the one `h` below it against the tables give the turned entry. -/
theorem three (h w n : ℕ) (hw : w = h + h) (hn : w ≤ n) (x : Fin n → EReal) (c s : Fin h → EReal) (j : Fin n)
    (up down : EReal) (hup : ∀ p : j.val < h, up = x ⟨j.val + h, by omega⟩)
    (hdown : ∀ (p : ¬ j.val < h) (q : j.val < w), down = x ⟨j.val - h, by omega⟩) :
    x j * cosines h w n hw c j + up * sinesUp h n s j + down * sinesDown h w n hw s j = turn h w n hw hn x c s j := by
  by_cases p : j.val < h
  · rw [turn, cosines, sinesUp, sinesDown, dif_pos p, dif_pos p, dif_pos p, dif_pos p, hup p, mul_zero, add_zero, mul_neg, sub_eq_add_neg]
  · by_cases q : j.val < w
    · rw [turn, cosines, sinesUp, sinesDown, dif_neg p, dif_neg p, dif_neg p, dif_neg p, dif_pos q, dif_pos q, dif_pos q, hdown p q, mul_zero, add_zero]
    · rw [turn, cosines, sinesUp, sinesDown, dif_neg p, dif_neg p, dif_neg p, dif_neg p, dif_neg q, dif_neg q, dif_neg q, mul_zero, mul_zero, add_zero, add_zero, mul_one]

/-- The entries put together from the parts of a head: the turned ones first, each half apart, and then the rest. -/
theorem parts (h w n : ℕ) (hw : w = h + h) (hn : w ≤ n) (x : Fin n → EReal) (c s : Fin h → EReal) (j : Fin n) :
    (if p : j.val < w then
      if q : j.val < h then x j * c ⟨j.val, q⟩ - x ⟨h + j.val, by omega⟩ * s ⟨j.val, q⟩
      else x ⟨h + (j.val - h), by omega⟩ * c ⟨j.val - h, by omega⟩ + x ⟨j.val - h, by omega⟩ * s ⟨j.val - h, by omega⟩
    else x ⟨w + (j.val - w), by omega⟩) = turn h w n hw hn x c s j := by
  have e : ∀ (k : ℕ) (hk : k < n), k = j.val → x ⟨k, hk⟩ = x j := fun k hk hkj => congrArg x (Fin.ext hkj)
  rw [turn]
  by_cases q : j.val < h
  · rw [dif_pos (by omega : j.val < w), dif_pos q, dif_pos q, show (⟨h + j.val, by omega⟩ : Fin n) = ⟨j.val + h, by omega⟩ from Fin.ext (Nat.add_comm _ _)]
  · by_cases p : j.val < w
    · rw [dif_pos p, dif_neg q, dif_neg q, dif_pos p, e _ _ (by omega)]
    · rw [dif_neg p, dif_neg q, dif_neg p, e _ _ (by omega)]

end Cert.Turn

end
-- ==== Proof.PrepRead.lean ====
/- The preparation's reference read at an index: queries, keys and the indexer's turned by their positions' angles. -/
module

public import proofs.«01_k».proof.Proof.Gen.XPrepIdeal.Run
public import proofs.«01_k».proof.Proof.PrepMath
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.XPrepIdeal.Value

open Cert.XPrepIdeal Cert.XPrepIdeal.Gen Cert.Turn

/-- The attention's angles: a position times a frequency. -/
def wide : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The indexer's angles. -/
def narrow : FVec Ideal S2048x8 .f32 :=
  mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- A position's cosines and sines for the attention, and for the indexer. -/
def wideCos (t : Fin 2048) (j : Fin 16) : EReal := Host.cos wide (ix2 t j)
def wideSin (t : Fin 2048) (j : Fin 16) : EReal := Host.sin wide (ix2 t j)
def narrowCos (t : Fin 2048) (j : Fin 8) : EReal := Host.cos narrow (ix2 t j)
def narrowSin (t : Fin 2048) (j : Fin 8) : EReal := Host.sin narrow (ix2 t j)

/-- A table of the attention's angles beside every head. -/
def wideAll (a : FVec Ideal S2048x16 .f32) : FVec Ideal S4x2048x8x16 .f32 :=
  broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 a))

/-- A table of the indexer's angles beside every head. -/
def narrowAll (a : FVec Ideal S2048x8 .f32) : FVec Ideal S4x2048x16x8 .f32 :=
  broadcastInDim S4x2048x16x8 ![0, 1, 2, 3] bcast_S1x2048x1x8_S4x2048x16x8_0_1_2_3 (broadcastInDim S1x2048x1x8 ![1, 2, 3] bcast_S2048x1x8_S1x2048x1x8_1_2_3 (broadcastInDim S2048x1x8 ![0, 2] bcast_S2048x8_S2048x1x8_0_2 a))

/-- The same beside the indexer's one key. -/
def narrowOne (a : FVec Ideal S2048x8 .f32) : FVec Ideal S4x2048x1x8 .f32 :=
  broadcastInDim S4x2048x1x8 ![0, 1, 2, 3] bcast_S1x2048x1x8_S4x2048x1x8_0_1_2_3 (broadcastInDim S1x2048x1x8 ![1, 2, 3] bcast_S2048x1x8_S1x2048x1x8_1_2_3 (broadcastInDim S2048x1x8 ![0, 2] bcast_S2048x8_S2048x1x8_0_2 a))

/-- The attention's heads turned. -/
def turned (x : FVec Ideal S4x2048x8x128 .f32) : FVec Ideal S4x2048x8x128 .f32 :=
  concatenate S4x2048x8x128 3 [⟨S4x2048x8x32, (concatenate S4x2048x8x32 3 [
    ⟨S4x2048x8x16, (subf (mulf (extractStridedSlice S4x2048x8x16 ![0, 0, 0, 0] (extractStridedSlice S4x2048x8x32 ![0, 0, 0, 0] x slices_S4x2048x8x128_S4x2048x8x32_0_0_0_0) slices_S4x2048x8x32_S4x2048x8x16_0_0_0_0) (wideAll (Host.cos wide)))
      (mulf (extractStridedSlice S4x2048x8x16 ![0, 0, 0, 16] (extractStridedSlice S4x2048x8x32 ![0, 0, 0, 0] x slices_S4x2048x8x128_S4x2048x8x32_0_0_0_0) slices_S4x2048x8x32_S4x2048x8x16_0_0_0_16) (wideAll (Host.sin wide))))⟩,
    ⟨S4x2048x8x16, (addf (mulf (extractStridedSlice S4x2048x8x16 ![0, 0, 0, 16] (extractStridedSlice S4x2048x8x32 ![0, 0, 0, 0] x slices_S4x2048x8x128_S4x2048x8x32_0_0_0_0) slices_S4x2048x8x32_S4x2048x8x16_0_0_0_16) (wideAll (Host.cos wide)))
      (mulf (extractStridedSlice S4x2048x8x16 ![0, 0, 0, 0] (extractStridedSlice S4x2048x8x32 ![0, 0, 0, 0] x slices_S4x2048x8x128_S4x2048x8x32_0_0_0_0) slices_S4x2048x8x32_S4x2048x8x16_0_0_0_0) (wideAll (Host.sin wide))))⟩] concatenates_S4x2048x8x16_S4x2048x8x16_S4x2048x8x32_d3)⟩,
    ⟨S4x2048x8x96, (extractStridedSlice S4x2048x8x96 ![0, 0, 0, 32] x slices_S4x2048x8x128_S4x2048x8x96_0_0_0_32)⟩] concatenates_S4x2048x8x32_S4x2048x8x96_S4x2048x8x128_d3

/-- The indexer's query heads turned. -/
def turnedPairs (x : FVec Ideal S4x2048x16x64 .f32) : FVec Ideal S4x2048x16x64 .f32 :=
  concatenate S4x2048x16x64 3 [⟨S4x2048x16x16, (concatenate S4x2048x16x16 3 [
    ⟨S4x2048x16x8, (subf (mulf (extractStridedSlice S4x2048x16x8 ![0, 0, 0, 0] (extractStridedSlice S4x2048x16x16 ![0, 0, 0, 0] x slices_S4x2048x16x64_S4x2048x16x16_0_0_0_0) slices_S4x2048x16x16_S4x2048x16x8_0_0_0_0) (narrowAll (Host.cos narrow)))
      (mulf (extractStridedSlice S4x2048x16x8 ![0, 0, 0, 8] (extractStridedSlice S4x2048x16x16 ![0, 0, 0, 0] x slices_S4x2048x16x64_S4x2048x16x16_0_0_0_0) slices_S4x2048x16x16_S4x2048x16x8_0_0_0_8) (narrowAll (Host.sin narrow))))⟩,
    ⟨S4x2048x16x8, (addf (mulf (extractStridedSlice S4x2048x16x8 ![0, 0, 0, 8] (extractStridedSlice S4x2048x16x16 ![0, 0, 0, 0] x slices_S4x2048x16x64_S4x2048x16x16_0_0_0_0) slices_S4x2048x16x16_S4x2048x16x8_0_0_0_8) (narrowAll (Host.cos narrow)))
      (mulf (extractStridedSlice S4x2048x16x8 ![0, 0, 0, 0] (extractStridedSlice S4x2048x16x16 ![0, 0, 0, 0] x slices_S4x2048x16x64_S4x2048x16x16_0_0_0_0) slices_S4x2048x16x16_S4x2048x16x8_0_0_0_0) (narrowAll (Host.sin narrow))))⟩] concatenates_S4x2048x16x8_S4x2048x16x8_S4x2048x16x16_d3)⟩,
    ⟨S4x2048x16x48, (extractStridedSlice S4x2048x16x48 ![0, 0, 0, 16] x slices_S4x2048x16x64_S4x2048x16x48_0_0_0_16)⟩] concatenates_S4x2048x16x16_S4x2048x16x48_S4x2048x16x64_d3

/-- The indexer's key turned. -/
def turnedKey (x : FVec Ideal S4x2048x1x64 .f32) : FVec Ideal S4x2048x1x64 .f32 :=
  concatenate S4x2048x1x64 3 [⟨S4x2048x1x16, (concatenate S4x2048x1x16 3 [
    ⟨S4x2048x1x8, (subf (mulf (extractStridedSlice S4x2048x1x8 ![0, 0, 0, 0] (extractStridedSlice S4x2048x1x16 ![0, 0, 0, 0] x slices_S4x2048x1x64_S4x2048x1x16_0_0_0_0) slices_S4x2048x1x16_S4x2048x1x8_0_0_0_0) (narrowOne (Host.cos narrow)))
      (mulf (extractStridedSlice S4x2048x1x8 ![0, 0, 0, 8] (extractStridedSlice S4x2048x1x16 ![0, 0, 0, 0] x slices_S4x2048x1x64_S4x2048x1x16_0_0_0_0) slices_S4x2048x1x16_S4x2048x1x8_0_0_0_8) (narrowOne (Host.sin narrow))))⟩,
    ⟨S4x2048x1x8, (addf (mulf (extractStridedSlice S4x2048x1x8 ![0, 0, 0, 8] (extractStridedSlice S4x2048x1x16 ![0, 0, 0, 0] x slices_S4x2048x1x64_S4x2048x1x16_0_0_0_0) slices_S4x2048x1x16_S4x2048x1x8_0_0_0_8) (narrowOne (Host.cos narrow)))
      (mulf (extractStridedSlice S4x2048x1x8 ![0, 0, 0, 0] (extractStridedSlice S4x2048x1x16 ![0, 0, 0, 0] x slices_S4x2048x1x64_S4x2048x1x16_0_0_0_0) slices_S4x2048x1x16_S4x2048x1x8_0_0_0_0) (narrowOne (Host.sin narrow))))⟩] concatenates_S4x2048x1x8_S4x2048x1x8_S4x2048x1x16_d3)⟩,
    ⟨S4x2048x1x48, (extractStridedSlice S4x2048x1x48 ![0, 0, 0, 16] x slices_S4x2048x1x64_S4x2048x1x48_0_0_0_16)⟩] concatenates_S4x2048x1x16_S4x2048x1x48_S4x2048x1x64_d3

/-- The weights of the indexer's heads: sizes, scaled. -/
def sizes (y : FVec Ideal S8192x128 .f32) : FVec Ideal S8192x16 .f32 :=
  mulf (Host.absf (extractStridedSlice S8192x16 ![0, 64] y slices_S8192x128_S8192x16_0_64)) (broadcastInDim S8192x16 ![] bcast_S_S8192x16 (constant S_ .f32 0x3D000000#32))

/-- The two halves of a row exchanged. -/
def exchanged (y : FVec Ideal S8192x128 .f32) : FVec Ideal S8192x128 .f32 :=
  concatenate S8192x128 1 [⟨S8192x64, (extractStridedSlice S8192x64 ![0, 64] y slices_S8192x128_S8192x64_0_64)⟩, ⟨S8192x64, (extractStridedSlice S8192x64 ![0, 0] y slices_S8192x128_S8192x64_0_0)⟩] concatenates_S8192x64_S8192x64_S8192x128_d1

/-- The results: scaled queries, keys, values, weighted indexer queries, signs, the indexer's key alone, in the even heads' lanes
    and in the odd heads' lanes. -/
def QUERY (z : FVec Ideal S8192x8192 .f32) : FVec Ideal S8192x1024 .bf16 :=
  truncf .bf16 (mulf (shapeCast _ (turned (shapeCast _ (extractStridedSlice S8192x1024 ![0, 0] z slices_S8192x8192_S8192x1024_0_0) shapeCasts_S8192x1024_S4x2048x8x128)) shapeCasts_S4x2048x8x128_S8192x1024) (broadcastInDim S8192x1024 ![] bcast_S_S8192x1024 (constant S_ .f32 0x3DB504F3#32))) bitsLt_bf16_f32
def KEY (z : FVec Ideal S8192x8192 .f32) : FVec Ideal S8192x1024 .f32 :=
  shapeCast _ (turned (shapeCast _ (extractStridedSlice S8192x1024 ![0, 1024] z slices_S8192x8192_S8192x1024_0_1024) shapeCasts_S8192x1024_S4x2048x8x128)) shapeCasts_S4x2048x8x128_S8192x1024
def KEYB (z : FVec Ideal S8192x8192 .f32) : FVec Ideal S8192x1024 .bf16 := truncf .bf16 (KEY z) bitsLt_bf16_f32
def VALUE (z : FVec Ideal S8192x8192 .f32) : FVec Ideal S8192x1024 .f32 := extractStridedSlice S8192x1024 ![0, 2048] z slices_S8192x8192_S8192x1024_0_2048
def VALUEB (z : FVec Ideal S8192x8192 .f32) : FVec Ideal S8192x1024 .bf16 := truncf .bf16 (VALUE z) bitsLt_bf16_f32
def INDEX (z : FVec Ideal S8192x8192 .f32) (y : FVec Ideal S8192x128 .f32) : FVec Ideal S8192x1024 .bf16 :=
  truncf .bf16 (shapeCast _ (mulf (shapeCast _ (turnedPairs (shapeCast _ (extractStridedSlice S8192x1024 ![0, 4096] z slices_S8192x8192_S8192x1024_0_4096) shapeCasts_S8192x1024_S4x2048x16x64)) shapeCasts_S4x2048x16x64_S8192x16x64) (broadcastInDim S8192x16x64 ![0, 1, 2] bcast_S8192x16x1_S8192x16x64_0_1_2 (broadcastInDim S8192x16x1 ![0, 1] bcast_S8192x16_S8192x16x1_0_1 (sizes y)))) shapeCasts_S8192x16x64_S8192x1024) bitsLt_bf16_f32
def SIGN (y : FVec Ideal S8192x128 .f32) : FVec Ideal S8192x128 .f32 := Host.sign (exchanged y)
def ALONE (y : FVec Ideal S8192x128 .f32) : FVec Ideal S8192x64 .f32 :=
  shapeCast _ (shapeCast _ (turnedKey (shapeCast _ (extractStridedSlice S8192x64 ![0, 0] y slices_S8192x128_S8192x64_0_0) shapeCasts_S8192x64_S4x2048x1x64)) shapeCasts_S4x2048x1x64_S4x2048x64) shapeCasts_S4x2048x64_S8192x64
def EVEN (y : FVec Ideal S8192x128 .f32) : FVec Ideal S8192x128 .bf16 :=
  concatenate S8192x128 1 [⟨S8192x64, (truncf .bf16 (ALONE y) bitsLt_bf16_f32)⟩, ⟨S8192x64, (broadcastInDim S8192x64 ![] bcast_S_S8192x64 (constant S_ .bf16 0x0000#16))⟩] concatenates_S8192x64_S8192x64_S8192x128_d1
def ODD (y : FVec Ideal S8192x128 .f32) : FVec Ideal S8192x128 .bf16 :=
  concatenate S8192x128 1 [⟨S8192x64, (broadcastInDim S8192x64 ![] bcast_S_S8192x64 (constant S_ .bf16 0x0000#16))⟩, ⟨S8192x64, (truncf .bf16 (ALONE y) bitsLt_bf16_f32)⟩] concatenates_S8192x64_S8192x64_S8192x128_d1

theorem turned_at (x : FVec Ideal S4x2048x8x128 .f32) (b : Fin 4) (t : Fin 2048) (h : Fin 8) (j : Fin 128) (xs : Fin 128 → EReal)
    (hx : ∀ e, x (ix4 b t h e) = xs e) :
    turned x (ix4 b t h j) = turn 16 32 128 rfl (by omega) xs (wideCos t) (wideSin t) j := by
  obtain rfl : (fun e => x (ix4 b t h e)) = xs := funext hx
  refine Eq.trans ?_ (parts 16 32 128 rfl (by omega) (fun e => x (ix4 b t h e)) (wideCos t) (wideSin t) j)
  pointwise [turned, wideAll, wideCos, wideSin]

theorem turnedPairs_at (x : FVec Ideal S4x2048x16x64 .f32) (b : Fin 4) (t : Fin 2048) (h : Fin 16) (j : Fin 64) (xs : Fin 64 → EReal)
    (hx : ∀ e, x (ix4 b t h e) = xs e) :
    turnedPairs x (ix4 b t h j) = turn 8 16 64 rfl (by omega) xs (narrowCos t) (narrowSin t) j := by
  obtain rfl : (fun e => x (ix4 b t h e)) = xs := funext hx
  refine Eq.trans ?_ (parts 8 16 64 rfl (by omega) (fun e => x (ix4 b t h e)) (narrowCos t) (narrowSin t) j)
  pointwise [turnedPairs, narrowAll, narrowCos, narrowSin]

theorem turnedKey_at (x : FVec Ideal S4x2048x1x64 .f32) (b : Fin 4) (t : Fin 2048) (j : Fin 64) (xs : Fin 64 → EReal)
    (hx : ∀ e, x (ix4 b t 0 e) = xs e) :
    turnedKey x (ix4 b t 0 j) = turn 8 16 64 rfl (by omega) xs (narrowCos t) (narrowSin t) j := by
  obtain rfl : (fun e => x (ix4 b t 0 e)) = xs := funext hx
  refine Eq.trans ?_ (parts 8 16 64 rfl (by omega) (fun e => x (ix4 b t 0 e)) (narrowCos t) (narrowSin t) j)
  pointwise [turnedKey, narrowOne, narrowCos, narrowSin]

/-- A row's turned attention head: its entries begin at column `o`, lane `j` of head `h`. -/
def headAt (z : FVec Ideal S8192x8192 .f32) (o : ℕ) (ho : o + 1024 ≤ 8192) (i : Fin 8192) (h : Fin 8) (j : Fin 128) : EReal :=
  turn 16 32 128 rfl (by omega) (fun e : Fin 128 => z (ix2 i ⟨o + (h.val * 128 + e.val), by omega⟩))
    (wideCos ⟨i.val % 2048, by omega⟩) (wideSin ⟨i.val % 2048, by omega⟩) j

/-- A row's turned indexer head. -/
def pairAt (z : FVec Ideal S8192x8192 .f32) (i : Fin 8192) (h : Fin 16) (j : Fin 64) : EReal :=
  turn 8 16 64 rfl (by omega) (fun e : Fin 64 => z (ix2 i ⟨4096 + (h.val * 64 + e.val), by omega⟩))
    (narrowCos ⟨i.val % 2048, by omega⟩) (narrowSin ⟨i.val % 2048, by omega⟩) j

/-- A row's turned indexer key. -/
def keyAt (y : FVec Ideal S8192x128 .f32) (i : Fin 8192) (j : Fin 64) : EReal :=
  turn 8 16 64 rfl (by omega) (fun e : Fin 64 => y (ix2 i ⟨e.val, by omega⟩))
    (narrowCos ⟨i.val % 2048, by omega⟩) (narrowSin ⟨i.val % 2048, by omega⟩) j

theorem QUERY_at (z : FVec Ideal S8192x8192 .f32) (i : Fin 8192) (n : Fin 1024) :
    QUERY z (ix2 i n) = headAt z 0 (by omega) i ⟨n.val / 128, by omega⟩ ⟨n.val % 128, by omega⟩ * Ideal.ofBits .f32 0x3DB504F3#32 := by
  pointwise [QUERY]
  refine congrArg (fun v : EReal => v * Ideal.ofBits .f32 0x3DB504F3#32) (turned_at _ _ _ _ _ _ fun e => ?_)
  pointwise

theorem KEY_at (z : FVec Ideal S8192x8192 .f32) (i : Fin 8192) (n : Fin 1024) :
    KEY z (ix2 i n) = headAt z 1024 (by omega) i ⟨n.val / 128, by omega⟩ ⟨n.val % 128, by omega⟩ := by
  pointwise [KEY]
  refine turned_at _ _ _ _ _ _ fun e => ?_
  pointwise

theorem VALUE_at (z : FVec Ideal S8192x8192 .f32) (i : Fin 8192) (n : Fin 1024) :
    VALUE z (ix2 i n) = z (ix2 i ⟨2048 + n.val, by omega⟩) := by
  pointwise [VALUE]

theorem sizes_at (y : FVec Ideal S8192x128 .f32) (i : Fin 8192) (h : Fin 16) :
    sizes y (ix2 i h) = (FloatOps.absf (F := Ideal) (φ := .f32) (y (ix2 i ⟨64 + h.val, by omega⟩)) : EReal) * Ideal.ofBits .f32 0x3D000000#32 := by
  pointwise [sizes]

theorem INDEX_at (z : FVec Ideal S8192x8192 .f32) (y : FVec Ideal S8192x128 .f32) (i : Fin 8192) (n : Fin 1024) :
    INDEX z y (ix2 i n) = pairAt z i ⟨n.val / 64, by omega⟩ ⟨n.val % 64, by omega⟩ * sizes y (ix2 i ⟨n.val / 64, by omega⟩) := by
  pointwise [INDEX]
  refine congrArg (fun v : EReal => v * sizes y (ix2 i ⟨n.val / 64, by omega⟩)) (turnedPairs_at _ _ _ _ _ _ fun e => ?_)
  pointwise

theorem exchanged_at (y : FVec Ideal S8192x128 .f32) (i : Fin 8192) (l : Fin 128) :
    exchanged y (ix2 i l) = y (ix2 i ⟨(l.val + 64) % 128, by omega⟩) := by
  refine Eq.trans (b := if h : l.val < 64 then y (ix2 i ⟨64 + l.val, by omega⟩) else y (ix2 i ⟨l.val - 64, by omega⟩)) (by pointwise [exchanged]) ?_
  split_ifs with h <;> exact congrArg y (congrArg (ix2 i) (Fin.ext (by show _ = (l.val + 64) % 128; simp only []; omega)))

theorem SIGN_at (y : FVec Ideal S8192x128 .f32) (i : Fin 8192) (l : Fin 128) :
    SIGN y (ix2 i l) = Ideal.sign (y (ix2 i ⟨(l.val + 64) % 128, by omega⟩)) :=
  congrArg Ideal.sign (exchanged_at y i l)

theorem ALONE_at (y : FVec Ideal S8192x128 .f32) (i : Fin 8192) (j : Fin 64) : ALONE y (ix2 i j) = keyAt y i j := by
  pointwise [ALONE]
  refine turnedKey_at _ _ _ _ _ fun e => ?_
  pointwise

theorem EVEN_at (y : FVec Ideal S8192x128 .f32) (i : Fin 8192) (l : Fin 128) :
    EVEN y (ix2 i l) = if h : l.val < 64 then ALONE y (ix2 i ⟨l.val, h⟩) else Ideal.ofBits .bf16 0x0000#16 := by
  pointwise [EVEN]

theorem ODD_at (y : FVec Ideal S8192x128 .f32) (i : Fin 8192) (l : Fin 128) :
    ODD y (ix2 i l) = if h : l.val < 64 then Ideal.ofBits .bf16 0x0000#16 else ALONE y (ix2 i ⟨l.val - 64, by omega⟩) := by
  pointwise [ODD]

end Cert.XPrepIdeal.Value

end
-- ==== Proof.PrepBody.lean ====
/- The preparation's body at an index: the tables' entries, a block of heads turned by three products with the tables, the
   indexer's weights, the signs. -/
module

public import proofs.«01_k».proof.Proof.Gen.PrepIdeal.Value
public import proofs.«01_k».proof.Proof.PrepRead
public import Idealize.ShloMosaic.Lib.KernelVsHost
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.PrepIdeal.Value

open Cert.PrepIdeal Cert.PrepIdeal.Gen Cert.Turn
open Cert.XPrepIdeal.Value (wide narrow wideCos wideSin narrowCos narrowSin)

theorem f32_zero : Ideal.ofBits .f32 0x00000000#32 = 0 := IdealRules.sign_bit.ideal_zero .f32
theorem bf16_zero : Ideal.ofBits .bf16 0x0000#16 = 0 := IdealRules.sign_bit.ideal_zero .bf16
theorem f32_one : Ideal.ofBits .f32 0x3F800000#32 = 1 := IdealRules.sign_bit.ideal_onePat .f32

/-! ## The tables -/

/-- Three parts side by side: a table of the attention's. -/
def wideTable (a b : FVec Ideal S2048x16 .f32) (r : FVec Ideal S2048x96 .f32) : FVec Ideal S2048x128 .f32 :=
  shapeCast _ (broadcastInDim S1x2048x1x128 ![0, 1, 2, 3] bcast_S1x2048x1x128_S1x2048x1x128_0_1_2_3 (shapeCast _
    (concatenate S2048x128 1 [⟨S2048x16, a⟩, ⟨S2048x16, b⟩, ⟨S2048x96, r⟩] concatenates_S2048x16_S2048x16_S2048x96_S2048x128_d1 : FVec Ideal S2048x128 .f32)
    shapeCasts_S2048x128_S1x2048x1x128 : FVec Ideal S1x2048x1x128 .f32)) shapeCasts_S1x2048x1x128_S2048x128

/-- Three parts side by side, twice: a table of the indexer's. -/
def narrowTable (a b : FVec Ideal S2048x8 .f32) (r : FVec Ideal S2048x48 .f32) : FVec Ideal S2048x128 .f32 :=
  shapeCast _ (broadcastInDim S1x2048x2x64 ![0, 1, 2, 3] bcast_S1x2048x1x64_S1x2048x2x64_0_1_2_3 (shapeCast _
    (concatenate S2048x64 1 [⟨S2048x8, a⟩, ⟨S2048x8, b⟩, ⟨S2048x48, r⟩] concatenates_S2048x8_S2048x8_S2048x48_S2048x64_d1 : FVec Ideal S2048x64 .f32)
    shapeCasts_S2048x64_S1x2048x1x64 : FVec Ideal S1x2048x1x64 .f32)) shapeCasts_S1x2048x2x64_S2048x128

theorem wideTable_at (a b : FVec Ideal S2048x16 .f32) (r : FVec Ideal S2048x96 .f32) (t : Fin 2048) (l : Fin 128) :
    wideTable a b r (ix2 t l) = if p : l.val < 16 then a (ix2 t ⟨l.val, p⟩)
      else if q : l.val < 32 then b (ix2 t ⟨l.val - 16, by omega⟩) else r (ix2 t ⟨l.val - 32, by omega⟩) := by
  refine Eq.trans (b := if p : l.val < 16 then a (ix2 t ⟨l.val, p⟩) else if q : l.val - 16 < 16 then b (ix2 t ⟨l.val - 16, by omega⟩)
    else r (ix2 t ⟨l.val - 16 - 16, by omega⟩)) (by pointwise [wideTable]) ?_
  by_cases p : l.val < 16
  · rw [dif_pos p, dif_pos p]
  · by_cases q : l.val < 32
    · rw [dif_neg p, dif_neg p, dif_pos q, dif_pos (by omega)]
    · rw [dif_neg p, dif_neg p, dif_neg q, dif_neg (by omega)]
      exact congrArg r (congrArg (ix2 t) (Fin.ext (Nat.sub_sub _ _ _)))

theorem narrowTable_at (a b : FVec Ideal S2048x8 .f32) (r : FVec Ideal S2048x48 .f32) (t : Fin 2048) (l : Fin 128) :
    narrowTable a b r (ix2 t l) = if p : l.val % 64 < 8 then a (ix2 t ⟨l.val % 64, p⟩)
      else if q : l.val % 64 < 16 then b (ix2 t ⟨l.val % 64 - 8, by omega⟩) else r (ix2 t ⟨l.val % 64 - 16, by omega⟩) := by
  refine Eq.trans (b := if p : l.val % 64 < 8 then a (ix2 t ⟨l.val % 64, p⟩) else if q : l.val % 64 - 8 < 8 then b (ix2 t ⟨l.val % 64 - 8, by omega⟩)
    else r (ix2 t ⟨l.val % 64 - 8 - 8, by omega⟩)) (by pointwise [narrowTable]) ?_
  by_cases p : l.val % 64 < 8
  · rw [dif_pos p, dif_pos p]
  · by_cases q : l.val % 64 < 16
    · rw [dif_neg p, dif_neg p, dif_pos q, dif_pos (by omega)]
    · rw [dif_neg p, dif_neg p, dif_neg q, dif_neg (by omega)]
      exact congrArg r (congrArg (ix2 t) (Fin.ext (Nat.sub_sub _ _ _)))

/-! ## Turning a block -/

/-- A block against its tables: itself, its lanes moved by `j`, and by `k`. -/
def roped (j k : BitVec 32) (x c a b : FVec Ideal S256x128 .f32) : FVec Ideal S256x128 .f32 :=
  addf (addf (mulf x c) (mulf (dynamicRotate 1 j none x rotates_S256x128_d1) a)) (mulf (dynamicRotate 1 k none x rotates_S256x128_d1) b)

theorem rolled_at (n : ℕ) (hn : n < 128) (x : FVec Ideal S256x128 .f32) (r : Fin 256) (l l' : Fin 128) (h : l'.val = (l.val + 128 - n) % 128) :
    dynamicRotate 1 (BitVec.ofNat 32 n) none x rotates_S256x128_d1 (ix2 r l) = x (ix2 r l') := by
  refine dynamicRotate_apply 1 _ x rotates_S256x128_d1 _ _ fun b => ?_
  have hj : (BitVec.ofNat 32 n).toNat = n := by simp; omega
  rw [hj]
  fin_cases b
  · rfl
  · show l'.val = (l.val + 128 - n % 128) % 128
    omega

/-- A block of one head of 128 lanes, turned. -/
theorem roped_head (x c a b : FVec Ideal S256x128 .f32) (r : Fin 256) (l : Fin 128) (xs : Fin 128 → EReal) (cs ss : Fin 16 → EReal)
    (hx : ∀ e, x (ix2 r e) = xs e) (hc : c (ix2 r l) = cosines 16 32 128 rfl cs l)
    (ha : a (ix2 r l) = sinesUp 16 128 ss l) (hb : b (ix2 r l) = sinesDown 16 32 128 rfl ss l) :
    roped 112#32 16#32 x c a b (ix2 r l) = turn 16 32 128 rfl (by omega) xs cs ss l := by
  refine Eq.trans ?_ (three 16 32 128 rfl (by omega) xs cs ss l
    (x (ix2 r ⟨(l.val + 128 - 112) % 128, by omega⟩)) (x (ix2 r ⟨(l.val + 128 - 16) % 128, by omega⟩))
    (fun p => (hx _).trans (congrArg xs (Fin.ext (by show (l.val + 128 - 112) % 128 = l.val + 16; omega))))
    (fun p q => (hx _).trans (congrArg xs (Fin.ext (by show (l.val + 128 - 16) % 128 = l.val - 16; omega)))))
  rw [← hx l, ← hc, ← ha, ← hb, ← rolled_at 112 (by omega) x r l ⟨(l.val + 128 - 112) % 128, by omega⟩ rfl,
    ← rolled_at 16 (by omega) x r l ⟨(l.val + 128 - 16) % 128, by omega⟩ rfl]
  rfl

/-- A block of two heads of 64 lanes, turned. -/
theorem roped_pair (x c a b : FVec Ideal S256x128 .f32) (r : Fin 256) (l : Fin 128) (xs : Fin 64 → EReal) (cs ss : Fin 8 → EReal)
    (hx : ∀ e : Fin 64, x (ix2 r ⟨l.val / 64 * 64 + e.val, by omega⟩) = xs e) (hc : c (ix2 r l) = cosines 8 16 64 rfl cs ⟨l.val % 64, by omega⟩)
    (ha : a (ix2 r l) = sinesUp 8 64 ss ⟨l.val % 64, by omega⟩) (hb : b (ix2 r l) = sinesDown 8 16 64 rfl ss ⟨l.val % 64, by omega⟩) :
    roped 120#32 8#32 x c a b (ix2 r l) = turn 8 16 64 rfl (by omega) xs cs ss ⟨l.val % 64, by omega⟩ := by
  have at_ : ∀ (k : Fin 128) (e : Fin 64), k.val = l.val / 64 * 64 + e.val → x (ix2 r k) = xs e := fun k e h =>
    (congrArg (fun k => x (ix2 r k)) (Fin.ext h : k = ⟨l.val / 64 * 64 + e.val, by omega⟩)).trans (hx e)
  refine Eq.trans ?_ (three 8 16 64 rfl (by omega) xs cs ss ⟨l.val % 64, by omega⟩
    (x (ix2 r ⟨(l.val + 128 - 120) % 128, by omega⟩)) (x (ix2 r ⟨(l.val + 128 - 8) % 128, by omega⟩))
    (fun p => at_ _ _ (by simp only [] at p ⊢; omega)) (fun p q => at_ _ _ (by simp only [] at p q ⊢; omega)))
  rw [← at_ l ⟨l.val % 64, by omega⟩ (by simp only []; omega), ← hc, ← ha, ← hb, ← rolled_at 120 (by omega) x r l ⟨(l.val + 128 - 120) % 128, by omega⟩ rfl,
    ← rolled_at 8 (by omega) x r l ⟨(l.val + 128 - 8) % 128, by omega⟩ rfl]
  rfl

/-! ## Weights, signs, and the lanes of the indexer's key -/

/-- The sizes of a column for the first 64 lanes and of another for the rest, scaled. -/
def weighed (u v : FVec Ideal S256x1 .f32) : FVec Ideal S256x128 .f32 :=
  mulf (select (cmpi .slt (iota .tc S256x128 32 [1] iota_S256x128_d1_w32) (broadcast S256x128 64#32))
    (broadcastTo S256x128 (shapeCast S256x1 (absf u) shapeCasts_S256x1_S256x1) broadcasts_S256x1_S256x128)
    (broadcastTo S256x128 (shapeCast S256x1 (absf v) shapeCasts_S256x1_S256x1) broadcasts_S256x1_S256x128))
    (broadcast S256x128 (Scalar.ofBits .f32 0x3D000000#32))

/-- A choice by the first 64 lanes. -/
theorem below (l : Fin 128) {α : Type} (x y : α) :
    Scalar.select (IntOp.cmpi .slt (BitVec.ofNat 32 l.val) 64#32) x y = if l.val < 64 then x else y := by
  have c : ∀ l : Fin 128, IntOp.cmpi .slt (BitVec.ofNat 32 l.val) 64#32 = if l.val < 64 then 1#1 else 0#1 := by decide +kernel
  rw [c]
  by_cases h : l.val < 64
  · rw [if_pos h, if_pos h]; rfl
  · rw [if_neg h, if_neg h]; rfl

/-- A choice by the last 64 lanes. -/
theorem above (l : Fin 128) {α : Type} (x y : α) :
    Scalar.select (IntOp.cmpi .sge (BitVec.ofNat 32 l.val) 64#32) x y = if l.val < 64 then y else x := by
  have c : ∀ l : Fin 128, IntOp.cmpi .sge (BitVec.ofNat 32 l.val) 64#32 = if l.val < 64 then 0#1 else 1#1 := by decide +kernel
  rw [c]
  by_cases h : l.val < 64
  · rw [if_pos h, if_pos h]; rfl
  · rw [if_neg h, if_neg h]; rfl

theorem weighed_at (u v : FVec Ideal S256x1 .f32) (r : Fin 256) (l : Fin 128) :
    weighed u v (ix2 r l) = (FloatOps.absf (F := Ideal) (φ := .f32) (if l.val < 64 then u (ix2 r 0) else v (ix2 r 0)) : EReal) * Ideal.ofBits .f32 0x3D000000#32 := by
  pointwise [weighed]
  rw [below]
  split_ifs <;> rfl

/-- The signs of the block's lanes, the halves exchanged. -/
theorem signs_at (y : FVec Ideal S256x128 .f32) (r : Fin 256) (l : Fin 128) :
    k0_pay41 (F := Ideal) y (ix2 r l) = Ideal.sign (y (ix2 r ⟨(l.val + 64) % 128, by omega⟩)) := by
  refine Eq.trans (Ideal.jnp_sign_eq_sign_f32 (dynamicRotate 1 64#32 none y rotates_S256x128_d1 (ix2 r l))) ?_
  refine congrArg Ideal.sign (rolled_at 64 (by omega) y r l _ ?_)
  show (l.val + 64) % 128 = (l.val + 128 - 64) % 128
  omega

/-- The key's block in the lanes below 64, nothing above. -/
theorem even_at (c a b y : FVec Ideal S256x128 .f32) (r : Fin 256) (l : Fin 128) :
    k0_pay39 (F := Ideal) c a b y (ix2 r l) = if l.val < 64 then roped 120#32 8#32 y c a b (ix2 r l) else Ideal.ofBits .f32 0x00000000#32 := by
  refine Eq.trans ?_ (below l _ _)
  pointwise [k0_pay39]
  rfl

/-- The key's block moved to the lanes from 64 on, nothing below. -/
theorem odd_at (c a b y : FVec Ideal S256x128 .f32) (r : Fin 256) (l l' : Fin 128) (h : l'.val = (l.val + 64) % 128) :
    k0_pay40 (F := Ideal) c a b y (ix2 r l) = if l.val < 64 then Ideal.ofBits .f32 0x00000000#32
      else roped 120#32 8#32 y c a b (ix2 r l') := by
  rw [← rolled_at 64 (by omega) (roped 120#32 8#32 y c a b) r l l' (by omega)]
  refine Eq.trans ?_ (above l (dynamicRotate 1 64#32 none (roped 120#32 8#32 y c a b) rotates_S256x128_d1 (ix2 r l)) (Ideal.ofBits .f32 0x00000000#32))
  pointwise [k0_pay40]
  rfl

end Cert.PrepIdeal.Value

end
-- ==== Proof.PrepTables.lean ====
/- The preparation's tables, as the host leaves them for the pallas_call, at an index. -/
module

public import proofs.«01_k».proof.Proof.PrepBody
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.PrepIdeal.Value

open Cert.PrepIdeal Cert.PrepIdeal.Gen Cert.Turn
open Cert.XPrepIdeal.Value (wide narrow wideCos wideSin narrowCos narrowSin headAt pairAt keyAt QUERY KEY KEYB VALUE VALUEB INDEX SIGN ALONE EVEN ODD)

variable (m : (ℓ : Loc nD τ sig) → Buf (Elt Ideal) ℓ)

/-! ## The tables on the host -/

theorem V_wideCos (c : Dev nD) : V m c main_v25 = wideTable (Host.cos wide) (Host.cos wide) (broadcastInDim S2048x96 ![] bcast_S_S2048x96 (constant S_ .f32 0x3F800000#32)) := by
  unfold_abbrev_sides
  after_reads_simp
  rfl
theorem V_wideUp (c : Dev nD) : V m c main_v28 = wideTable (Host.negf (Host.sin wide)) (broadcastInDim S2048x16 ![] bcast_S_S2048x16 (constant S_ .f32 0x00000000#32)) (broadcastInDim S2048x96 ![] bcast_S_S2048x96 (constant S_ .f32 0x00000000#32)) := by
  unfold_abbrev_sides
  after_reads_simp
  rfl
theorem V_wideDown (c : Dev nD) : V m c main_v31 = wideTable (broadcastInDim S2048x16 ![] bcast_S_S2048x16 (constant S_ .f32 0x00000000#32)) (Host.sin wide) (broadcastInDim S2048x96 ![] bcast_S_S2048x96 (constant S_ .f32 0x00000000#32)) := by
  unfold_abbrev_sides
  after_reads_simp
  rfl
theorem V_narrowCos (c : Dev nD) : V m c main_v56 = narrowTable (Host.cos narrow) (Host.cos narrow) (broadcastInDim S2048x48 ![] bcast_S_S2048x48 (constant S_ .f32 0x3F800000#32)) := by
  unfold_abbrev_sides
  after_reads_simp
  rfl
theorem V_narrowUp (c : Dev nD) : V m c main_v59 = narrowTable (Host.negf (Host.sin narrow)) (broadcastInDim S2048x8 ![] bcast_S_S2048x8 (constant S_ .f32 0x00000000#32)) (broadcastInDim S2048x48 ![] bcast_S_S2048x48 (constant S_ .f32 0x00000000#32)) := by
  unfold_abbrev_sides
  after_reads_simp
  rfl
theorem V_narrowDown (c : Dev nD) : V m c main_v62 = narrowTable (broadcastInDim S2048x8 ![] bcast_S_S2048x8 (constant S_ .f32 0x00000000#32)) (Host.sin narrow) (broadcastInDim S2048x48 ![] bcast_S_S2048x48 (constant S_ .f32 0x00000000#32)) := by
  unfold_abbrev_sides
  after_reads_simp
  rfl

theorem wideCos_at (c : Dev nD) (t : Fin 2048) (l : Fin 128) :
    (V m c main_v25 : FVec Ideal S2048x128 .f32) (ix2 t l) = cosines 16 32 128 rfl (wideCos t) l := by
  rw [V_wideCos, wideTable_at, cosines, ← f32_one]
  rfl
theorem wideUp_at (c : Dev nD) (t : Fin 2048) (l : Fin 128) :
    (V m c main_v28 : FVec Ideal S2048x128 .f32) (ix2 t l) = sinesUp 16 128 (wideSin t) l := by
  rw [V_wideUp, wideTable_at, sinesUp, ← f32_zero]
  split_ifs <;> rfl
theorem wideDown_at (c : Dev nD) (t : Fin 2048) (l : Fin 128) :
    (V m c main_v31 : FVec Ideal S2048x128 .f32) (ix2 t l) = sinesDown 16 32 128 rfl (wideSin t) l := by
  rw [V_wideDown, wideTable_at, sinesDown, ← f32_zero]
  rfl
theorem narrowCos_at (c : Dev nD) (t : Fin 2048) (l : Fin 128) :
    (V m c main_v56 : FVec Ideal S2048x128 .f32) (ix2 t l) = cosines 8 16 64 rfl (narrowCos t) ⟨l.val % 64, by omega⟩ := by
  rw [V_narrowCos, narrowTable_at, cosines, ← f32_one]
  rfl
theorem narrowUp_at (c : Dev nD) (t : Fin 2048) (l : Fin 128) :
    (V m c main_v59 : FVec Ideal S2048x128 .f32) (ix2 t l) = sinesUp 8 64 (narrowSin t) ⟨l.val % 64, by omega⟩ := by
  rw [V_narrowUp, narrowTable_at, sinesUp, ← f32_zero]
  split_ifs <;> rfl
theorem narrowDown_at (c : Dev nD) (t : Fin 2048) (l : Fin 128) :
    (V m c main_v62 : FVec Ideal S2048x128 .f32) (ix2 t l) = sinesDown 8 16 64 rfl (narrowSin t) ⟨l.val % 64, by omega⟩ := by
  rw [V_narrowDown, narrowTable_at, sinesDown, ← f32_zero]
  rfl

end Cert.PrepIdeal.Value

end
-- ==== Proof.PrepValue.lean ====
/- The preparation: what its pallas_call writes are the reference's turned queries and keys, the values, the weighted indexer
   queries, the signs and the indexer's key. -/
module

public import proofs.«01_k».proof.Proof.PrepTables
public import Idealize.ShloMosaic.Lib.Claim

@[expose] public section

set_option maxHeartbeats 4000000
set_option maxRecDepth 16384

noncomputable section

open Idealize.ShloMosaic Idealize.ShloMosaic.TcCoe Idealize.SL.Sem
open Idealize.ShloMosaic.Pipeline (Dat)

namespace Cert.PrepIdeal.Value

open Cert.PrepIdeal Cert.PrepIdeal.Gen Cert.Turn
open Cert.XPrepIdeal.Value (wide narrow wideCos wideSin narrowCos narrowSin headAt pairAt keyAt QUERY KEY KEYB VALUE VALUEB INDEX SIGN ALONE EVEN ODD)

variable (m : (ℓ : Loc nD τ sig) → Buf (Elt Ideal) ℓ)

/-- Each window's block at a grid point. -/
theorem idx : ∀ t : Fin cfg0.N, win0_0.index t = ![t.val, 0] ∧ win0_1.index t = ![t.val, 1] ∧ win0_2.index t = ![t.val, 2]
    ∧ win0_3.index t = ![t.val, 4] ∧ win0_4.index t = ![t.val, 0] ∧ win0_5.index t = ![t.val % 8, 0] ∧ win0_6.index t = ![t.val % 8, 0]
    ∧ win0_7.index t = ![t.val % 8, 0] ∧ win0_8.index t = ![t.val % 8, 0] ∧ win0_9.index t = ![t.val % 8, 0] ∧ win0_10.index t = ![t.val % 8, 0] :=
  (by decide +kernel : ∀ t : Fin grid0.N, _)

theorem idxOut : ∀ t : Fin cfg0.N, win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0]
    ∧ win0_18.index t = ![t.val, 0] ∧ win0_19.index t = ![t.val, 0] ∧ win0_20.index t = ![t.val, 0] :=
  (by decide +kernel : ∀ t : Fin grid0.N, _)

/-! ## A block of heads -/

/-- A grid point's tables, cast to the shape they have. -/
def cb (x : FVec Ideal S256x128 .f32) : FVec Ideal S256x128 .f32 := k0_pay2 (F := Ideal) (View.ld x r0_0)

theorem cb_at (x : FVec Ideal S256x128 .f32) (r : Fin 256) (l : Fin 128) : cb x (ix2 r l) = x (ix2 r l) := by
  pointwise [cb, k0_pay2]

/-- ONE HEAD: a block of 128 columns turned by the attention's tables is the row's turned head. -/
theorem head (c : Dev nD) (t : Fin cfg0.N) (o : ℕ) (ho : o + 1024 ≤ 8192) (h : Fin 8) (X : FVec Ideal S256x128 .f32) (r : Fin 256) (l : Fin 128) (i : Fin 8192)
    (hi : i.val = t.val * 256 + r.val)
    (hX : ∀ e : Fin 128, X (ix2 r e) = (m ((c : Thread nD τ).loc main_arg0) : FVec Ideal S8192x8192 .f32) (ix2 i ⟨o + (h.val * 128 + e.val), by omega⟩)) :
    roped 112#32 16#32 X (cb (iblk m c 5 t)) (cb (iblk m c 6 t)) (cb (iblk m c 7 t)) (ix2 r l)
      = headAt (m ((c : Thread nD τ).loc main_arg0)) o ho i h l := by
  have ht : t.val < 32 := lt_of_lt_of_eq t.isLt N_0
  refine roped_head X _ _ _ r l _ _ _ hX ?_ ?_ ?_
  · rw [cb_at, ← wideCos_at m c]; blk_ext [iblk, idx t, hi]
  · rw [cb_at, ← wideUp_at m c]; blk_ext [iblk, idx t, hi]
  · rw [cb_at, ← wideDown_at m c]; blk_ext [iblk, idx t, hi]

/-- TWO HEADS of the indexer's: a block of 128 columns turned by its tables. -/
theorem pair (c : Dev nD) (t : Fin cfg0.N) (X : FVec Ideal S256x128 .f32) (r : Fin 256) (l : Fin 128) (i : Fin 8192) (xs : Fin 64 → EReal)
    (hi : i.val = t.val * 256 + r.val)
    (hX : ∀ e : Fin 64, X (ix2 r ⟨l.val / 64 * 64 + e.val, by omega⟩) = xs e) :
    roped 120#32 8#32 X (cb (iblk m c 8 t)) (cb (iblk m c 9 t)) (cb (iblk m c 10 t)) (ix2 r l)
      = turn 8 16 64 rfl (by omega) xs (narrowCos ⟨i.val % 2048, by omega⟩) (narrowSin ⟨i.val % 2048, by omega⟩) ⟨l.val % 64, by omega⟩ := by
  have ht : t.val < 32 := lt_of_lt_of_eq t.isLt N_0
  refine roped_pair X _ _ _ r l _ _ _ hX ?_ ?_ ?_
  · rw [cb_at, ← narrowCos_at m c]; blk_ext [iblk, idx t, hi]
  · rw [cb_at, ← narrowUp_at m c]; blk_ext [iblk, idx t, hi]
  · rw [cb_at, ← narrowDown_at m c]; blk_ext [iblk, idx t, hi]

/-! ## The results -/

/-- A head's row and lane in a 1024-lane output block, as the array's. -/
theorem place (n : ℕ) (h : Fin 8) (j : Fin 128) (e : n = h.val * 128 + j.val) : n / 128 = h.val ∧ n % 128 = j.val ∧ n / 64 = h.val * 2 + j.val / 64 ∧ n % 64 = j.val % 64 := by
  omega

/-- A query head's block is the reference's, at the block's place. -/
theorem queryHead (c : Dev nD) (t : Fin cfg0.N) (y : S256x1024.Idx) (h : Fin 8) (x : S256x128.Idx) (X : FVec Ideal S256x128 .f32)
    (h0 : (y 0 : ℕ) = x 0) (h1 : (y 1 : ℕ) = h.val * 128 + x 1)
    (hX : ∀ (r : Fin 256) (e : Fin 128), X (ix2 r e) = (iblk m c 0 t : FVec Ideal S256x1024 .f32) (ix2 r ⟨h.val * 128 + e.val, by omega⟩)) :
    (truncf .bf16 (mulf (roped 112#32 16#32 X (cb (iblk m c 5 t)) (cb (iblk m c 6 t)) (cb (iblk m c 7 t))) (broadcast S256x128 (Scalar.ofBits .f32 0x3DB504F3#32))) bitsLt_bf16_f32 : FVec Ideal S256x128 .bf16) x
      = QUERY (m ((c : Thread nD τ).loc main_arg0)) (((cfg0.win 11).blk t).view.emb y) := by
  have ht : t.val < 32 := lt_of_lt_of_eq t.isLt N_0
  obtain ⟨r, j, rfl⟩ : ∃ (r : Fin 256) (j : Fin 128), x = ix2 r j := ⟨x 0, x 1, by blk_ext⟩
  have h0' : (y 0 : ℕ) = r.val := h0
  have h1' : (y 1 : ℕ) = h.val * 128 + j.val := h1
  have hemb : ((cfg0.win 11).blk t).view.emb y = (ix2 (⟨t.val * 256 + r.val, by omega⟩ : Fin 8192) (⟨h.val * 128 + j.val, by omega⟩ : Fin 1024) : S8192x1024.Idx) := by
    blk_ext [idxOut t, h0', h1']
  have hp := place _ h j rfl
  rw [hemb, Cert.XPrepIdeal.Value.QUERY_at,
    show (⟨(h.val * 128 + j.val) / 128, by omega⟩ : Fin 8) = h from Fin.ext hp.1, show (⟨(h.val * 128 + j.val) % 128, by omega⟩ : Fin 128) = j from Fin.ext hp.2.1]
  refine congrArg (fun v : EReal => v * Ideal.ofBits .f32 0x3DB504F3#32) (head m c t 0 (by omega) h X r j ⟨t.val * 256 + r.val, by omega⟩ rfl fun e => ?_)
  rw [hX]
  blk_ext [iblk, V, idx t]

/-- A key head's block is the reference's, at the block's place. -/
theorem keyHead (c : Dev nD) (t : Fin cfg0.N) (y : S256x1024.Idx) (h : Fin 8) (x : S256x128.Idx) (X : FVec Ideal S256x128 .f32)
    (h0 : (y 0 : ℕ) = x 0) (h1 : (y 1 : ℕ) = h.val * 128 + x 1)
    (hX : ∀ (r : Fin 256) (e : Fin 128), X (ix2 r e) = (iblk m c 1 t : FVec Ideal S256x1024 .f32) (ix2 r ⟨h.val * 128 + e.val, by omega⟩)) :
    roped 112#32 16#32 X (cb (iblk m c 5 t)) (cb (iblk m c 6 t)) (cb (iblk m c 7 t)) x
      = KEY (m ((c : Thread nD τ).loc main_arg0)) (((cfg0.win 12).blk t).view.emb y) := by
  have ht : t.val < 32 := lt_of_lt_of_eq t.isLt N_0
  obtain ⟨r, j, rfl⟩ : ∃ (r : Fin 256) (j : Fin 128), x = ix2 r j := ⟨x 0, x 1, by blk_ext⟩
  have h0' : (y 0 : ℕ) = r.val := h0
  have h1' : (y 1 : ℕ) = h.val * 128 + j.val := h1
  have hemb : ((cfg0.win 12).blk t).view.emb y = (ix2 (⟨t.val * 256 + r.val, by omega⟩ : Fin 8192) (⟨h.val * 128 + j.val, by omega⟩ : Fin 1024) : S8192x1024.Idx) := by
    blk_ext [idxOut t, h0', h1']
  have hp := place _ h j rfl
  rw [hemb, Cert.XPrepIdeal.Value.KEY_at,
    show (⟨(h.val * 128 + j.val) / 128, by omega⟩ : Fin 8) = h from Fin.ext hp.1, show (⟨(h.val * 128 + j.val) % 128, by omega⟩ : Fin 128) = j from Fin.ext hp.2.1]
  refine head m c t 1024 (by omega) h X r j ⟨t.val * 256 + r.val, by omega⟩ rfl fun e => ?_
  rw [hX]
  blk_ext [iblk, V, idx t]

/-- Two indexer heads' block, weighted, is the reference's, at the block's place. -/
theorem indexPair (c : Dev nD) (t : Fin cfg0.N) (y : S256x1024.Idx) (h : Fin 8) (x : S256x128.Idx) (X : FVec Ideal S256x128 .f32) (u v : FVec Ideal S256x1 .f32)
    (h0 : (y 0 : ℕ) = x 0) (h1 : (y 1 : ℕ) = h.val * 128 + x 1)
    (hX : ∀ (r : Fin 256) (e : Fin 128), X (ix2 r e) = (iblk m c 3 t : FVec Ideal S256x1024 .f32) (ix2 r ⟨h.val * 128 + e.val, by omega⟩))
    (hu : ∀ r : Fin 256, u (ix2 r 0) = (iblk m c 4 t : FVec Ideal S256x128 .f32) (ix2 r ⟨64 + h.val * 2, by omega⟩))
    (hv : ∀ r : Fin 256, v (ix2 r 0) = (iblk m c 4 t : FVec Ideal S256x128 .f32) (ix2 r ⟨65 + h.val * 2, by omega⟩)) :
    (truncf .bf16 (mulf (roped 120#32 8#32 X (cb (iblk m c 8 t)) (cb (iblk m c 9 t)) (cb (iblk m c 10 t))) (weighed u v)) bitsLt_bf16_f32 : FVec Ideal S256x128 .bf16) x
      = INDEX (m ((c : Thread nD τ).loc main_arg0)) (m ((c : Thread nD τ).loc main_arg1)) (((cfg0.win 16).blk t).view.emb y) := by
  have ht : t.val < 32 := lt_of_lt_of_eq t.isLt N_0
  obtain ⟨r, j, rfl⟩ : ∃ (r : Fin 256) (j : Fin 128), x = ix2 r j := ⟨x 0, x 1, by blk_ext⟩
  have h0' : (y 0 : ℕ) = r.val := h0
  have h1' : (y 1 : ℕ) = h.val * 128 + j.val := h1
  have hemb : ((cfg0.win 16).blk t).view.emb y = (ix2 (⟨t.val * 256 + r.val, by omega⟩ : Fin 8192) (⟨h.val * 128 + j.val, by omega⟩ : Fin 1024) : S8192x1024.Idx) := by
    blk_ext [idxOut t, h0', h1']
  have hp := place _ h j rfl
  rw [hemb, Cert.XPrepIdeal.Value.INDEX_at,
    show (⟨(h.val * 128 + j.val) / 64, by omega⟩ : Fin 16) = ⟨h.val * 2 + j.val / 64, by omega⟩ from Fin.ext hp.2.2.1,
    show (⟨(h.val * 128 + j.val) % 64, by omega⟩ : Fin 64) = ⟨j.val % 64, by omega⟩ from Fin.ext hp.2.2.2, Cert.XPrepIdeal.Value.sizes_at]
  refine congrArg₂ (fun a b : EReal => a * b) (pair m c t X r j ⟨t.val * 256 + r.val, by omega⟩ _ rfl fun e => ?_) ((weighed_at u v r j).trans ?_)
  · rw [hX]
    blk_ext [iblk, V, idx t]
  · refine congrArg (fun a : EReal => (FloatOps.absf (F := Ideal) (φ := .f32) a : EReal) * Ideal.ofBits .f32 0x3D000000#32) ?_
    split_ifs with hj
    · rw [hu]
      blk_ext [iblk, V, idx t]
    · rw [hv]
      blk_ext [iblk, V, idx t]

/-- The indexer's key, turned, in the first 64 lanes of its block. -/
theorem keyBlock (c : Dev nD) (t : Fin cfg0.N) (r : Fin 256) (l : Fin 128) (hl : l.val < 64) (i : Fin 8192) (hi : i.val = t.val * 256 + r.val) :
    roped 120#32 8#32 (View.ld (iblk m c 4 t : Vec Ideal S256x128 .f32) r0_0) (cb (iblk m c 8 t)) (cb (iblk m c 9 t)) (cb (iblk m c 10 t)) (ix2 r l)
      = ALONE (m ((c : Thread nD τ).loc main_arg1)) (ix2 i ⟨l.val, hl⟩) := by
  have ht : t.val < 32 := lt_of_lt_of_eq t.isLt N_0
  rw [Cert.XPrepIdeal.Value.ALONE_at, keyAt, show (⟨l.val, hl⟩ : Fin 64) = ⟨l.val % 64, by omega⟩ from Fin.ext (by show l.val = l.val % 64; omega)]
  refine pair m c t _ r l i _ hi fun e => ?_
  refine Eq.trans (b := (iblk m c 4 t : FVec Ideal S256x128 .f32) (ix2 r ⟨l.val / 64 * 64 + e.val, by omega⟩)) (by pointwise) ?_
  blk_ext [iblk, V, idx t, hi]

/-! ## Each output block -/

theorem point_query (c : Dev nD) (t : Fin cfg0.N) (y : S256x1024.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = QUERY (m ((c : Thread nD τ).loc main_arg0)) (((cfg0.win 11).blk t).view.emb y) := by
  canon_tiles x h
  case piece0 => exact queryHead m c t y 7 x _ (by omega) (by omega) (fun r e => by pointwise)
  case piece1 => exact queryHead m c t y 6 x _ (by omega) (by omega) (fun r e => by pointwise)
  case piece2 => exact queryHead m c t y 5 x _ (by omega) (by omega) (fun r e => by pointwise)
  case piece3 => exact queryHead m c t y 4 x _ (by omega) (by omega) (fun r e => by pointwise)
  case piece4 => exact queryHead m c t y 3 x _ (by omega) (by omega) (fun r e => by pointwise)
  case piece5 => exact queryHead m c t y 2 x _ (by omega) (by omega) (fun r e => by pointwise)
  case piece6 => exact queryHead m c t y 1 x _ (by omega) (by omega) (fun r e => by pointwise)
  case piece7 => exact queryHead m c t y 0 x _ (by omega) (by omega) (fun r e => by pointwise)

theorem point_key (c : Dev nD) (t : Fin cfg0.N) (y : S256x1024.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = KEY (m ((c : Thread nD τ).loc main_arg0)) (((cfg0.win 12).blk t).view.emb y) := by
  canon_tiles x h
  case piece0 => exact keyHead m c t y 7 x _ (by omega) (by omega) (fun r e => by pointwise)
  case piece1 => exact keyHead m c t y 6 x _ (by omega) (by omega) (fun r e => by pointwise)
  case piece2 => exact keyHead m c t y 5 x _ (by omega) (by omega) (fun r e => by pointwise)
  case piece3 => exact keyHead m c t y 4 x _ (by omega) (by omega) (fun r e => by pointwise)
  case piece4 => exact keyHead m c t y 3 x _ (by omega) (by omega) (fun r e => by pointwise)
  case piece5 => exact keyHead m c t y 2 x _ (by omega) (by omega) (fun r e => by pointwise)
  case piece6 => exact keyHead m c t y 1 x _ (by omega) (by omega) (fun r e => by pointwise)
  case piece7 => exact keyHead m c t y 0 x _ (by omega) (by omega) (fun r e => by pointwise)

theorem point_keyb (c : Dev nD) (t : Fin cfg0.N) (y : S256x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = KEYB (m ((c : Thread nD τ).loc main_arg0)) (((cfg0.win 13).blk t).view.emb y) := by
  have e : ((cfg0.win 13).blk t).view.emb y = (((cfg0.win 12).blk t).view.emb y : S8192x1024.Idx) := by
    blk_ext [idxOut t]
  rw [e]
  canon_tiles x h
  case piece0 => exact keyHead m c t y 7 x _ (by omega) (by omega) (fun r e => by pointwise)
  case piece1 => exact keyHead m c t y 6 x _ (by omega) (by omega) (fun r e => by pointwise)
  case piece2 => exact keyHead m c t y 5 x _ (by omega) (by omega) (fun r e => by pointwise)
  case piece3 => exact keyHead m c t y 4 x _ (by omega) (by omega) (fun r e => by pointwise)
  case piece4 => exact keyHead m c t y 3 x _ (by omega) (by omega) (fun r e => by pointwise)
  case piece5 => exact keyHead m c t y 2 x _ (by omega) (by omega) (fun r e => by pointwise)
  case piece6 => exact keyHead m c t y 1 x _ (by omega) (by omega) (fun r e => by pointwise)
  case piece7 => exact keyHead m c t y 0 x _ (by omega) (by omega) (fun r e => by pointwise)

theorem point_index (c : Dev nD) (t : Fin cfg0.N) (y : S256x1024.Idx) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = INDEX (m ((c : Thread nD τ).loc main_arg0)) (m ((c : Thread nD τ).loc main_arg1)) (((cfg0.win 16).blk t).view.emb y) := by
  canon_tiles x h
  case piece0 => exact indexPair m c t y 7 x _ _ _ (by omega) (by omega) (fun r e => by pointwise) (fun r => by pointwise) (fun r => by pointwise)
  case piece1 => exact indexPair m c t y 6 x _ _ _ (by omega) (by omega) (fun r e => by pointwise) (fun r => by pointwise) (fun r => by pointwise)
  case piece2 => exact indexPair m c t y 5 x _ _ _ (by omega) (by omega) (fun r e => by pointwise) (fun r => by pointwise) (fun r => by pointwise)
  case piece3 => exact indexPair m c t y 4 x _ _ _ (by omega) (by omega) (fun r e => by pointwise) (fun r => by pointwise) (fun r => by pointwise)
  case piece4 => exact indexPair m c t y 3 x _ _ _ (by omega) (by omega) (fun r e => by pointwise) (fun r => by pointwise) (fun r => by pointwise)
  case piece5 => exact indexPair m c t y 2 x _ _ _ (by omega) (by omega) (fun r e => by pointwise) (fun r => by pointwise) (fun r => by pointwise)
  case piece6 => exact indexPair m c t y 1 x _ _ _ (by omega) (by omega) (fun r e => by pointwise) (fun r => by pointwise) (fun r => by pointwise)
  case piece7 => exact indexPair m c t y 0 x _ _ _ (by omega) (by omega) (fun r e => by pointwise) (fun r => by pointwise) (fun r => by pointwise)

theorem point_value (c : Dev nD) (t : Fin cfg0.N) (y : S256x1024.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = VALUE (m ((c : Thread nD τ).loc main_arg0)) (((cfg0.win 14).blk t).view.emb y) := by
  have ht : t.val < 32 := lt_of_lt_of_eq t.isLt N_0
  have y0 : (y 0 : ℕ) < 256 := (y 0).isLt
  have y1 : (y 1 : ℕ) < 1024 := (y 1).isLt
  have hemb : ((cfg0.win 14).blk t).view.emb y = (ix2 (⟨t.val * 256 + (y 0 : ℕ), by omega⟩ : Fin 8192) (⟨(y 1 : ℕ), y1⟩ : Fin 1024) : S8192x1024.Idx) := by
    blk_ext [idxOut t]
  rw [hemb]
  refine Eq.trans ?_ (Cert.XPrepIdeal.Value.VALUE_at _ _ _).symm
  canon_tiles x h
  case piece0 =>
    refine Eq.trans (b := (iblk m c 2 t : FVec Ideal S256x1024 .f32) x) (by pointwise) ?_
    blk_ext [iblk, V, idx t]

theorem point_valueb (c : Dev nD) (t : Fin cfg0.N) (y : S256x1024.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = VALUEB (m ((c : Thread nD τ).loc main_arg0)) (((cfg0.win 15).blk t).view.emb y) := by
  have ht : t.val < 32 := lt_of_lt_of_eq t.isLt N_0
  have y0 : (y 0 : ℕ) < 256 := (y 0).isLt
  have y1 : (y 1 : ℕ) < 1024 := (y 1).isLt
  have hemb : ((cfg0.win 15).blk t).view.emb y = (ix2 (⟨t.val * 256 + (y 0 : ℕ), by omega⟩ : Fin 8192) (⟨(y 1 : ℕ), y1⟩ : Fin 1024) : S8192x1024.Idx) := by
    blk_ext [idxOut t]
  rw [hemb]
  refine Eq.trans ?_ (Cert.XPrepIdeal.Value.VALUE_at _ _ _).symm
  canon_tiles x h
  case piece0 =>
    refine Eq.trans (b := (iblk m c 2 t : FVec Ideal S256x1024 .f32) x) (by pointwise [k0_pay36]) ?_
    blk_ext [iblk, V, idx t]

theorem point_sign (c : Dev nD) (t : Fin cfg0.N) (y : S256x128.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = SIGN (m ((c : Thread nD τ).loc main_arg1)) (((cfg0.win 17).blk t).view.emb y) := by
  have ht : t.val < 32 := lt_of_lt_of_eq t.isLt N_0
  canon_tiles x h
  case piece0 =>
    obtain ⟨r, l, rfl⟩ : ∃ (r : Fin 256) (l : Fin 128), x = ix2 r l := ⟨x 0, x 1, by blk_ext⟩
    have h0' : (y 0 : ℕ) = r.val := by have := h0; exact this
    have h1' : (y 1 : ℕ) = l.val := by have := h1; exact this
    have hemb : ((cfg0.win 17).blk t).view.emb y = (ix2 (⟨t.val * 256 + r.val, by omega⟩ : Fin 8192) l : S8192x128.Idx) := by
      blk_ext [idxOut t, h0', h1']
    rw [hemb, Cert.XPrepIdeal.Value.SIGN_at]
    refine (signs_at _ r l).trans (congrArg Ideal.sign ?_)
    refine Eq.trans (b := (iblk m c 4 t : FVec Ideal S256x128 .f32) (ix2 r ⟨(l.val + 64) % 128, by omega⟩)) (by pointwise) ?_
    blk_ext [iblk, V, idx t]

theorem point_even (c : Dev nD) (t : Fin cfg0.N) (y : S256x128.Idx) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = EVEN (m ((c : Thread nD τ).loc main_arg1)) (((cfg0.win 19).blk t).view.emb y) := by
  have ht : t.val < 32 := lt_of_lt_of_eq t.isLt N_0
  canon_tiles x h
  case piece0 =>
    obtain ⟨r, l, rfl⟩ : ∃ (r : Fin 256) (l : Fin 128), x = ix2 r l := ⟨x 0, x 1, by blk_ext⟩
    have h0' : (y 0 : ℕ) = r.val := by have := h0; exact this
    have h1' : (y 1 : ℕ) = l.val := by have := h1; exact this
    have hemb : ((cfg0.win 19).blk t).view.emb y = (ix2 (⟨t.val * 256 + r.val, by omega⟩ : Fin 8192) l : S8192x128.Idx) := by
      blk_ext [idxOut t, h0', h1']
    rw [hemb, Cert.XPrepIdeal.Value.EVEN_at]
    refine (even_at _ _ _ _ r l).trans ?_
    split_ifs with hl
    · exact keyBlock m c t r l hl ⟨t.val * 256 + r.val, by omega⟩ rfl
    · rw [f32_zero, bf16_zero]

theorem point_odd (c : Dev nD) (t : Fin cfg0.N) (y : S256x128.Idx) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = ODD (m ((c : Thread nD τ).loc main_arg1)) (((cfg0.win 20).blk t).view.emb y) := by
  have ht : t.val < 32 := lt_of_lt_of_eq t.isLt N_0
  canon_tiles x h
  case piece0 =>
    obtain ⟨r, l, rfl⟩ : ∃ (r : Fin 256) (l : Fin 128), x = ix2 r l := ⟨x 0, x 1, by blk_ext⟩
    have h0' : (y 0 : ℕ) = r.val := by have := h0; exact this
    have h1' : (y 1 : ℕ) = l.val := by have := h1; exact this
    have hemb : ((cfg0.win 20).blk t).view.emb y = (ix2 (⟨t.val * 256 + r.val, by omega⟩ : Fin 8192) l : S8192x128.Idx) := by
      blk_ext [idxOut t, h0', h1']
    rw [hemb, Cert.XPrepIdeal.Value.ODD_at]
    refine (odd_at _ _ _ _ r l ⟨(l.val + 64) % 128, by omega⟩ rfl).trans ?_
    split_ifs with hl
    · rw [f32_zero, bf16_zero]
    · have hl' : (l.val + 64) % 128 < 64 := by omega
      refine (keyBlock m c t r ⟨(l.val + 64) % 128, by omega⟩ hl' ⟨t.val * 256 + r.val, by omega⟩ rfl).trans ?_
      exact congrArg (fun k => ALONE (m ((c : Thread nD τ).loc main_arg1)) (ix2 ⟨t.val * 256 + r.val, by omega⟩ k)) (Fin.ext (by show (l.val + 64) % 128 = l.val - 64; omega))

theorem point_alone (c : Dev nD) (t : Fin cfg0.N) (y : S256x64.Idx) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = ALONE (m ((c : Thread nD τ).loc main_arg1)) (((cfg0.win 18).blk t).view.emb y) := by
  have ht : t.val < 32 := lt_of_lt_of_eq t.isLt N_0
  canon_tiles x h
  case piece0 =>
    obtain ⟨r, l, rfl⟩ : ∃ (r : Fin 256) (l : Fin 64), x = ix2 r l := ⟨x 0, x 1, by blk_ext⟩
    have h0' : (y 0 : ℕ) = r.val := by have := h0; exact this
    have h1' : (y 1 : ℕ) = l.val := by have := h1; exact this
    have hemb : ((cfg0.win 18).blk t).view.emb y = (ix2 (⟨t.val * 256 + r.val, by omega⟩ : Fin 8192) l : S8192x64.Idx) := by
      blk_ext [idxOut t, h0', h1']
    rw [hemb]
    refine Eq.trans ?_ (keyBlock m c t r ⟨l.val, by omega⟩ l.isLt ⟨t.val * 256 + r.val, by omega⟩ rfl)
    refine Eq.trans (b := roped 120#32 8#32 (View.ld (iblk m c 4 t : Vec Ideal S256x128 .f32) r0_0) (cb (iblk m c 8 t)) (cb (iblk m c 9 t)) (cb (iblk m c 10 t)) (ix2 r ⟨l.val, by omega⟩)) ?_ rfl
    pointwise [k0_pay38]
    rfl

/-! ## The arrays after the run -/

theorem final_query (c : Dev nD) : (dats m 0 c).arrAt 11 (cfgs 0).N = QUERY (m ((c : Thread nD τ).loc main_arg0)) := by
  refine (dats m 0 c).arrAt_eq_of_covers 11 _ (by decide +kernel) fun t _ y => ?_
  blk_simp
  rw [after0_11]
  exact point_query m c t y

theorem final_key (c : Dev nD) : (dats m 0 c).arrAt 12 (cfgs 0).N = KEY (m ((c : Thread nD τ).loc main_arg0)) := by
  refine (dats m 0 c).arrAt_eq_of_covers 12 _ (by decide +kernel) fun t _ y => ?_
  blk_simp
  rw [after0_12]
  exact point_key m c t y

theorem final_keyb (c : Dev nD) : (dats m 0 c).arrAt 13 (cfgs 0).N = KEYB (m ((c : Thread nD τ).loc main_arg0)) := by
  refine (dats m 0 c).arrAt_eq_of_covers 13 _ (by decide +kernel) fun t _ y => ?_
  blk_simp
  rw [after0_13]
  exact point_keyb m c t y

theorem final_value (c : Dev nD) : (dats m 0 c).arrAt 14 (cfgs 0).N = VALUE (m ((c : Thread nD τ).loc main_arg0)) := by
  refine (dats m 0 c).arrAt_eq_of_covers 14 _ (by decide +kernel) fun t _ y => ?_
  blk_simp
  rw [after0_14]
  exact point_value m c t y

theorem final_valueb (c : Dev nD) : (dats m 0 c).arrAt 15 (cfgs 0).N = VALUEB (m ((c : Thread nD τ).loc main_arg0)) := by
  refine (dats m 0 c).arrAt_eq_of_covers 15 _ (by decide +kernel) fun t _ y => ?_
  blk_simp
  rw [after0_15]
  exact point_valueb m c t y

theorem final_index (c : Dev nD) : (dats m 0 c).arrAt 16 (cfgs 0).N = INDEX (m ((c : Thread nD τ).loc main_arg0)) (m ((c : Thread nD τ).loc main_arg1)) := by
  refine (dats m 0 c).arrAt_eq_of_covers 16 _ (by decide +kernel) fun t _ y => ?_
  blk_simp
  rw [after0_16]
  exact point_index m c t y

theorem final_sign (c : Dev nD) : (dats m 0 c).arrAt 17 (cfgs 0).N = SIGN (m ((c : Thread nD τ).loc main_arg1)) := by
  refine (dats m 0 c).arrAt_eq_of_covers 17 _ (by decide +kernel) fun t _ y => ?_
  blk_simp
  rw [after0_17]
  exact point_sign m c t y

theorem final_alone (c : Dev nD) : (dats m 0 c).arrAt 18 (cfgs 0).N = ALONE (m ((c : Thread nD τ).loc main_arg1)) := by
  refine (dats m 0 c).arrAt_eq_of_covers 18 _ (by decide +kernel) fun t _ y => ?_
  blk_simp
  rw [after0_18]
  exact point_alone m c t y

theorem final_even (c : Dev nD) : (dats m 0 c).arrAt 19 (cfgs 0).N = EVEN (m ((c : Thread nD τ).loc main_arg1)) := by
  refine (dats m 0 c).arrAt_eq_of_covers 19 _ (by decide +kernel) fun t _ y => ?_
  blk_simp
  rw [after0_19]
  exact point_even m c t y

theorem final_odd (c : Dev nD) : (dats m 0 c).arrAt 20 (cfgs 0).N = ODD (m ((c : Thread nD τ).loc main_arg1)) := by
  refine (dats m 0 c).arrAt_eq_of_covers 20 _ (by decide +kernel) fun t _ y => ?_
  blk_simp
  rw [after0_20]
  exact point_odd m c t y

end Cert.PrepIdeal.Value

end
-- ==== Proof.PrepClaim.lean ====
/- The preparation's value claim: both idealized programs end with the same arrays. -/
module

public import proofs.«01_k».proof.Defs
public import proofs.«01_k».proof.Proof.PrepValue

@[expose] public section

set_option maxRecDepth 16384
set_option maxHeartbeats 4000000

noncomputable section

namespace Cert.Proof

open Idealize.ShloMosaic Idealize.SL.Sem

/-- The preparation's pallas_call computes the turned queries and keys, the values, the indexer's weighted queries and their signs, and
    the indexer's key. -/
theorem prepared : Cert.algebraic_PrepIdeal_XPrepIdeal := by
  intro m g m' g' hpre hagree
  refine ⟨fun c => (Cert.PrepIdeal.Gen.dats m 0 c).arrAt 11 (Cert.PrepIdeal.cfgs 0).N,
    fun c => (Cert.PrepIdeal.Gen.dats m 0 c).arrAt 12 (Cert.PrepIdeal.cfgs 0).N,
    fun c => (Cert.PrepIdeal.Gen.dats m 0 c).arrAt 13 (Cert.PrepIdeal.cfgs 0).N,
    fun c => (Cert.PrepIdeal.Gen.dats m 0 c).arrAt 14 (Cert.PrepIdeal.cfgs 0).N,
    fun c => (Cert.PrepIdeal.Gen.dats m 0 c).arrAt 15 (Cert.PrepIdeal.cfgs 0).N,
    fun c => (Cert.PrepIdeal.Gen.dats m 0 c).arrAt 16 (Cert.PrepIdeal.cfgs 0).N,
    fun c => (Cert.PrepIdeal.Gen.dats m 0 c).arrAt 17 (Cert.PrepIdeal.cfgs 0).N,
    fun c => (Cert.PrepIdeal.Gen.dats m 0 c).arrAt 18 (Cert.PrepIdeal.cfgs 0).N,
    fun c => (Cert.PrepIdeal.Gen.dats m 0 c).arrAt 19 (Cert.PrepIdeal.cfgs 0).N,
    fun c => (Cert.PrepIdeal.Gen.dats m 0 c).arrAt 20 (Cert.PrepIdeal.cfgs 0).N, ?_, ?_⟩
  · run_from Cert.PrepIdeal.Gen.run_main m g
    exacts [hc.1 16, hc.1 17, hc.1 18, hc.1 19, hc.1 20]
  · refine (θ_run Cert.XPrepIdeal.defs _ _).mono (fun r h => ?_) (Cert.XPrepIdeal.Value.run (F := Ideal) _ _)
    intro c
    obtain ⟨e0, e1⟩ := hagree c
    have index := congrArg₂ Cert.XPrepIdeal.Value.INDEX e0 e1
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩
    · exact Eq.trans (congrArg Cert.XPrepIdeal.Value.QUERY e0) (Cert.PrepIdeal.Value.final_query m c).symm
    · exact Eq.trans (congrArg Cert.XPrepIdeal.Value.KEY e0) (Cert.PrepIdeal.Value.final_key m c).symm
    · exact Eq.trans (congrArg Cert.XPrepIdeal.Value.KEYB e0) (Cert.PrepIdeal.Value.final_keyb m c).symm
    · exact Eq.trans (congrArg Cert.XPrepIdeal.Value.VALUE e0) (Cert.PrepIdeal.Value.final_value m c).symm
    · exact Eq.trans (congrArg Cert.XPrepIdeal.Value.VALUEB e0) (Cert.PrepIdeal.Value.final_valueb m c).symm
    · exact Eq.trans index (Cert.PrepIdeal.Value.final_index m c).symm
    · exact Eq.trans (congrArg Cert.XPrepIdeal.Value.SIGN e1) (Cert.PrepIdeal.Value.final_sign m c).symm
    · exact Eq.trans (congrArg Cert.XPrepIdeal.Value.ALONE e1) (Cert.PrepIdeal.Value.final_alone m c).symm
    · exact Eq.trans (congrArg Cert.XPrepIdeal.Value.EVEN e1) (Cert.PrepIdeal.Value.final_even m c).symm
    · exact Eq.trans (congrArg Cert.XPrepIdeal.Value.ODD e1) (Cert.PrepIdeal.Value.final_odd m c).symm

end Cert.Proof

end
-- ==== Proof.ProjBits.lean ====
/- The projection's program and its idealization run the same code: no operation was rewritten. So the frame proved of
   the idealization's text, at any floats, is the frame of the program itself. -/
module

public import proofs.«01_k».proof.Proof.ProjRun
public import proofs.«01_k».proof.Proof.Gen.Proj
public import proofs.«01_k».proof.Defs

@[expose] public section

namespace Cert.Proj.Body

open Idealize.ShloMosaic

/-- The two kernel bodies are one program. -/
theorem body_same : @Cert.Proj.cc0_in_proj Bits _ _ = @Cert.ProjIdeal.cc0_in_proj Bits _ _ := rfl

/-- So are the tables that call them. -/
theorem table_same : Cert.Proj.defs₀ (F := Bits) = Cert.ProjIdeal.defs₀ (F := Bits) := by
  unfold Cert.Proj.defs₀ Cert.ProjIdeal.defs₀
  congr 1
  funext l a
  match l, a with
  | 0, (t, s) => exact rfl
  | ⟨_ + 1, h⟩, _ => exact absurd h (Nat.not_lt.2 (Nat.le_add_left _ _))

theorem defs_same : Cert.Proj.defs (F := Bits) = Cert.ProjIdeal.defs (F := Bits) := by
  unfold Cert.Proj.defs Cert.ProjIdeal.defs
  exact congrArg (Pipeline.defs (Cert.ProjIdeal.pcfgs (F := Bits))) table_same

/-- And the host programs. -/
theorem main_same : Cert.Proj.main (F := Bits) = Cert.ProjIdeal.main (F := Bits) := rfl

/-- The frame of the program over its own floats. -/
theorem frame : Cert.quiescent_Proj := fun m g _ => by
  have h := Cert.ProjIdeal.Body.unchanged (F := Bits) m g
  rw [← defs_same, ← main_same] at h
  exact h

end Cert.Proj.Body
-- ==== Proof.lean ====
/- The certificate: the frames of every program, and the value claims of the modules beside this one. -/
module

public import proofs.«01_k».proof.Defs
public import proofs.«01_k».proof.Proof.MemClaim
public import proofs.«01_k».proof.Proof.ProjClaim
public import proofs.«01_k».proof.Proof.KvClaim
public import proofs.«01_k».proof.Proof.MergeClaim
public import proofs.«01_k».proof.Proof.HgrnClaim
public import proofs.«01_k».proof.Proof.PrepClaim
public import proofs.«01_k».proof.Proof.Gen.Mem.Frame
public import proofs.«01_k».proof.Proof.Gen.MemIdeal.Frame
public import proofs.«01_k».proof.Proof.Gen.XMemIdeal.Run
public import proofs.«01_k».proof.Proof.ProjBits
public import proofs.«01_k».proof.Proof.ProjRun
public import proofs.«01_k».proof.Proof.Gen.XProjIdeal.Run
public import proofs.«01_k».proof.Proof.Gen.Kv.Frame
public import proofs.«01_k».proof.Proof.Gen.KvIdeal.Frame
public import proofs.«01_k».proof.Proof.Gen.XKvIdeal.Run
public import proofs.«01_k».proof.Proof.Gen.Merge.Frame
public import proofs.«01_k».proof.Proof.Gen.MergeIdeal.Frame
public import proofs.«01_k».proof.Proof.Gen.XMergeIdeal.Run
public import proofs.«01_k».proof.Proof.Gen.Hgrn.Frame
public import proofs.«01_k».proof.Proof.Gen.HgrnIdeal.Frame
public import proofs.«01_k».proof.Proof.Gen.XHgrnIdeal.Run
public import proofs.«01_k».proof.Proof.Gen.Prep.Frame
public import proofs.«01_k».proof.Proof.Gen.PrepIdeal.Frame
public import proofs.«01_k».proof.Proof.Gen.XPrepIdeal.Run

@[expose] public section

set_option maxRecDepth 16384

noncomputable section

namespace Cert.Proof

open Idealize.ShloMosaic Idealize.SL.Sem

/-- Mem runs to the end and leaves its arguments as they were. -/
theorem quiescent_Mem_holds : Cert.quiescent_Mem := fun m g _ => Cert.Mem.Gen.frame m g

/-- MemIdeal runs to the end and leaves its arguments as they were. -/
theorem quiescent_MemIdeal_holds : Cert.quiescent_MemIdeal := fun m g _ => Cert.MemIdeal.Gen.frame m g

/-- MemIdeal runs to the end and leaves its arguments as they were. -/
theorem quiescent_MemIdeal_pre_recall_finite_holds : Cert.quiescent_MemIdeal_pre_recall_finite := fun m g _ => Cert.MemIdeal.Gen.frame m g

/-- XMemIdeal runs to the end and leaves its arguments as they were. -/
theorem quiescent_XMemIdeal_holds : Cert.quiescent_XMemIdeal := fun m g _ =>
  (θ_run Cert.XMemIdeal.defs _ _).mono (fun r h => ⟨fun c => (h c).2, sem_eq_zero_of_no_sems (by decide) r.2⟩)
    (Cert.XMemIdeal.Value.run (F := Ideal) m g)

/-- XMemIdeal runs to the end and leaves its arguments as they were. -/
theorem quiescent_XMemIdeal_pre_recall_finite_holds : Cert.quiescent_XMemIdeal_pre_recall_finite := fun m g _ =>
  (θ_run Cert.XMemIdeal.defs _ _).mono (fun r h => ⟨fun c => (h c).2, sem_eq_zero_of_no_sems (by decide) r.2⟩)
    (Cert.XMemIdeal.Value.run (F := Ideal) m g)

/-- Proj runs to the end and leaves its arguments as they were. -/
theorem quiescent_Proj_holds : Cert.quiescent_Proj := Cert.Proj.Body.frame

/-- ProjIdeal runs to the end and leaves its arguments as they were. -/
theorem quiescent_ProjIdeal_holds : Cert.quiescent_ProjIdeal := fun m g _ => Cert.ProjIdeal.Body.unchanged m g

/-- XProjIdeal runs to the end and leaves its arguments as they were. -/
theorem quiescent_XProjIdeal_holds : Cert.quiescent_XProjIdeal := fun m g _ =>
  (θ_run Cert.XProjIdeal.defs _ _).mono (fun r h => ⟨fun c => (h c).2.2, sem_eq_zero_of_no_sems (by decide) r.2⟩)
    (Cert.XProjIdeal.Value.run (F := Ideal) m g)

/-- Kv runs to the end and leaves its arguments as they were. -/
theorem quiescent_Kv_holds : Cert.quiescent_Kv := fun m g _ => Cert.Kv.Gen.frame m g

/-- KvIdeal runs to the end and leaves its arguments as they were. -/
theorem quiescent_KvIdeal_holds : Cert.quiescent_KvIdeal := fun m g _ => Cert.KvIdeal.Gen.frame m g

/-- XKvIdeal runs to the end and leaves its arguments as they were. -/
theorem quiescent_XKvIdeal_holds : Cert.quiescent_XKvIdeal := fun m g _ =>
  (θ_run Cert.XKvIdeal.defs _ _).mono (fun r h => ⟨fun c => (h c).2, sem_eq_zero_of_no_sems (by decide) r.2⟩)
    (Cert.XKvIdeal.Value.run (F := Ideal) m g)

/-- Merge runs to the end and leaves its arguments as they were. -/
theorem quiescent_Merge_holds : Cert.quiescent_Merge := fun m g _ => Cert.Merge.Gen.frame m g

/-- MergeIdeal runs to the end and leaves its arguments as they were. -/
theorem quiescent_MergeIdeal_holds : Cert.quiescent_MergeIdeal := fun m g _ => Cert.MergeIdeal.Gen.frame m g

/-- XMergeIdeal runs to the end and leaves its arguments as they were. -/
theorem quiescent_XMergeIdeal_holds : Cert.quiescent_XMergeIdeal := fun m g _ =>
  (θ_run Cert.XMergeIdeal.defs _ _).mono (fun r h => ⟨fun c => (h c).2, sem_eq_zero_of_no_sems (by decide) r.2⟩)
    (Cert.XMergeIdeal.Value.run (F := Ideal) m g)

/-- Hgrn runs to the end and leaves its arguments as they were. -/
theorem quiescent_Hgrn_holds : Cert.quiescent_Hgrn := fun m g _ => Cert.Hgrn.Gen.frame m g

/-- HgrnIdeal runs to the end and leaves its arguments as they were. -/
theorem quiescent_HgrnIdeal_holds : Cert.quiescent_HgrnIdeal := fun m g _ => Cert.HgrnIdeal.Gen.frame m g

/-- XHgrnIdeal runs to the end and leaves its arguments as they were. -/
theorem quiescent_XHgrnIdeal_holds : Cert.quiescent_XHgrnIdeal := fun m g _ =>
  (θ_run Cert.XHgrnIdeal.defs _ _).mono (fun r h => ⟨fun c => (h c).2.2, sem_eq_zero_of_no_sems (by decide) r.2⟩)
    (Cert.XHgrnIdeal.Value.run (F := Ideal) m g)

/-- Prep runs to the end and leaves its arguments as they were. -/
theorem quiescent_Prep_holds : Cert.quiescent_Prep := fun m g _ => Cert.Prep.Gen.frame m g

/-- PrepIdeal runs to the end and leaves its arguments as they were. -/
theorem quiescent_PrepIdeal_holds : Cert.quiescent_PrepIdeal := fun m g _ => Cert.PrepIdeal.Gen.frame m g

/-- XPrepIdeal runs to the end and leaves its arguments as they were. -/
theorem quiescent_XPrepIdeal_holds : Cert.quiescent_XPrepIdeal := fun m g _ =>
  (θ_run Cert.XPrepIdeal.defs _ _).mono (fun r h => ⟨fun c => (h c).2.2.2.2.2.2.2.2.2.2, sem_eq_zero_of_no_sems (by decide) r.2⟩)
    (Cert.XPrepIdeal.Value.run (F := Ideal) m g)

theorem claim : Cert.Claim :=
  ⟨Cert.Mem.Gen.facts, Cert.MemIdeal.Gen.facts, Cert.XMemIdeal.Gen.facts, Cert.Proj.Gen.facts, Cert.ProjIdeal.Gen.facts, Cert.XProjIdeal.Gen.facts, Cert.Kv.Gen.facts, Cert.KvIdeal.Gen.facts, Cert.XKvIdeal.Gen.facts, Cert.Merge.Gen.facts, Cert.MergeIdeal.Gen.facts, Cert.XMergeIdeal.Gen.facts, Cert.Hgrn.Gen.facts, Cert.HgrnIdeal.Gen.facts, Cert.XHgrnIdeal.Gen.facts, Cert.Prep.Gen.facts, Cert.PrepIdeal.Gen.facts, Cert.XPrepIdeal.Gen.facts, finite_facts,
   quiescent_Mem_holds,
   quiescent_MemIdeal_holds,
   quiescent_MemIdeal_pre_recall_finite_holds,
   quiescent_XMemIdeal_holds,
   quiescent_XMemIdeal_pre_recall_finite_holds,
   quiescent_Proj_holds,
   quiescent_ProjIdeal_holds,
   quiescent_XProjIdeal_holds,
   quiescent_Kv_holds,
   quiescent_KvIdeal_holds,
   quiescent_XKvIdeal_holds,
   quiescent_Merge_holds,
   quiescent_MergeIdeal_holds,
   quiescent_XMergeIdeal_holds,
   quiescent_Hgrn_holds,
   quiescent_HgrnIdeal_holds,
   quiescent_XHgrnIdeal_holds,
   quiescent_Prep_holds,
   quiescent_PrepIdeal_holds,
   quiescent_XPrepIdeal_holds,
   trivial,
   recall,
   trivial,
   projection,
   trivial,
   memory,
   trivial,
   merged,
   trivial,
   recurrence,
   IdealRules.sign_bit.statement Cert.PrepIdeal.S256x128 .f32,
   prepared⟩

end Cert.Proof

end
